-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v51)) (v2 : (c : Dev Cert.KernelIdeal.nD) → Buf (Elt Ideal) ((c.tc : Thread Cert.KernelIdeal.nD Cert.KernelIdeal.τ).loc Cert.KernelIdeal.main_v60)) (v3 : (c : Dev Cert.KernelIdeal.nD) → Buf (Elt Ideal) ((c.tc : Thread Cert.KernelIdeal.nD Cert.KernelIdeal.τ).loc Cert.KernelIdeal.main_v69)) (v4 : (c : Dev Cert.KernelIdeal.nD) → Buf (Elt Ideal) ((c.tc : Thread Cert.KernelIdeal.nD Cert.KernelIdeal.τ).loc Cert.KernelIdeal.main_v78)) (v5 : (c : Dev Cert.KernelIdeal.nD) → Buf (Elt Ideal) ((c.tc : Thread Cert.KernelIdeal.nD Cert.KernelIdeal.τ).loc Cert.KernelIdeal.main_v87)) (v6 : (c : Dev Cert.KernelIdeal.nD) → Buf (Elt Ideal) ((c.tc : Thread Cert.KernelIdeal.nD Cert.KernelIdeal.τ).loc Cert.KernelIdeal.main_v96)) (v7 : (c : Dev Cert.KernelIdeal.nD) → Buf (Elt Ideal) ((c.tc : Thread Cert.KernelIdeal.nD Cert.KernelIdeal.τ).loc Cert.KernelIdeal.main_v54)) (v8 : (c : Dev Cert.KernelIdeal.nD) → Buf (Elt Ideal) ((c.tc : Thread Cert.KernelIdeal.nD Cert.KernelIdeal.τ).loc Cert.KernelIdeal.main_v63)) (v9 : (c : Dev Cert.KernelIdeal.nD) → Buf (Elt Ideal) ((c.tc : Thread Cert.KernelIdeal.nD Cert.KernelIdeal.τ).loc Cert.KernelIdeal.main_v72)) (v10 : (c : Dev Cert.KernelIdeal.nD) → Buf (Elt Ideal) ((c.tc : Thread Cert.KernelIdeal.nD Cert.KernelIdeal.τ).loc Cert.KernelIdeal.main_v81)) (v11 : (c : Dev Cert.KernelIdeal.nD) → Buf (Elt Ideal) ((c.tc : Thread Cert.KernelIdeal.nD Cert.KernelIdeal.τ).loc Cert.KernelIdeal.main_v90)) (v12 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_v69) = v3 c
          ∧ r.2.mem ((c.tc : Thread Cert.KernelIdeal.nD Cert.KernelIdeal.τ).loc Cert.KernelIdeal.main_v78) = v4 c
          ∧ r.2.mem ((c.tc : Thread Cert.KernelIdeal.nD Cert.KernelIdeal.τ).loc Cert.KernelIdeal.main_v87) = v5 c
          ∧ r.2.mem ((c.tc : Thread Cert.KernelIdeal.nD Cert.KernelIdeal.τ).loc Cert.KernelIdeal.main_v96) = v6 c
          ∧ r.2.mem ((c.tc : Thread Cert.KernelIdeal.nD Cert.KernelIdeal.τ).loc Cert.KernelIdeal.main_v54) = v7 c
          ∧ r.2.mem ((c.tc : Thread Cert.KernelIdeal.nD Cert.KernelIdeal.τ).loc Cert.KernelIdeal.main_v63) = v8 c
          ∧ r.2.mem ((c.tc : Thread Cert.KernelIdeal.nD Cert.KernelIdeal.τ).loc Cert.KernelIdeal.main_v72) = v9 c
          ∧ r.2.mem ((c.tc : Thread Cert.KernelIdeal.nD Cert.KernelIdeal.τ).loc Cert.KernelIdeal.main_v81) = v10 c
          ∧ r.2.mem ((c.tc : Thread Cert.KernelIdeal.nD Cert.KernelIdeal.τ).loc Cert.KernelIdeal.main_v90) = v11 c
          ∧ r.2.mem ((c.tc : Thread Cert.KernelIdeal.nD Cert.KernelIdeal.τ).loc Cert.KernelIdeal.main_v99) = v12 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v119) = v5 c
          ∧ r.2.mem ((c.tc : Thread Cert.ReferenceIdeal.nD Cert.ReferenceIdeal.τ).loc Cert.ReferenceIdeal.main_v123) = v6 c
          ∧ r.2.mem ((c.tc : Thread Cert.ReferenceIdeal.nD Cert.ReferenceIdeal.τ).loc Cert.ReferenceIdeal.main_v105) = v7 c
          ∧ r.2.mem ((c.tc : Thread Cert.ReferenceIdeal.nD Cert.ReferenceIdeal.τ).loc Cert.ReferenceIdeal.main_v109) = v8 c
          ∧ r.2.mem ((c.tc : Thread Cert.ReferenceIdeal.nD Cert.ReferenceIdeal.τ).loc Cert.ReferenceIdeal.main_v113) = v9 c
          ∧ r.2.mem ((c.tc : Thread Cert.ReferenceIdeal.nD Cert.ReferenceIdeal.τ).loc Cert.ReferenceIdeal.main_v117) = v10 c
          ∧ r.2.mem ((c.tc : Thread Cert.ReferenceIdeal.nD Cert.ReferenceIdeal.τ).loc Cert.ReferenceIdeal.main_v121) = v11 c
          ∧ r.2.mem ((c.tc : Thread Cert.ReferenceIdeal.nD Cert.ReferenceIdeal.τ).loc Cert.ReferenceIdeal.main_v125) = v12 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)) (v1 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_v4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Kernel.lean ====
abbrev S8704x4096 : Shape := ⟨2, ![8704, 4096]⟩
abbrev S4096x34320 : Shape := ⟨2, ![4096, 34320]⟩
abbrev S8704x12288 : Shape := ⟨2, ![8704, 12288]⟩
abbrev S8704x16 : Shape := ⟨2, ![8704, 16]⟩
abbrev S8 : Shape := ⟨1, ![8]⟩
abbrev S1x128x8x512x256 : Shape := ⟨5, ![1, 128, 8, 512, 256]⟩
abbrev S1x128x8x256 : Shape := ⟨4, ![1, 128, 8, 256]⟩
abbrev S128x8 : Shape := ⟨2, ![128, 8]⟩
abbrev S34320x4096 : Shape := ⟨2, ![34320, 4096]⟩
abbrev S1x8 : Shape := ⟨2, ![1, 8]⟩
abbrev S2x8 : Shape := ⟨2, ![2, 8]⟩
abbrev S512x16 : Shape := ⟨2, ![512, 16]⟩
abbrev S128x4x2x8 : Shape := ⟨4, ![128, 4, 2, 8]⟩
abbrev S128x8x2x4 : Shape := ⟨4, ![128, 8, 2, 4]⟩
abbrev S_ : Shape := ⟨0, ![]⟩
abbrev S128x8x2x16 : Shape := ⟨4, ![128, 8, 2, 16]⟩
abbrev S128x8x1 : Shape := ⟨3, ![128, 8, 1]⟩
abbrev S4096 : Shape := ⟨1, ![4096]⟩
abbrev S1x4096 : Shape := ⟨2, ![1, 4096]⟩
abbrev S2x4096 : Shape := ⟨2, ![2, 4096]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S64 : Shape := ⟨1, ![64]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S8704x9216 : Shape := ⟨2, ![8704, 9216]⟩
abbrev S128x4x4096 : Shape := ⟨3, ![128, 4, 4096]⟩
abbrev S128x8x512x256 : Shape := ⟨4, ![128, 8, 512, 256]⟩
abbrev S128x8x256 : Shape := ⟨3, ![128, 8, 256]⟩
abbrev S128x8x128 : Shape := ⟨3, ![128, 8, 128]⟩
abbrev S544x4096 : Shape := ⟨2, ![544, 4096]⟩
abbrev S64x4096 : Shape := ⟨2, ![64, 4096]⟩
abbrev S544x128 : Shape := ⟨2, ![544, 128]⟩
abbrev S8x2048 : Shape := ⟨2, ![8, 2048]⟩
abbrev S8x4096 : Shape := ⟨2, ![8, 4096]⟩
abbrev S1x8x2x16 : Shape := ⟨4, ![1, 8, 2, 16]⟩
abbrev S1x1x8x512x256 : Shape := ⟨5, ![1, 1, 8, 512, 256]⟩
abbrev S1x1x8x256 : Shape := ⟨4, ![1, 1, 8, 256]⟩
abbrev S1x8x1 : Shape := ⟨3, ![1, 8, 1]⟩
abbrev S544x1024 : Shape := ⟨2, ![544, 1024]⟩
abbrev S1x4x4096 : Shape := ⟨3, ![1, 4, 4096]⟩
abbrev S1x8x512x256 : Shape := ⟨4, ![1, 8, 512, 256]⟩
abbrev S1x8x256 : Shape := ⟨3, ![1, 8, 256]⟩
abbrev S1x8x128 : Shape := ⟨3, ![1, 8, 128]⟩
abbrev S2x1024x4096 : Shape := ⟨3, ![2, 1024, 4096]⟩
abbrev S16x2048 : Shape := ⟨2, ![16, 2048]⟩
abbrev S16x4096 : Shape := ⟨2, ![16, 4096]⟩
abbrev S1x64x4096 : Shape := ⟨3, ![1, 64, 4096]⟩
abbrev S1x512x4096 : Shape := ⟨3, ![1, 512, 4096]⟩
abbrev S512x4096 : Shape := ⟨2, ![512, 4096]⟩
abbrev S544x512 : Shape := ⟨2, ![544, 512]⟩
abbrev S4x256 : Shape := ⟨2, ![4, 256]⟩
abbrev S4x512 : Shape := ⟨2, ![4, 512]⟩
abbrev S1x1x2x16 : Shape := ⟨4, ![1, 1, 2, 16]⟩
abbrev S2x16 : Shape := ⟨2, ![2, 16]⟩
abbrev S1x16 : Shape := ⟨2, ![1, 16]⟩
abbrev S1x1 : Shape := ⟨2, ![1, 1]⟩
abbrev S16x256 : Shape := ⟨2, ![16, 256]⟩
abbrev S16x512 : Shape := ⟨2, ![16, 512]⟩
abbrev S1x1x1x512x256 : Shape := ⟨5, ![1, 1, 1, 512, 256]⟩
abbrev S512x256 : Shape := ⟨2, ![512, 256]⟩
abbrev S1x1x1x256 : Shape := ⟨4, ![1, 1, 1, 256]⟩
abbrev S1x256 : Shape := ⟨2, ![1, 256]⟩
abbrev S1x1x1 : Shape := ⟨3, ![1, 1, 1]⟩
abbrev S16x16 : Shape := ⟨2, ![16, 16]⟩
abbrev S16 : Shape := ⟨1, ![16]⟩
abbrev S16x1 : Shape := ⟨2, ![16, 1]⟩
abbrev S256 : Shape := ⟨1, ![256]⟩
abbrev S1x4x512 : Shape := ⟨3, ![1, 4, 512]⟩
abbrev S1x1x512x256 : Shape := ⟨4, ![1, 1, 512, 256]⟩
abbrev S1x1x256 : Shape := ⟨3, ![1, 1, 256]⟩
abbrev S1x128 : Shape := ⟨2, ![1, 128]⟩
abbrev S1x1x128 : Shape := ⟨3, ![1, 1, 128]⟩
abbrev S512x9216 : Shape := ⟨2, ![512, 9216]⟩
abbrev S128x4x9x8x128 : Shape := ⟨5, ![128, 4, 9, 8, 128]⟩
abbrev S128x9x4x8x128 : Shape := ⟨5, ![128, 9, 4, 8, 128]⟩
abbrev S128x9x32x128 : Shape := ⟨4, ![128, 9, 32, 128]⟩
abbrev S128x1024 : Shape := ⟨2, ![128, 1024]⟩
abbrev S1x128x1024 : Shape := ⟨3, ![1, 128, 1024]⟩
abbrev S2x128x1024 : Shape := ⟨3, ![2, 128, 1024]⟩
abbrev S2x128x8x128 : Shape := ⟨4, ![2, 128, 8, 128]⟩
abbrev S128x1x32x128 : Shape := ⟨4, ![128, 1, 32, 128]⟩
abbrev S128x32x128 : Shape := ⟨3, ![128, 32, 128]⟩
abbrev S128x4x8x128 : Shape := ⟨4, ![128, 4, 8, 128]⟩
abbrev S512x1024 : Shape := ⟨2, ![512, 1024]⟩
abbrev S1x512x1024 : Shape := ⟨3, ![1, 512, 1024]⟩
abbrev S2x512x1024 : Shape := ⟨3, ![2, 512, 1024]⟩
abbrev S2x512x8x128 : Shape := ⟨4, ![2, 512, 8, 128]⟩
abbrev S2048x1024 : Shape := ⟨2, ![2048, 1024]⟩
abbrev S1x2048x1024 : Shape := ⟨3, ![1, 2048, 1024]⟩
abbrev S2x2048x1024 : Shape := ⟨3, ![2, 2048, 1024]⟩
abbrev S2x2048x8x128 : Shape := ⟨4, ![2, 2048, 8, 128]⟩

abbrev nBuf : Space → Nat
  | .hbm => 120
  | .vmem => 38
  | .smem => 1
  | _ => 0

abbrev bufTy : (tb : Table) → Fin (tcTables nBuf tb) → BufTy
  | .hbm, ⟨0, _⟩ => ⟨S8704x4096, .bf16⟩
  | .hbm, ⟨1, _⟩ => ⟨S4096x34320, .f32⟩
  | .hbm, ⟨2, _⟩ => ⟨S8704x12288, .f32⟩
  | .hbm, ⟨3, _⟩ => ⟨S8704x16, .f32⟩
  | .hbm, ⟨4, _⟩ => ⟨S8, .f32⟩
  | .hbm, ⟨5, _⟩ => ⟨S8, .f32⟩
  | .hbm, ⟨6, _⟩ => ⟨S1x128x8x512x256, .f32⟩
  | .hbm, ⟨7, _⟩ => ⟨S1x128x8x256, .f32⟩
  | .hbm, ⟨8, _⟩ => ⟨S128x8, .f32⟩
  | .hbm, ⟨9, _⟩ => ⟨S34320x4096, .f32⟩
  | .hbm, ⟨10, _⟩ => ⟨S1x8, .f32⟩
  | .hbm, ⟨11, _⟩ => ⟨S1x8, .f32⟩
  | .hbm, ⟨12, _⟩ => ⟨S2x8, .f32⟩
  | .hbm, ⟨13, _⟩ => ⟨S512x16, .f32⟩
  | .hbm, ⟨14, _⟩ => ⟨S128x4x2x8, .f32⟩
  | .hbm, ⟨15, _⟩ => ⟨S128x8x2x4, .f32⟩
  | .hbm, ⟨16, _⟩ => ⟨S_, .i32⟩
  | .hbm, ⟨17, _⟩ => ⟨S_, .f32⟩
  | .hbm, ⟨18, _⟩ => ⟨S128x8x2x16, .f32⟩
  | .hbm, ⟨19, _⟩ => ⟨S128x8x1, .f32⟩
  | .hbm, ⟨20, _⟩ => ⟨S4096, .i32⟩
  | .hbm, ⟨21, _⟩ => ⟨S1x4096, .i32⟩
  | .hbm, ⟨22, _⟩ => ⟨S2x4096, .i32⟩
  | .hbm, ⟨23, _⟩ => ⟨S8192, .i32⟩
  | .hbm, ⟨24, _⟩ => ⟨S4, .i32⟩
  | .hbm, ⟨25, _⟩ => ⟨S_, .i32⟩
  | .hbm, ⟨26, _⟩ => ⟨S4, .i32⟩
  | .hbm, ⟨27, _⟩ => ⟨S4, .i32⟩
  | .hbm, ⟨28, _⟩ => ⟨S1x4, .i32⟩
  | .hbm, ⟨29, _⟩ => ⟨S128x4, .i32⟩
  | .hbm, ⟨30, _⟩ => ⟨S512, .i32⟩
  | .hbm, ⟨31, _⟩ => ⟨S8704, .i32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S8704, .f32⟩
  | .hbm, ⟨47, _⟩ => ⟨S8704x1, .f32⟩
  | .hbm, ⟨48, _⟩ => ⟨S1x64, .f32⟩
  | .hbm, ⟨49, _⟩ => ⟨S8704x64, .f32⟩
  | .hbm, ⟨50, _⟩ => ⟨S8704x64, .f32⟩
  | .hbm, ⟨51, _⟩ => ⟨S8704x64, .f32⟩
  | .hbm, ⟨52, _⟩ => ⟨S8704x64, .f32⟩
  | .hbm, ⟨53, _⟩ => ⟨S8704x64, .f32⟩
  | .hbm, ⟨54, _⟩ => ⟨S8704x128, .f32⟩
  | .hbm, ⟨55, _⟩ => ⟨S8704x64, .f32⟩
  | .hbm, ⟨56, _⟩ => ⟨S8704x128, .f32⟩
  | .hbm, ⟨57, _⟩ => ⟨S8704x9216, .f32⟩
  | .hbm, ⟨58, _⟩ => ⟨S128x4x4096, .f32⟩
  | .hbm, ⟨59, _⟩ => ⟨S128x8x512x256, .f32⟩
  | .hbm, ⟨60, _⟩ => ⟨S128x8x256, .f32⟩
  | .hbm, ⟨61, _⟩ => ⟨S128x8x128, .f32⟩
  | .hbm, ⟨62, _⟩ => ⟨S512x9216, .f32⟩
  | .hbm, ⟨63, _⟩ => ⟨S128x4x9x8x128, .f32⟩
  | .hbm, ⟨64, _⟩ => ⟨S128x9x4x8x128, .f32⟩
  | .hbm, ⟨65, _⟩ => ⟨S128x9x32x128, .f32⟩
  | .hbm, ⟨66, _⟩ => ⟨S128x1024, .f32⟩
  | .hbm, ⟨67, _⟩ => ⟨S128x1024, .f32⟩
  | .hbm, ⟨68, _⟩ => ⟨S1x128x1024, .f32⟩
  | .hbm, ⟨69, _⟩ => ⟨S1x128x1024, .f32⟩
  | .hbm, ⟨70, _⟩ => ⟨S2x128x1024, .f32⟩
  | .hbm, ⟨71, _⟩ => ⟨S2x128x8x128, .f32⟩
  | .hbm, ⟨72, _⟩ => ⟨S128x1x32x128, .f32⟩
  | .hbm, ⟨73, _⟩ => ⟨S128x32x128, .f32⟩
  | .hbm, ⟨74, _⟩ => ⟨S128x4x8x128, .f32⟩
  | .hbm, ⟨75, _⟩ => ⟨S128x1024, .f32⟩
  | .hbm, ⟨76, _⟩ => ⟨S128x1024, .f32⟩
  | .hbm, ⟨77, _⟩ => ⟨S1x128x1024, .f32⟩
  | .hbm, ⟨78, _⟩ => ⟨S1x128x1024, .f32⟩
  | .hbm, ⟨79, _⟩ => ⟨S2x128x1024, .f32⟩
  | .hbm, ⟨80, _⟩ => ⟨S2x128x8x128, .f32⟩
  | .hbm, ⟨81, _⟩ => ⟨S128x1x32x128, .f32⟩
  | .hbm, ⟨82, _⟩ => ⟨S128x32x128, .f32⟩
  | .hbm, ⟨83, _⟩ => ⟨S128x4x8x128, .f32⟩
  | .hbm, ⟨84, _⟩ => ⟨S512x1024, .f32⟩
  | .hbm, ⟨85, _⟩ => ⟨S512x1024, .f32⟩
  | .hbm, ⟨86, _⟩ => ⟨S1x512x1024, .f32⟩
  | .hbm, ⟨87, _⟩ => ⟨S1x512x1024, .f32⟩
  | .hbm, ⟨88, _⟩ => ⟨S2x512x1024, .f32⟩
  | .hbm, ⟨89, _⟩ => ⟨S2x512x8x128, .f32⟩
  | .hbm, ⟨90, _⟩ => ⟨S128x1x32x128, .f32⟩
  | .hbm, ⟨91, _⟩ => ⟨S128x32x128, .f32⟩
  | .hbm, ⟨92, _⟩ => ⟨S128x4x8x128, .f32⟩
  | .hbm, ⟨93, _⟩ => ⟨S512x1024, .f32⟩
  | .hbm, ⟨94, _⟩ => ⟨S512x1024, .f32⟩
  | .hbm, ⟨95, _⟩ => ⟨S1x512x1024, .f32⟩
  | .hbm, ⟨96, _⟩ => ⟨S1x512x1024, .f32⟩
  | .hbm, ⟨97, _⟩ => ⟨S2x512x1024, .f32⟩
  | .hbm, ⟨98, _⟩ => ⟨S2x512x8x128, .f32⟩
  | .hbm, ⟨99, _⟩ => ⟨S128x1x32x128, .f32⟩
  | .hbm, ⟨100, _⟩ => ⟨S128x32x128, .f32⟩
  | .hbm, ⟨101, _⟩ => ⟨S128x4x8x128, .f32⟩
  | .hbm, ⟨102, _⟩ => ⟨S2048x1024, .f32⟩
  | .hbm, ⟨103, _⟩ => ⟨S2048x1024, .f32⟩
  | .hbm, ⟨104, _⟩ => ⟨S1x2048x1024, .f32⟩
  | .hbm, ⟨105, _⟩ => ⟨S1x2048x1024, .f32⟩
  | .hbm, ⟨106, _⟩ => ⟨S2x2048x1024, .f32⟩
  | .hbm, ⟨107, _⟩ => ⟨S2x2048x8x128, .f32⟩
  | .hbm, ⟨108, _⟩ => ⟨S128x1x32x128, .f32⟩
  | .hbm, ⟨109, _⟩ => ⟨S128x32x128, .f32⟩
  | .hbm, ⟨110, _⟩ => ⟨S128x4x8x128, .f32⟩
  | .hbm, ⟨111, _⟩ => ⟨S2048x1024, .f32⟩
  | .hbm, ⟨112, _⟩ => ⟨S2048x1024, .f32⟩
  | .hbm, ⟨113, _⟩ => ⟨S1x2048x1024, .f32⟩
  | .hbm, ⟨114, _⟩ => ⟨S1x2048x1024, .f32⟩
  | .hbm, ⟨115, _⟩ => ⟨S2x2048x1024, .f32⟩
  | .hbm, ⟨116, _⟩ => ⟨S2x2048x8x128, .f32⟩
  | .hbm, ⟨117, _⟩ => ⟨S128x1x32x128, .f32⟩
  | .hbm, ⟨118, _⟩ => ⟨S128x32x128, .f32⟩
  | .hbm, ⟨119, _⟩ => ⟨S128x4x8x128, .f32⟩
  | .local _ .vmem, ⟨0, _⟩ => ⟨S544x4096, .bf16⟩
  | .local _ .vmem, ⟨1, _⟩ => ⟨S544x4096, .bf16⟩
  | .local _ .vmem, ⟨2, _⟩ => ⟨S64x4096, .f32⟩
  | .local _ .vmem, ⟨3, _⟩ => ⟨S64x4096, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x4096, .f32⟩
  | .local _ .vmem, ⟨13, _⟩ => ⟨S8x4096, .f32⟩
  | .local _ .vmem, ⟨14, _⟩ => ⟨S8x4096, .f32⟩
  | .local _ .vmem, ⟨15, _⟩ => ⟨S8x4096, .f32⟩
  | .local _ .vmem, ⟨16, _⟩ => ⟨S1x8x2x16, .f32⟩
  | .local _ .vmem, ⟨17, _⟩ => ⟨S1x8x2x16, .f32⟩
  | .local _ .vmem, ⟨18, _⟩ => ⟨S1x1x8x512x256, .f32⟩
  | .local _ .vmem, ⟨19, _⟩ => ⟨S1x1x8x512x256, .f32⟩
  | .local _ .vmem, ⟨20, _⟩ => ⟨S1x1x8x256, .f32⟩
  | .local _ .vmem, ⟨21, _⟩ => ⟨S1x1x8x256, .f32⟩
  | .local _ .vmem, ⟨22, _⟩ => ⟨S1x8x1, .f32⟩
  | .local _ .vmem, ⟨23, _⟩ => ⟨S1x8x1, .f32⟩
  | .local _ .vmem, ⟨24, _⟩ => ⟨S544x1024, .f32⟩
  | .local _ .vmem, ⟨25, _⟩ => ⟨S544x1024, .f32⟩
  | .local _ .vmem, ⟨26, _⟩ => ⟨S1x4x4096, .f32⟩
  | .local _ .vmem, ⟨27, _⟩ => ⟨S1x4x4096, .f32⟩
  | .local _ .vmem, ⟨28, _⟩ => ⟨S1x8x512x256, .f32⟩
  | .local _ .vmem, ⟨29, _⟩ => ⟨S1x8x512x256, .f32⟩
  | .local _ .vmem, ⟨30, _⟩ => ⟨S1x8x256, .f32⟩
  | .local _ .vmem, ⟨31, _⟩ => ⟨S1x8x256, .f32⟩
  | .local _ .vmem, ⟨32, _⟩ => ⟨S1x8x128, .f32⟩
  | .local _ .vmem, ⟨33, _⟩ => ⟨S1x8x128, .f32⟩
  | .local _ .vmem, ⟨34, _⟩ => ⟨S2x1024x4096, .bf16⟩
  | .local _ .vmem, ⟨35, _⟩ => ⟨S16x2048, .f32⟩
  | .local _ .vmem, ⟨36, _⟩ => ⟨S16x2048, .f32⟩
  | .local _ .vmem, ⟨37, _⟩ => ⟨S16x4096, .f32⟩
  | .local _ .smem, ⟨0, _⟩ => ⟨S2x8, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41_0 : Ref sig .tc := ⟨.hbm, 57, rfl⟩
abbrev main_v41_1 : Ref sig .tc := ⟨.hbm, 58, rfl⟩
abbrev main_v41_2 : Ref sig .tc := ⟨.hbm, 59, rfl⟩
abbrev main_v41_3 : Ref sig .tc := ⟨.hbm, 60, rfl⟩
abbrev main_v41_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let c12304_i32 : BitVec 32 := 12304#32
  let arg0 : BitVec 32 := BitVec.ofNat 32 (i 0).val
  let c8_i32 : BitVec 32 := 8#32
  let v0 : BitVec 32 := Scalar.minsi arg0 c8_i32
  let c1024_i32 : BitVec 32 := 1024#32
  let v1 : BitVec 32 := Scalar.muli v0 c1024_i32
  let v2 : BitVec 32 := Scalar.addi c12304_i32 v1
  let arg1 : BitVec 32 := BitVec.ofNat 32 (i 1).val
  let c64_i32 : BitVec 32 := 64#32
  let v3 : BitVec 32 := Scalar.muli arg1 c64_i32
  let v4 : BitVec 32 := Scalar.addi v2 v3
  v4
def k0_mult2 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 3 → Nat :=
  let arg0 : BitVec 32 := BitVec.ofNat 32 (i 0).val
  let c2_i32 : BitVec 32 := 2#32
  let c0_i32 : BitVec 32 := 0#32
  let v5 : BitVec 1 := Scalar.cmpi .eq c2_i32 c0_i32
  let c1_i32 : BitVec 32 := 1#32
  let v6 : BitVec 32 := Scalar.select v5 c1_i32 c2_i32
  let v7 : BitVec 32 := Scalar.remsi arg0 v6
  let c0_i32_2 : BitVec 32 := 0#32
  let v9 : BitVec 1 := Scalar.cmpi .slt v7 c0_i32_2
  let c0_i32_3 : BitVec 32 := 0#32
  let v10 : BitVec 1 := Scalar.cmpi .slt v6 c0_i32_3
  let v11 : BitVec 1 := Scalar.xori v9 v10
  let c0_i32_1 : BitVec 32 := 0#32
  let v8 : BitVec 1 := Scalar.cmpi .ne v7 c0_i32_1
  let v12 : BitVec 1 := Scalar.andi v11 v8
  let v13 : BitVec 32 := Scalar.addi v7 v6
  let v14 : BitVec 32 := Scalar.select v12 v13 v7
  let v15 : Index := Scalar.indexCast v14
  let arg1 : BitVec 32 := BitVec.ofNat 32 (i 1).val
  let c64_i32 : BitVec 32 := 64#32
  let v0 : BitVec 32 := Scalar.muli arg1 c64_i32
  let v1 : BitVec 32 := v0
  let v16 : Index := Scalar.indexCast v1
  let c0_4 : Index := 0#32
  ![v15.toNat, v16.toNat, 0]
def k0_cond2 (i : grid0.Coords) : BitVec 1 :=
  let arg0 : BitVec 32 := BitVec.ofNat 32 (i 0).val
  let c0_i32_9 : BitVec 32 := 0#32
  let v28 : BitVec 1 := Scalar.cmpi .sgt arg0 c0_i32_9
  let c1_i32_8 : BitVec 32 := 1#32
  let v25 : BitVec 32 := Scalar.subi arg0 c1_i32_8
  let c16_i32 : BitVec 32 := 16#32
  let v26 : BitVec 32 := Scalar.muli v25 c16_i32
  let arg1 : BitVec 32 := BitVec.ofNat 32 (i 1).val
  let v27 : BitVec 32 := Scalar.addi v26 arg1
  let c128_i32 : BitVec 32 := 128#32
  let v29 : BitVec 1 := Scalar.cmpi .slt v27 c128_i32
  let v30 : BitVec 1 := Scalar.andi v28 v29
  let v31 : BitVec 32 := Scalar.extui v30
  let c0_i32_10 : BitVec 32 := 0#32
  let v32 : BitVec 1 := Scalar.cmpi .ne v31 c0_i32_10
  v32

def k0_off2 (i : grid0.Coords) : Fin 3 → Nat :=
  let arg0 : BitVec 32 := BitVec.ofNat 32 (i 0).val
  let c1_i32_21 : BitVec 32 := 1#32
  let v49 : BitVec 32 := Scalar.subi arg0 c1_i32_21
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v49 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v61 : Index := Scalar.indexCast v59
  let c0_30 : Index := 0#32
  let c0_31 : Index := 0#32
  ![v61.toNat, 0, 0]
def k0_off3 (i : grid0.Coords) : Fin 3 → Nat :=
  let arg0 : BitVec 32 := BitVec.ofNat 32 (i 0).val
  let c1_i32_21 : BitVec 32 := 1#32
  let v49 : BitVec 32 := Scalar.subi arg0 c1_i32_21
  let c2_i32_22 : BitVec 32 := 2#32
  let c0_i32_23 : BitVec 32 := 0#32
  let v50 : BitVec 1 := Scalar.cmpi .eq c2_i32_22 c0_i32_23
  let c1_i32_24 : BitVec 32 := 1#32
  let v51 : BitVec 32 := Scalar.select v50 c1_i32_24 c2_i32_22
  let v52 : BitVec 32 := Scalar.remsi v49 v51
  let c0_i32_26 : BitVec 32 := 0#32
  let v54 : BitVec 1 := Scalar.cmpi .slt v52 c0_i32_26
  let c0_i32_27 : BitVec 32 := 0#32
  let v55 : BitVec 1 := Scalar.cmpi .slt v51 c0_i32_27
  let v56 : BitVec 1 := Scalar.xori v54 v55
  let c0_i32_25 : BitVec 32 := 0#32
  let v53 : BitVec 1 := Scalar.cmpi .ne v52 c0_i32_25
  let v57 : BitVec 1 := Scalar.andi v56 v53
  let v58 : BitVec 32 := Scalar.addi v52 v51
  let v59 : BitVec 32 := Scalar.select v57 v58 v52
  let v1524 : Index := Scalar.indexCast v59
  let c512_747 : Index := 512#32
  let c0_748 : Index := 0#32
  ![v1524.toNat, 512, 0]
def k0_cond3 (i : grid0.Coords) : BitVec 1 :=
  let arg0 : BitVec 32 := BitVec.ofNat 32 (i 0).val
  let c0_i32_11 : BitVec 32 := 0#32
  let v33 : BitVec 1 := Scalar.cmpi .sgt arg0 c0_i32_11
  let c1_i32_8 : BitVec 32 := 1#32
  let v25 : BitVec 32 := Scalar.subi arg0 c1_i32_8
  let c16_i32 : BitVec 32 := 16#32
  let v26 : BitVec 32 := Scalar.muli v25 c16_i32
  let arg1 : BitVec 32 := BitVec.ofNat 32 (i 1).val
  let v27 : BitVec 32 := Scalar.addi v26 arg1
  let c128_i32_12 : BitVec 32 := 128#32
  let v34 : BitVec 1 := Scalar.cmpi .sge v27 c128_i32_12
  let v35 : BitVec 1 := Scalar.andi v33 v34
  let v36 : BitVec 32 := Scalar.extui v35
  let c0_i32_13 : BitVec 32 := 0#32
  let v37 : BitVec 1 := Scalar.cmpi .ne v36 c0_i32_13
  v37

def k0_off4 (i : grid0.Coords) : Fin 3 → Nat :=
  let arg0 : BitVec 32 := BitVec.ofNat 32 (i 0).val
  let c1_i32_14 : BitVec 32 := 1#32
  let v38 : BitVec 32 := Scalar.subi arg0 c1_i32_14
  let c2_i32_15 : BitVec 32 := 2#32
  let c0_i32_16 : BitVec 32 := 0#32
  let v39 : BitVec 1 := Scalar.cmpi .eq c2_i32_15 c0_i32_16
  let c1_i32_17 : BitVec 32 := 1#32
  let v40 : BitVec 32 := Scalar.select v39 c1_i32_17 c2_i32_15
  let v41 : BitVec 32 := Scalar.remsi v38 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let v50 : Index := Scalar.indexCast v48
  let c0_23 : Index := 0#32
  let c0_24 : Index := 0#32
  ![v50.toNat, 0, 0]
def k0_off5 (i : grid0.Coords) : Fin 3 → Nat :=
  let arg0 : BitVec 32 := BitVec.ofNat 32 (i 0).val
  let c1_i32_14 : BitVec 32 := 1#32
  let v38 : BitVec 32 := Scalar.subi arg0 c1_i32_14
  let c2_i32_15 : BitVec 32 := 2#32
  let c0_i32_16 : BitVec 32 := 0#32
  let v39 : BitVec 1 := Scalar.cmpi .eq c2_i32_15 c0_i32_16
  let c1_i32_17 : BitVec 32 := 1#32
  let v40 : BitVec 32 := Scalar.select v39 c1_i32_17 c2_i32_15
  let v41 : BitVec 32 := Scalar.remsi v38 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let v121 : Index := Scalar.indexCast v48
  let c512 : Index := 512#32
  let c0_62 : Index := 0#32
  ![v121.toNat, 512, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg0 c8_i32
  let c1024_i32 : BitVec 32 := 1024#32
  let v1 : BitVec 32 := Scalar.muli v0 c1024_i32
  let c12304_i32 : BitVec 32 := 12304#32
  let v2 : BitVec 32 := Scalar.addi c12304_i32 v1
  let c64_i32 : BitVec 32 := 64#32
  let v3 : BitVec 32 := Scalar.muli arg1 c64_i32
  let v4 : BitVec 32 := Scalar.addi v2 v3
  let v5 : BitVec 32 := v4
  let c0_i32 : BitVec 32 := 0#32
  let c0_i32_0 : BitVec 32 := 0#32
  ![v5.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v3.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v3.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c2_i32 : BitVec 32 := 2#32
  let v5 : BitVec 32 := Scalar.divsi v4 c2_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v4 c2_i32
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1024_i32 : BitVec 32 := 1024#32
  let v22 : BitVec 32 := Scalar.addi c1024_i32 v21
  let c0_i32_6 : BitVec 32 := 0#32
  let c0_i32_7 : BitVec 32 := 0#32
  ![v22.toNat, c0_i32_6.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c2_i32 : BitVec 32 := 2#32
  let v5 : BitVec 32 := Scalar.divsi v4 c2_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v4 c2_i32
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1024_i32 : BitVec 32 := 1024#32
  let v22 : BitVec 32 := Scalar.addi c1024_i32 v21
  let c1_i32_6 : BitVec 32 := 1#32
  let c0_i32_7 : BitVec 32 := 0#32
  ![v22.toNat, c1_i32_6.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c2_i32 : BitVec 32 := 2#32
  let v5 : BitVec 32 := Scalar.divsi v4 c2_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v4 c2_i32
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1024_i32 : BitVec 32 := 1024#32
  let v22 : BitVec 32 := Scalar.addi c1024_i32 v21
  let c1_i32_6 : BitVec 32 := 1#32
  let c0_i32_7 : BitVec 32 := 0#32
  ![v22.toNat, c1_i32_6.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c2_i32 : BitVec 32 := 2#32
  let v5 : BitVec 32 := Scalar.divsi v4 c2_i32
  let c0_i32_0 : BitVec 32 := 0#32
  let v6 : BitVec 1 := Scalar.cmpi .sgt v4 c0_i32_0
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v4 c2_i32
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1024_i32 : BitVec 32 := 1024#32
  let v22 : BitVec 32 := Scalar.addi c1024_i32 v21
  let c2_i32_6 : BitVec 32 := 2#32
  let c0_i32_7 : BitVec 32 := 0#32
  ![v22.toNat, c2_i32_6.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32_0.toNat, v4.toNat, c0_i32_1.toNat, c0_i32_2.toNat, c0_i32_3.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  ![v4.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v3.toNat, v1.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  ![v4.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  ![v4.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c16_i32 : BitVec 32 := 16#32
  let v1 : BitVec 32 := Scalar.muli v0 c16_i32
  let v2 : BitVec 32 := Scalar.addi v1 arg1
  let c0_i32 : BitVec 32 := 0#32
  let c127_i32 : BitVec 32 := 127#32
  let v3 : BitVec 32 := Scalar.maxsi c0_i32 v2
  let v4 : BitVec 32 := Scalar.minsi c127_i32 v3
  let c0_i32_0 : BitVec 32 := 0#32
  let c0_i32_1 : BitVec 32 := 0#32
  let c0_i32_2 : BitVec 32 := 0#32
  ![v4.toNat, c0_i32_0.toNat, c0_i32_1.toNat]

abbrev stage0_0 : Fin 2 → Memref sig .tc .vmem S544x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x2x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x8x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S544x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8704x4096 : Shape := ⟨2, ![8704, 4096]⟩
abbrev S4096x34320 : Shape := ⟨2, ![4096, 34320]⟩
abbrev S8704x12288 : Shape := ⟨2, ![8704, 12288]⟩
abbrev S8704x16 : Shape := ⟨2, ![8704, 16]⟩
abbrev S8 : Shape := ⟨1, ![8]⟩
abbrev S1x128x8x512x256 : Shape := ⟨5, ![1, 128, 8, 512, 256]⟩
abbrev S1x128x8x256 : Shape := ⟨4, ![1, 128, 8, 256]⟩
abbrev S128x8 : Shape := ⟨2, ![128, 8]⟩
abbrev S8704x34320 : Shape := ⟨2, ![8704, 34320]⟩
abbrev S8704x9216 : Shape := ⟨2, ![8704, 9216]⟩
abbrev S8192x9216 : Shape := ⟨2, ![8192, 9216]⟩
abbrev S4096 : Shape := ⟨1, ![4096]⟩
abbrev S2x4096x3x3x8x128 : Shape := ⟨6, ![2, 4096, 3, 3, 8, 128]⟩
abbrev S2x4096x3x2x8x128 : Shape := ⟨6, ![2, 4096, 3, 2, 8, 128]⟩
abbrev S2x4096x48x128 : Shape := ⟨4, ![2, 4096, 48, 128]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x1x64 : Shape := ⟨3, ![4096, 1, 64]⟩
abbrev S2x4096x48x64 : Shape := ⟨4, ![2, 4096, 48, 64]⟩
abbrev S1x4096x1x64 : Shape := ⟨4, ![1, 4096, 1, 64]⟩
abbrev S2x4096x3x1x8x128 : Shape := ⟨6, ![2, 4096, 3, 1, 8, 128]⟩
abbrev S512x9216 : Shape := ⟨2, ![512, 9216]⟩
abbrev S4 : Shape := ⟨1, ![4]⟩
abbrev S128x4x3x3x8x128 : Shape := ⟨6, ![128, 4, 3, 3, 8, 128]⟩
abbrev S128x4x3x2x8x128 : Shape := ⟨6, ![128, 4, 3, 2, 8, 128]⟩
abbrev S128x4x48x128 : Shape := ⟨4, ![128, 4, 48, 128]⟩
abbrev S4x1 : Shape := ⟨2, ![4, 1]⟩
abbrev S4x64 : Shape := ⟨2, ![4, 64]⟩
abbrev S4x1x64 : Shape := ⟨3, ![4, 1, 64]⟩
abbrev S128x4x48x64 : Shape := ⟨4, ![128, 4, 48, 64]⟩
abbrev S1x4x1x64 : Shape := ⟨4, ![1, 4, 1, 64]⟩
abbrev S128x4x3x1x8x128 : Shape := ⟨6, ![128, 4, 3, 1, 8, 128]⟩
abbrev S2x128x1x1x8x128 : Shape := ⟨6, ![2, 128, 1, 1, 8, 128]⟩
abbrev S2x128x8x128 : Shape := ⟨4, ![2, 128, 8, 128]⟩
abbrev S128x4x1x1x8x128 : Shape := ⟨6, ![128, 4, 1, 1, 8, 128]⟩
abbrev S128x4x8x128 : Shape := ⟨4, ![128, 4, 8, 128]⟩
abbrev S2x512x1x1x8x128 : Shape := ⟨6, ![2, 512, 1, 1, 8, 128]⟩
abbrev S2x512x8x128 : Shape := ⟨4, ![2, 512, 8, 128]⟩
abbrev S2x2048x1x1x8x128 : Shape := ⟨6, ![2, 2048, 1, 1, 8, 128]⟩
abbrev S2x2048x8x128 : Shape := ⟨4, ![2, 2048, 8, 128]⟩

abbrev nBuf : Space → Nat
  | .hbm => 144
  | .vmem => 0
  | .smem => 0
  | _ => 0

abbrev hbmTy0_0 (i : Nat) : BufTy := match i % 128 with
  | 0 => ⟨S8704x4096, .bf16⟩
  | 1 => ⟨S4096x34320, .f32⟩
  | 2 => ⟨S8704x12288, .f32⟩
  | 3 => ⟨S8704x16, .f32⟩
  | 4 => ⟨S8, .f32⟩
  | 5 => ⟨S8, .f32⟩
  | 6 => ⟨S1x128x8x512x256, .f32⟩
  | 7 => ⟨S1x128x8x256, .f32⟩
  | 8 => ⟨S128x8, .f32⟩
  | 9 => ⟨S8704x4096, .f32⟩
  | 10 => ⟨S8704x34320, .f32⟩
  | 11 => ⟨S8704x9216, .f32⟩
  | 12 => ⟨S8192x9216, .f32⟩
  | 13 => ⟨S4096, .i32⟩
  | 14 => ⟨S2x4096x3x3x8x128, .f32⟩
  | 15 => ⟨S2x4096x3x2x8x128, .f32⟩
  | 16 => ⟨S2x4096x48x128, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S_, .f32⟩
  | 26 => ⟨S64, .f32⟩
  | 27 => ⟨S64, .f32⟩
  | 28 => ⟨S_, .f32⟩
  | 29 => ⟨S64, .f32⟩
  | 30 => ⟨S64, .f32⟩
  | 31 => ⟨S4096, .f32⟩
  | 32 => ⟨S4096x1, .f32⟩
  | 33 => ⟨S1x64, .f32⟩
  | 34 => ⟨S4096x64, .f32⟩
  | 35 => ⟨S4096x64, .f32⟩
  | 36 => ⟨S4096x64, .f32⟩
  | 37 => ⟨S4096x64, .f32⟩
  | 38 => ⟨S4096x1x64, .f32⟩
  | 39 => ⟨S4096x64, .f32⟩
  | 40 => ⟨S4096x1x64, .f32⟩
  | 41 => ⟨S2x4096x48x64, .f32⟩
  | 42 => ⟨S2x4096x48x64, .f32⟩
  | 43 => ⟨S1x4096x1x64, .f32⟩
  | 44 => ⟨S2x4096x48x64, .f32⟩
  | 45 => ⟨S2x4096x48x64, .f32⟩
  | 46 => ⟨S1x4096x1x64, .f32⟩
  | 47 => ⟨S2x4096x48x64, .f32⟩
  | 48 => ⟨S2x4096x48x64, .f32⟩
  | 49 => ⟨S2x4096x48x64, .f32⟩
  | 50 => ⟨S1x4096x1x64, .f32⟩
  | 51 => ⟨S2x4096x48x64, .f32⟩
  | 52 => ⟨S2x4096x48x64, .f32⟩
  | 53 => ⟨S1x4096x1x64, .f32⟩
  | 54 => ⟨S2x4096x48x64, .f32⟩
  | 55 => ⟨S2x4096x48x64, .f32⟩
  | 56 => ⟨S2x4096x48x64, .f32⟩
  | 57 => ⟨S2x4096x48x128, .f32⟩
  | 58 => ⟨S2x4096x3x2x8x128, .f32⟩
  | 59 => ⟨S2x4096x3x1x8x128, .f32⟩
  | 60 => ⟨S2x4096x3x3x8x128, .f32⟩
  | 61 => ⟨S8192x9216, .f32⟩
  | 62 => ⟨S512x9216, .f32⟩
  | 63 => ⟨S4, .i32⟩
  | 64 => ⟨S_, .i32⟩
  | 65 => ⟨S4, .i32⟩
  | 66 => ⟨S4, .i32⟩
  | 67 => ⟨S128x4x3x3x8x128, .f32⟩
  | 68 => ⟨S128x4x3x2x8x128, .f32⟩
  | 69 => ⟨S128x4x48x128, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S64, .f32⟩
  | 78 => ⟨S_, .f32⟩
  | 79 => ⟨S64, .f32⟩
  | 80 => ⟨S64, .f32⟩
  | 81 => ⟨S_, .f32⟩
  | 82 => ⟨S64, .f32⟩
  | 83 => ⟨S64, .f32⟩
  | 84 => ⟨S4, .f32⟩
  | 85 => ⟨S4x1, .f32⟩
  | 86 => ⟨S1x64, .f32⟩
  | 87 => ⟨S4x64, .f32⟩
  | 88 => ⟨S4x64, .f32⟩
  | 89 => ⟨S4x64, .f32⟩
  | 90 => ⟨S4x64, .f32⟩
  | 91 => ⟨S4x1x64, .f32⟩
  | 92 => ⟨S4x64, .f32⟩
  | 93 => ⟨S4x1x64, .f32⟩
  | 94 => ⟨S128x4x48x64, .f32⟩
  | 95 => ⟨S128x4x48x64, .f32⟩
  | 96 => ⟨S1x4x1x64, .f32⟩
  | 97 => ⟨S128x4x48x64, .f32⟩
  | 98 => ⟨S128x4x48x64, .f32⟩
  | 99 => ⟨S1x4x1x64, .f32⟩
  | 100 => ⟨S128x4x48x64, .f32⟩
  | 101 => ⟨S128x4x48x64, .f32⟩
  | 102 => ⟨S128x4x48x64, .f32⟩
  | 103 => ⟨S1x4x1x64, .f32⟩
  | 104 => ⟨S128x4x48x64, .f32⟩
  | 105 => ⟨S128x4x48x64, .f32⟩
  | 106 => ⟨S1x4x1x64, .f32⟩
  | 107 => ⟨S128x4x48x64, .f32⟩
  | 108 => ⟨S128x4x48x64, .f32⟩
  | 109 => ⟨S128x4x48x64, .f32⟩
  | 110 => ⟨S128x4x48x128, .f32⟩
  | 111 => ⟨S128x4x3x2x8x128, .f32⟩
  | 112 => ⟨S128x4x3x1x8x128, .f32⟩
  | 113 => ⟨S128x4x3x3x8x128, .f32⟩
  | 114 => ⟨S512x9216, .f32⟩
  | 115 => ⟨S8704x9216, .f32⟩
  | 116 => ⟨S8192x9216, .f32⟩
  | 117 => ⟨S2x4096x3x3x8x128, .f32⟩
  | 118 => ⟨S512x9216, .f32⟩
  | 119 => ⟨S128x4x3x3x8x128, .f32⟩
  | 120 => ⟨S2x128x1x1x8x128, .f32⟩
  | 121 => ⟨S2x128x8x128, .f32⟩
  | 122 => ⟨S128x4x1x1x8x128, .f32⟩
  | 123 => ⟨S128x4x8x128, .f32⟩
  | 124 => ⟨S2x128x1x1x8x128, .f32⟩
  | 125 => ⟨S2x128x8x128, .f32⟩
  | 126 => ⟨S128x4x1x1x8x128, .f32⟩
  | 127 => ⟨S128x4x8x128, .f32⟩
  | _ => ⟨S8704x4096, .bf16⟩

abbrev hbmTy0_1 (i : Nat) : BufTy := match i % 128 with
  | 0 => ⟨S2x512x1x1x8x128, .f32⟩
  | 1 => ⟨S2x512x8x128, .f32⟩
  | 2 => ⟨S128x4x1x1x8x128, .f32⟩
  | 3 => ⟨S128x4x8x128, .f32⟩
  | 4 => ⟨S2x512x1x1x8x128, .f32⟩
  | 5 => ⟨S2x512x8x128, .f32⟩
  | 6 => ⟨S128x4x1x1x8x128, .f32⟩
  | 7 => ⟨S128x4x8x128, .f32⟩
  | 8 => ⟨S2x2048x1x1x8x128, .f32⟩
  | 9 => ⟨S2x2048x8x128, .f32⟩
  | 10 => ⟨S128x4x1x1x8x128, .f32⟩
  | 11 => ⟨S128x4x8x128, .f32⟩
  | 12 => ⟨S2x2048x1x1x8x128, .f32⟩
  | 13 => ⟨S2x2048x8x128, .f32⟩
  | 14 => ⟨S128x4x1x1x8x128, .f32⟩
  | 15 => ⟨S128x4x8x128, .f32⟩
  | _ => ⟨S8704x4096, .bf16⟩

abbrev hbmTy (i : Nat) : BufTy := match i / 128 with
  | 0 => hbmTy0_0 i
  | 1 => hbmTy0_1 i
  | _ => ⟨S8704x4096, .bf16⟩

abbrev bufTy : (tb : Table) → Fin (tcTables nBuf tb) → BufTy
  | .hbm, ⟨i, _⟩ => hbmTy i
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩

abbrev nD : Nat := 1
abbrev τ : Topo := Topo.v7x

variable {F : FTy → Type} [FloatOps F]
-- ==== Kernel2.lean ====
abbrev S8704x4096 : Shape := ⟨2, ![8704, 4096]⟩
abbrev S4096x34320 : Shape := ⟨2, ![4096, 34320]⟩
abbrev S34320x4096 : Shape := ⟨2, ![34320, 4096]⟩
abbrev S8704x16 : Shape := ⟨2, ![8704, 16]⟩
abbrev S8704x512 : Shape := ⟨2, ![8704, 512]⟩
abbrev S1088x4096 : Shape := ⟨2, ![1088, 4096]⟩
abbrev S16x4096 : Shape := ⟨2, ![16, 4096]⟩
abbrev S512x4096 : Shape := ⟨2, ![512, 4096]⟩
abbrev S1088x16 : Shape := ⟨2, ![1088, 16]⟩
abbrev S1088x512 : Shape := ⟨2, ![1088, 512]⟩

abbrev nBuf : Space → Nat
  | .hbm => 5
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S4096x34320, .f32⟩
  | .hbm, ⟨2, _⟩ => ⟨S34320x4096, .f32⟩
  | .hbm, ⟨3, _⟩ => ⟨S8704x16, .f32⟩
  | .hbm, ⟨4, _⟩ => ⟨S8704x512, .f32⟩
  | .local _ .vmem, ⟨0, _⟩ => ⟨S1088x4096, .bf16⟩
  | .local _ .vmem, ⟨1, _⟩ => ⟨S1088x4096, .bf16⟩
  | .local _ .vmem, ⟨2, _⟩ => ⟨S16x4096, .f32⟩
  | .local _ .vmem, ⟨3, _⟩ => ⟨S512x4096, .f32⟩
  | .local _ .vmem, ⟨4, _⟩ => ⟨S1088x16, .f32⟩
  | .local _ .vmem, ⟨5, _⟩ => ⟨S1088x16, .f32⟩
  | .local _ .vmem, ⟨6, _⟩ => ⟨S1088x512, .f32⟩
  | .local _ .vmem, ⟨7, _⟩ => ⟨S1088x512, .f32⟩
  | .local _ .vmem, ⟨8, _⟩ => ⟨S16x4096, .bf16⟩
  | .local _ .vmem, ⟨9, _⟩ => ⟨S512x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c12288_i32 : BitVec 32 := 12288#32
  let c0_i32 : BitVec 32 := 0#32
  let c0_i32_0 : BitVec 32 := 0#32
  ![c12288_i32.toNat, c0_i32.toNat]

def cc0_transform_2 (i : grid0.Coords) : Fin 2 → Nat :=
  let arg0 : BitVec 32 := BitVec.ofNat 32 (i 0).val
  let c21520_i32 : BitVec 32 := 21520#32
  let c0_i32 : BitVec 32 := 0#32
  let c0_i32_0 : BitVec 32 := 0#32
  ![c21520_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1088x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8704x4096 : Shape := ⟨2, ![8704, 4096]⟩
abbrev S4096x34320 : Shape := ⟨2, ![4096, 34320]⟩
abbrev S8704x34320 : Shape := ⟨2, ![8704, 34320]⟩
abbrev S8704x16 : Shape := ⟨2, ![8704, 16]⟩
abbrev S8704x512 : Shape := ⟨2, ![8704, 512]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x34320, .f32⟩
  | .hbm, ⟨2, _⟩ => ⟨S8704x4096, .f32⟩
  | .hbm, ⟨3, _⟩ => ⟨S8704x34320, .f32⟩
  | .hbm, ⟨4, _⟩ => ⟨S8704x16, .f32⟩
  | .hbm, ⟨5, _⟩ => ⟨S8704x512, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8704x16384 : Shape := ⟨2, ![8704, 16384]⟩
abbrev S16384x4096 : Shape := ⟨2, ![16384, 4096]⟩
abbrev S8704x4096 : Shape := ⟨2, ![8704, 4096]⟩
abbrev S2176x2048 : Shape := ⟨2, ![2176, 2048]⟩
abbrev S2048x512 : Shape := ⟨2, ![2048, 512]⟩
abbrev S2176x512 : Shape := ⟨2, ![2176, 512]⟩

abbrev nBuf : Space → Nat
  | .hbm => 4
  | .vmem => 9
  | .smem => 0
  | _ => 0

abbrev bufTy : (tb : Table) → Fin (tcTables nBuf tb) → BufTy
  | .hbm, ⟨0, _⟩ => ⟨S8704x16384, .bf16⟩
  | .hbm, ⟨1, _⟩ => ⟨S16384x4096, .f32⟩
  | .hbm, ⟨2, _⟩ => ⟨S8704x4096, .f32⟩
  | .hbm, ⟨3, _⟩ => ⟨S8704x4096, .f32⟩
  | .local _ .vmem, ⟨0, _⟩ => ⟨S2176x2048, .bf16⟩
  | .local _ .vmem, ⟨1, _⟩ => ⟨S2176x2048, .bf16⟩
  | .local _ .vmem, ⟨2, _⟩ => ⟨S2048x512, .f32⟩
  | .local _ .vmem, ⟨3, _⟩ => ⟨S2048x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S2176x512, .f32⟩
  | .local _ .vmem, ⟨8, _⟩ => ⟨S2176x512, .f32⟩
  | _, _ => ⟨S8704x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8704x16384 : Shape := ⟨2, ![8704, 16384]⟩
abbrev S16384x4096 : Shape := ⟨2, ![16384, 4096]⟩
abbrev S8704x4096 : Shape := ⟨2, ![8704, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x16384, .bf16⟩
  | .hbm, ⟨1, _⟩ => ⟨S16384x4096, .f32⟩
  | .hbm, ⟨2, _⟩ => ⟨S8704x4096, .f32⟩
  | .hbm, ⟨3, _⟩ => ⟨S8704x16384, .f32⟩
  | .hbm, ⟨4, _⟩ => ⟨S8704x4096, .f32⟩
  | .hbm, ⟨5, _⟩ => ⟨S8704x4096, .f32⟩
  | _, _ => ⟨S8704x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8704x4096 : Shape := ⟨2, ![8704, 4096]⟩
abbrev S4096x16384 : Shape := ⟨2, ![4096, 16384]⟩
abbrev S8704x16384 : Shape := ⟨2, ![8704, 16384]⟩
abbrev S1088x4096 : Shape := ⟨2, ![1088, 4096]⟩
abbrev S512x1024 : Shape := ⟨2, ![512, 1024]⟩
abbrev S1088x1024 : Shape := ⟨2, ![1088, 1024]⟩
abbrev S2x4096x1024 : Shape := ⟨3, ![2, 4096, 1024]⟩
abbrev S1x512x1024 : Shape := ⟨3, ![1, 512, 1024]⟩
abbrev S1x4096x512 : Shape := ⟨3, ![1, 4096, 512]⟩
abbrev S4096x512 : Shape := ⟨2, ![4096, 512]⟩
abbrev S1088x512 : Shape := ⟨2, ![1088, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S4096x16384, .f32⟩
  | .hbm, ⟨2, _⟩ => ⟨S8704x16384, .bf16⟩
  | .local _ .vmem, ⟨0, _⟩ => ⟨S1088x4096, .bf16⟩
  | .local _ .vmem, ⟨1, _⟩ => ⟨S1088x4096, .bf16⟩
  | .local _ .vmem, ⟨2, _⟩ => ⟨S512x1024, .f32⟩
  | .local _ .vmem, ⟨3, _⟩ => ⟨S512x1024, .f32⟩
  | .local _ .vmem, ⟨4, _⟩ => ⟨S1088x1024, .bf16⟩
  | .local _ .vmem, ⟨5, _⟩ => ⟨S1088x1024, .bf16⟩
  | .local _ .vmem, ⟨6, _⟩ => ⟨S2x4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let arg0 : BitVec 32 := BitVec.ofNat 32 (i 0).val
  let c2_i32 : BitVec 32 := 2#32
  let c0_i32 : BitVec 32 := 0#32
  let v4 : BitVec 1 := Scalar.cmpi .eq c2_i32 c0_i32
  let c1_i32 : BitVec 32 := 1#32
  let v5 : BitVec 32 := Scalar.select v4 c1_i32 c2_i32
  let v6 : BitVec 32 := Scalar.remsi arg0 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v14 : Index := Scalar.indexCast v13
  let arg1 : BitVec 32 := BitVec.ofNat 32 (i 1).val
  let c512_i32 : BitVec 32 := 512#32
  let v0 : BitVec 32 := Scalar.muli arg1 c512_i32
  let v1 : BitVec 32 := v0
  let v15 : Index := Scalar.indexCast v1
  let c0_4 : Index := 0#32
  ![v14.toNat, v15.toNat, 0]
def k0_cond1 (i : grid0.Coords) : BitVec 1 :=
  let arg0 : BitVec 32 := BitVec.ofNat 32 (i 0).val
  let c0_i32_5 : BitVec 32 := 0#32
  let v19 : BitVec 1 := Scalar.cmpi .sgt arg0 c0_i32_5
  let v20 : BitVec 32 := Scalar.extui v19
  let c0_i32_6 : BitVec 32 := 0#32
  let v21 : BitVec 1 := Scalar.cmpi .ne v20 c0_i32_6
  v21

def k0_off2 (i : grid0.Coords) : Fin 3 → Nat :=
  let arg0 : BitVec 32 := BitVec.ofNat 32 (i 0).val
  let c1_i32_7 : BitVec 32 := 1#32
  let v22 : BitVec 32 := Scalar.subi arg0 c1_i32_7
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi v22 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let v34 : Index := Scalar.indexCast v32
  let c0_16 : Index := 0#32
  let c0_17 : Index := 0#32
  ![v34.toNat, 0, 0]
def k0_off3 (i : grid0.Coords) : Fin 3 → Nat :=
  let arg0 : BitVec 32 := BitVec.ofNat 32 (i 0).val
  let c1_i32_7 : BitVec 32 := 1#32
  let v22 : BitVec 32 := Scalar.subi arg0 c1_i32_7
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi v22 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let v43 : Index := Scalar.indexCast v32
  let c0_21 : Index := 0#32
  let c512 : Index := 512#32
  ![v43.toNat, 0, 512]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  let c0_i32_3 : BitVec 32 := 0#32
  ![v3.toNat, c0_i32_2.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let v1 : BitVec 32 := Scalar.addi c0_i32 v0
  let c0_i32_0 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v3.toNat, v1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x4096 : Shape := ⟨2, ![8704, 4096]⟩
abbrev S4096x16384 : Shape := ⟨2, ![4096, 16384]⟩
abbrev S8704x16384 : Shape := ⟨2, ![8704, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x16384, .f32⟩
  | .hbm, ⟨2, _⟩ => ⟨S8704x4096, .f32⟩
  | .hbm, ⟨3, _⟩ => ⟨S8704x16384, .f32⟩
  | .hbm, ⟨4, _⟩ => ⟨S_, .f32⟩
  | .hbm, ⟨5, _⟩ => ⟨S8704x16384, .f32⟩
  | .hbm, ⟨6, _⟩ => ⟨S8704x16384, .f32⟩
  | .hbm, ⟨7, _⟩ => ⟨S8704x16384, .f32⟩
  | .hbm, ⟨8, _⟩ => ⟨S8704x16384, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S512x4096 : Shape := ⟨2, ![512, 4096]⟩
abbrev S4096x1024 : Shape := ⟨2, ![4096, 1024]⟩
abbrev S512x1024 : Shape := ⟨2, ![512, 1024]⟩
abbrev S4096x512 : Shape := ⟨2, ![4096, 512]⟩
abbrev S512x512 : Shape := ⟨2, ![512, 512]⟩
abbrev S2x256x4x128 : Shape := ⟨4, ![2, 256, 4, 128]⟩

abbrev nBuf : Space → Nat
  | .hbm => 7
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S512x1024, .f32⟩
  | .hbm, ⟨3, _⟩ => ⟨S512x512, .f32⟩
  | .hbm, ⟨4, _⟩ => ⟨S2x256x4x128, .f32⟩
  | .hbm, ⟨5, _⟩ => ⟨S512x512, .f32⟩
  | .hbm, ⟨6, _⟩ => ⟨S2x256x4x128, .f32⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S4096x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S512x4096 : Shape := ⟨2, ![512, 4096]⟩
abbrev S4096x1024 : Shape := ⟨2, ![4096, 1024]⟩
abbrev S512x1024 : Shape := ⟨2, ![512, 1024]⟩
abbrev S512x512 : Shape := ⟨2, ![512, 512]⟩
abbrev S2x256x4x128 : Shape := ⟨4, ![2, 256, 4, 128]⟩

abbrev nBuf : Space → Nat
  | .hbm => 8
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S512x4096, .f32⟩
  | .hbm, ⟨3, _⟩ => ⟨S512x1024, .f32⟩
  | .hbm, ⟨4, _⟩ => ⟨S512x512, .f32⟩
  | .hbm, ⟨5, _⟩ => ⟨S2x256x4x128, .f32⟩
  | .hbm, ⟨6, _⟩ => ⟨S512x512, .f32⟩
  | .hbm, ⟨7, _⟩ => ⟨S2x256x4x128, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8704x4096 : Shape := ⟨2, ![8704, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S512x4096 : Shape := ⟨2, ![512, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S1x4096, .f32⟩
  | .hbm, ⟨3, _⟩ => ⟨S512x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S512x4096 : Shape := ⟨2, ![512, 4096]⟩
abbrev S4096 : Shape := ⟨1, ![4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096, .f32⟩
  | .hbm, ⟨2, _⟩ => ⟨S512x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x4096, .f32⟩
  | .hbm, ⟨14, _⟩ => ⟨S512x4096, .f32⟩
  | .hbm, ⟨15, _⟩ => ⟨S1x4096, .f32⟩
  | .hbm, ⟨16, _⟩ => ⟨S512x4096, .f32⟩
  | .hbm, ⟨17, _⟩ => ⟨S512x4096, .f32⟩
  | .hbm, ⟨18, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S8704x4096 : Shape := ⟨2, ![8704, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8704x4096 : Shape := ⟨2, ![8704, 4096]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8704x4096, .f32⟩
  | .hbm, ⟨3, _⟩ => ⟨S_, .f32⟩
  | .hbm, ⟨4, _⟩ => ⟨S8704, .f32⟩
  | .hbm, ⟨5, _⟩ => ⟨S8704x1, .f32⟩
  | .hbm, ⟨6, _⟩ => ⟨S_, .f32⟩
  | .hbm, ⟨7, _⟩ => ⟨S8704x1, .f32⟩
  | .hbm, ⟨8, _⟩ => ⟨S8704x1, .f32⟩
  | .hbm, ⟨9, _⟩ => ⟨S_, .f32⟩
  | .hbm, ⟨10, _⟩ => ⟨S8704x1, .f32⟩
  | .hbm, ⟨11, _⟩ => ⟨S8704x1, .f32⟩
  | .hbm, ⟨12, _⟩ => ⟨S8704x1, .f32⟩
  | .hbm, ⟨13, _⟩ => ⟨S8704x4096, .f32⟩
  | .hbm, ⟨14, _⟩ => ⟨S8704x4096, .f32⟩
  | .hbm, ⟨15, _⟩ => ⟨S1x4096, .f32⟩
  | .hbm, ⟨16, _⟩ => ⟨S8704x4096, .f32⟩
  | .hbm, ⟨17, _⟩ => ⟨S8704x4096, .f32⟩
  | .hbm, ⟨18, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S8192x4096 : Shape := ⟨2, ![8192, 4096]⟩
abbrev S512x4096 : Shape := ⟨2, ![512, 4096]⟩
abbrev S4096 : Shape := ⟨1, ![4096]⟩
abbrev S1x4096 : Shape := ⟨2, ![1, 4096]⟩
abbrev S8704x4096 : Shape := ⟨2, ![8704, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S4096, .f32⟩
  | .hbm, ⟨3, _⟩ => ⟨S1x4096, .f32⟩
  | .hbm, ⟨4, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x4096 : Shape := ⟨2, ![8192, 4096]⟩
abbrev S512x4096 : Shape := ⟨2, ![512, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S512 : Shape := ⟨1, ![512]⟩
abbrev S512x1 : Shape := ⟨2, ![512, 1]⟩
abbrev S1x4096 : Shape := ⟨2, ![1, 4096]⟩
abbrev S8704x4096 : Shape := ⟨2, ![8704, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S512x4096, .f32⟩
  | .hbm, ⟨17, _⟩ => ⟨S_, .f32⟩
  | .hbm, ⟨18, _⟩ => ⟨S512, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S512x1, .f32⟩
  | .hbm, ⟨27, _⟩ => ⟨S512x4096, .f32⟩
  | .hbm, ⟨28, _⟩ => ⟨S512x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S1x4096, .f32⟩
  | .hbm, ⟨33, _⟩ => ⟨S512x4096, .f32⟩
  | .hbm, ⟨34, _⟩ => ⟨S512x4096, .f32⟩
  | .hbm, ⟨35, _⟩ => ⟨S8704x4096, .f32⟩
  | .hbm, ⟨36, _⟩ => ⟨S8704x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Proof.Narrow.Body.lean ====
/-
  The narrow projection pair (gate columns and cross-attention query columns): what one grid point's body leaves in
  the two output tiles and in the two weight scratches, as the named products of the blocks it read.
-/
module

public import proofs.«01_k».proof.Proof.Gen.Kernel2Ideal.Frame
public import Idealize.ShloMosaic.Lib.Pipeline.Value
public import Idealize.ShloMosaic.Lib.Tactic

@[expose] public section

set_option maxRecDepth 16384

noncomputable section

namespace Cert.Narrow

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem offs_zero : (![0, 0] : Fin 2 → Nat) = fun _ => 0 := funext fun a => by fin_cases a <;> rfl

section Cases
variable (c : Dev nD) (i : grid0.Coords)
  (b1 : Memref sig .tc .vmem S1088x4096 .bf16) (w1 : b1.IsWhole) (b2 : Memref sig .tc .vmem S16x4096 .f32) (w2 : b2.IsWhole)
  (b3 : Memref sig .tc .vmem S512x4096 .f32) (w3 : b3.IsWhole) (b4 : Memref sig .tc .vmem S1088x16 .f32) (w4 : b4.IsWhole)
  (b5 : Memref sig .tc .vmem S1088x512 .f32) (w5 : b5.IsWhole) (b6 : Memref sig .tc .vmem S16x4096 .bf16) (w6 : b6.IsWhole)
  (b7 : Memref sig .tc .vmem S512x4096 .bf16) (w7 : b7.IsWhole)
  (x : Vec F S1088x4096 .bf16) (g : Vec F S16x4096 .f32) (q : Vec F S512x4096 .f32)
  (sg : Vec F S16x4096 .bf16) (sq : Vec F S512x4096 .bf16)

/-- The first point rounds the gate rows of the weight into the first scratch … -/
theorem first_scratch_gates (h : cond0_0 i) :
    sout0_A_0 c i b1 w1 b2 w2 b3 w3 b4 w4 b5 w5 b6 w6 b7 w7 h x g q = k0_pay1 g := by
  unfold sout0_A_0
  rw [View.read_writes_eq_canon _ _ _ (scover0_A_0 c i b1 w1 b2 w2 b3 w3 b4 w4 b5 w5 b6 w6 b7 w7 h x g q)]
  unfold kernelRun0_A
  dsimp only
  sl_unfold_words
  rw [View.canon_unit_zero offs_zero]
  simp only [View.readAt_eq_ld, w2.read_unread, View.ld_unit_zero (S := S16x4096) offs_zero]

/-- … and the query rows into the second. -/
theorem first_scratch_query (h : cond0_0 i) :
    sout0_A_1 c i b1 w1 b2 w2 b3 w3 b4 w4 b5 w5 b6 w6 b7 w7 h x g q = k0_pay2 q := by
  unfold sout0_A_1
  rw [View.read_writes_eq_canon _ _ _ (scover0_A_1 c i b1 w1 b2 w2 b3 w3 b4 w4 b5 w5 b6 w6 b7 w7 h x g q)]
  unfold kernelRun0_A
  dsimp only
  sl_unfold_words
  rw [View.canon_unit_zero offs_zero]
  simp only [View.readAt_eq_ld, w3.read_unread, View.ld_unit_zero (S := S512x4096) offs_zero]

theorem first_gates (h : cond0_0 i) :
    out0_A_3 c i b1 w1 b2 w2 b3 w3 b4 w4 b5 w5 b6 w6 b7 w7 h x g q = k0_pay3 x (k0_pay1 g) := by
  unfold out0_A_3
  rw [View.read_writes_eq_canon _ _ _ (cover0_A_3 c i b1 w1 b2 w2 b3 w3 b4 w4 b5 w5 b6 w6 b7 w7 h x g q)]
  unfold kernelRun0_A
  dsimp only
  sl_unfold_words
  rw [View.canon_unit_zero offs_zero]
  simp only [View.readAt_eq_ld, w1.read_unread, w2.read_unread, View.ld_unit_zero (S := S1088x4096) offs_zero,
    View.ld_unit_zero (S := S16x4096) offs_zero, View.readCov_unit_zero (S := S16x4096) _ offs_zero]

theorem first_query (h : cond0_0 i) :
    out0_A_4 c i b1 w1 b2 w2 b3 w3 b4 w4 b5 w5 b6 w6 b7 w7 h x g q = k0_pay4 x (k0_pay2 q) := by
  unfold out0_A_4
  rw [View.read_writes_eq_canon _ _ _ (cover0_A_4 c i b1 w1 b2 w2 b3 w3 b4 w4 b5 w5 b6 w6 b7 w7 h x g q)]
  unfold kernelRun0_A
  dsimp only
  sl_unfold_words
  rw [View.canon_unit_zero offs_zero]
  simp only [View.readAt_eq_ld, w1.read_unread, w3.read_unread, View.ld_unit_zero (S := S1088x4096) offs_zero,
    View.ld_unit_zero (S := S512x4096) offs_zero, View.readCov_unit_zero (S := S512x4096) _ offs_zero]

/-- A later point reads the scratches back. -/
theorem later_gates (h : ¬cond0_0 i) :
    out0_B_3 c i b1 w1 b2 w2 b3 w3 b4 w4 b5 w5 b6 w6 b7 w7 h x g q sg sq = k0_pay3 x sg := by
  unfold out0_B_3
  rw [View.read_writes_eq_canon _ _ _ (cover0_B_3 c i b1 w1 b2 w2 b3 w3 b4 w4 b5 w5 b6 w6 b7 w7 h x g q sg sq)]
  unfold kernelRun0_B
  dsimp only
  rw [View.canon_unit_zero offs_zero]
  simp only [View.readAt_eq_ld, w1.read_unread, w6.read_unread, View.ld_unit_zero (S := S1088x4096) offs_zero,
    View.ld_unit_zero (S := S16x4096) offs_zero]

theorem later_query (h : ¬cond0_0 i) :
    out0_B_4 c i b1 w1 b2 w2 b3 w3 b4 w4 b5 w5 b6 w6 b7 w7 h x g q sg sq = k0_pay4 x sq := by
  unfold out0_B_4
  rw [View.read_writes_eq_canon _ _ _ (cover0_B_4 c i b1 w1 b2 w2 b3 w3 b4 w4 b5 w5 b6 w6 b7 w7 h x g q sg sq)]
  unfold kernelRun0_B
  dsimp only
  rw [View.canon_unit_zero offs_zero]
  simp only [View.readAt_eq_ld, w1.read_unread, w7.read_unread, View.ld_unit_zero (S := S1088x4096) offs_zero,
    View.ld_unit_zero (S := S512x4096) offs_zero]

theorem later_scratch_gates (h : ¬cond0_0 i) :
    sout0_B_0 c i b1 w1 b2 w2 b3 w3 b4 w4 b5 w5 b6 w6 b7 w7 h x g q sg sq = sg := by
  unfold sout0_B_0
  rfl

theorem later_scratch_query (h : ¬cond0_0 i) :
    sout0_B_1 c i b1 w1 b2 w2 b3 w3 b4 w4 b5 w5 b6 w6 b7 w7 h x g q sg sq = sq := by
  unfold sout0_B_1
  rfl
end Cases

/-- The point the weight rows are rounded at. -/
abbrev start : Fin cfg0.N := ⟨0, by rw [show cfg0.N = 8 from N_0]; decide⟩

/-- So after every point the scratches hold the rounded weight rows of the first one … -/
theorem scratch_eq (c : Dev nD) : ∀ (n : ℕ) (t : Fin cfg0.N), t.val = n →
    (outsAt0 m c t.val t.isLt).2.2.1 = k0_pay1 (iblk m c 1 start)
    ∧ (outsAt0 m c t.val t.isLt).2.2.2 = k0_pay2 (iblk m c 2 start)
  | 0, t, ht => by
    obtain rfl : t = start := Fin.ext ht
    rw [outsAt0_A m c start (Nat.zero_mod 8)]
    dsimp only
    exact ⟨by rw [first_scratch_gates], by rw [first_scratch_query]⟩
  | n + 1, t, ht => by
    have hN : cfg0.N = 8 := N_0
    have hlt := t.isLt
    have hB : ¬t.val % 8 = 0 := by omega
    have ih := scratch_eq c n ⟨t.val - 1, by omega⟩ (by show t.val - 1 = n; omega)
    rw [outsAt0_B m c t hB]
    dsimp only at ih ⊢
    exact ⟨by rw [later_scratch_gates]; exact ih.1, by rw [later_scratch_query]; exact ih.2⟩

/-- … and each point's two tiles are its rows of `h` against them. -/
theorem tiles_eq (c : Dev nD) (t : Fin cfg0.N) :
    (outsAt0 m c t.val t.isLt).1 = k0_pay3 (iblk m c 0 t) (k0_pay1 (iblk m c 1 start))
    ∧ (outsAt0 m c t.val t.isLt).2.1 = k0_pay4 (iblk m c 0 t) (k0_pay2 (iblk m c 2 start)) := by
  have hN : cfg0.N = 8 := N_0
  have hlt := t.isLt
  by_cases h : t.val % 8 = 0
  · obtain rfl : t = start := Fin.ext (by show t.val = 0; omega)
    rw [outsAt0_A m c start h]
    dsimp only
    exact ⟨by rw [first_gates], by rw [first_query]⟩
  · have hs := scratch_eq m c (t.val - 1) ⟨t.val - 1, by omega⟩ rfl
    rw [outsAt0_B m c t h]
    dsimp only at hs ⊢
    exact ⟨by rw [later_gates, hs.1], by rw [later_query, hs.2]⟩

end Cert.Narrow

end
-- ==== Proof.Narrow.Value.lean ====
/-
  The narrow projection pair at the extended reals: the two result arrays are column ranges of the product `h · w`,
  entry by entry, which is what the reference's sliced product is.
-/
module

public import proofs.«01_k».proof.Proof.Narrow.Body
public import proofs.«01_k».proof.Proof.Gen.Reference2Ideal.Run
public import Idealize.ShloMosaic.Lib.Pointwise
public import Idealize.ShloMosaic.Lib.ValueIdx
public import Idealize.ShloMosaic.Lib.StableHlo.Run

@[expose] public section

set_option maxRecDepth 16384

noncomputable section

namespace Cert.Narrow

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals. -/
abbrev hArg (c : Dev nD) : S8704x4096.Idx → Ideal .bf16 := m ((c : Thread nD τ).loc main_arg0)
abbrev wArg (c : Dev nD) : S4096x34320.Idx → Ideal .f32 := m ((c : Thread nD τ).loc main_arg1)

/-- The host transposes the weight before the call. -/
theorem V_weight (c : Dev nD) :
    V m c main_v0 = transpose S34320x4096 [1, 0] (wArg m c) transposes_S4096x34320_S34320x4096_1_0 := by
  unfold V
  after_results

/-- A row of the input tile at point `t` is row `1088 t + r` of `h`. -/
theorem input_apply (c : Dev nD) (t : Fin cfg0.N) (r : Fin 1088) (k : Fin 4096) (h : 1088 * t.val + r.val < 8704) :
    (iblk m c 0 t : S1088x4096.Idx → Ideal .bf16) (ix2 r k) = hArg m c (ix2 ⟨1088 * t.val + r.val, h⟩ k) := by
  have e : win0_0.index t 0 = t.val ∧ win0_0.index t 1 = 0 :=
    (by decide +kernel : ∀ t : Fin grid0.N, win0_0.index t 0 = t.val ∧ win0_0.index t 1 = 0) t
  unfold iblk
  rw [View.read_apply]
  show V m c main_arg0 _ = _
  rw [V_main_arg0]
  refine congrArg (hArg m c) (funext fun a => Fin.ext ?_)
  match a with
  | ⟨0, _⟩ => show win0_0.index t 0 * 1088 + 1 * r.val = 1088 * t.val + r.val; rw [e.1]; omega
  | ⟨1, _⟩ => show win0_0.index t 1 * 4096 + 1 * k.val = k.val; rw [e.2]; omega

/-- Row `g` of the gate rows of the transposed weight is column `12288 + g` of the weight. -/
theorem gates_apply (c : Dev nD) (t : Fin cfg0.N) (g : Fin 16) (k : Fin 4096) :
    (iblk m c 1 t : S16x4096.Idx → Ideal .f32) (ix2 g k) = wArg m c (ix2 k ⟨12288 + g.val, by omega⟩) := by
  have e : win0_1.index t 0 = 12288 ∧ win0_1.index t 1 = 0 :=
    (by decide +kernel : ∀ t : Fin grid0.N, win0_1.index t 0 = 12288 ∧ win0_1.index t 1 = 0) t
  unfold iblk
  rw [View.read_apply]
  show V m c main_v0 _ = _
  rw [V_weight]
  show wArg m c _ = _
  refine congrArg (wArg m c) (funext fun a => Fin.ext ?_)
  match a with
  | ⟨0, _⟩ => show win0_1.index t 1 + 1 * k.val = k.val; rw [e.2]; omega
  | ⟨1, _⟩ => show win0_1.index t 0 + 1 * g.val = 12288 + g.val; rw [e.1]; omega

/-- Row `g` of the query rows of the transposed weight is column `21520 + g` of the weight. -/
theorem query_apply (c : Dev nD) (t : Fin cfg0.N) (g : Fin 512) (k : Fin 4096) :
    (iblk m c 2 t : S512x4096.Idx → Ideal .f32) (ix2 g k) = wArg m c (ix2 k ⟨21520 + g.val, by omega⟩) := by
  have e : win0_2.index t 0 = 21520 ∧ win0_2.index t 1 = 0 :=
    (by decide +kernel : ∀ t : Fin grid0.N, win0_2.index t 0 = 21520 ∧ win0_2.index t 1 = 0) t
  unfold iblk
  rw [View.read_apply]
  show V m c main_v0 _ = _
  rw [V_weight]
  show wArg m c _ = _
  refine congrArg (wArg m c) (funext fun a => Fin.ext ?_)
  match a with
  | ⟨0, _⟩ => show win0_2.index t 1 + 1 * k.val = k.val; rw [e.2]; omega
  | ⟨1, _⟩ => show win0_2.index t 0 + 1 * g.val = 21520 + g.val; rw [e.1]; omega

/-- What column `j` of row `i` of the product `h · w` is. -/
def prod (c : Dev nD) (i : Fin 8704) (j : Fin 34320) : EReal :=
  ∑ k : Fin 4096, hArg m c (ix2 i k) * wArg m c (ix2 k j)

theorem gates_tile (c : Dev nD) (t : Fin cfg0.N) (r : Fin 1088) (g : Fin 16) (h : 1088 * t.val + r.val < 8704) :
    (outsAt0 m c t.val t.isLt).1 (ix2 r g) = prod m c ⟨1088 * t.val + r.val, h⟩ ⟨12288 + g.val, by omega⟩ := by
  rw [(tiles_eq m c t).1]
  pointwise [k0_pay3, k0_pay1]
  exact Finset.sum_congr rfl fun k _ => congrArg₂ (· * ·) (input_apply m c t r k h) (gates_apply m c start g k)

theorem query_tile (c : Dev nD) (t : Fin cfg0.N) (r : Fin 1088) (g : Fin 512) (h : 1088 * t.val + r.val < 8704) :
    (outsAt0 m c t.val t.isLt).2.1 (ix2 r g) = prod m c ⟨1088 * t.val + r.val, h⟩ ⟨21520 + g.val, by omega⟩ := by
  rw [(tiles_eq m c t).2]
  pointwise [k0_pay4, k0_pay2]
  exact Finset.sum_congr rfl fun k _ => congrArg₂ (· * ·) (input_apply m c t r k h) (query_apply m c start g k)

/-- The two results, as columns of the product. -/
def gatesOut (c : Dev nD) : Buf (Elt Ideal) ((c : Thread nD τ).loc main_v1_0) :=
  fun i => prod m c ⟨(i 0).val, (i 0).isLt⟩ ⟨12288 + (i 1).val, by have : (i 1).val < 16 := (i 1).isLt; omega⟩
def queryOut (c : Dev nD) : Buf (Elt Ideal) ((c : Thread nD τ).loc main_v1_1) :=
  fun i => prod m c ⟨(i 0).val, (i 0).isLt⟩ ⟨21520 + (i 1).val, by have : (i 1).val < 512 := (i 1).isLt; omega⟩

theorem index_gates : ∀ t : Fin grid0.N, win0_3.index t 0 = t.val ∧ win0_3.index t 1 = 0 := by decide +kernel
theorem index_query : ∀ t : Fin grid0.N, win0_4.index t 0 = t.val ∧ win0_4.index t 1 = 0 := by decide +kernel
theorem flush_gates : ∀ t : Fin grid0.N, win0_3.flush t = true := by decide +kernel
theorem flush_query : ∀ t : Fin grid0.N, win0_4.flush t = true := by decide +kernel

theorem flushed_gates (c : Dev nD) (t : Fin cfg0.N) :
    (dats m 0 c).flushed 3 t = ((cfg0.win 3).blk t).view.read (Elt Ideal) (gatesOut m c) := by
  have hN : cfg0.N = 8 := N_0
  have ht := t.isLt
  have e := index_gates t
  funext y
  have hy0 : (y 0).val < 1088 := (y 0).isLt
  have hy1 : (y 1).val < 16 := (y 1).isLt
  rw [View.read_apply]
  show (dats m 0 c).after 3 t ((cfg0.win 3).xinj (grid0.coords t) y) = gatesOut m c (((cfg0.win 3).blk t).view.emb y)
  rw [after0_3]
  have hx : (cfg0.win 3).xinj (grid0.coords t) y = ix2 (⟨(y 0).val, hy0⟩ : Fin 1088) (⟨(y 1).val, hy1⟩ : Fin 16) := by
    funext a; apply Fin.ext
    match a with
    | ⟨0, _⟩ => rfl
    | ⟨1, _⟩ => rfl
  rw [hx, gates_tile m c t _ _ (by dsimp only; omega)]
  unfold gatesOut
  refine congrArg₂ (prod m c) (Fin.ext ?_) (Fin.ext ?_)
  · show 1088 * t.val + (y 0).val = win0_3.index t 0 * 1088 + 1 * (y 0).val
    rw [e.1]; omega
  · show 12288 + (y 1).val = 12288 + (win0_3.index t 1 * 16 + 1 * (y 1).val)
    rw [e.2]; omega

theorem flushed_query (c : Dev nD) (t : Fin cfg0.N) :
    (dats m 0 c).flushed 4 t = ((cfg0.win 4).blk t).view.read (Elt Ideal) (queryOut m c) := by
  have hN : cfg0.N = 8 := N_0
  have ht := t.isLt
  have e := index_query t
  funext y
  have hy0 : (y 0).val < 1088 := (y 0).isLt
  have hy1 : (y 1).val < 512 := (y 1).isLt
  rw [View.read_apply]
  show (dats m 0 c).after 4 t ((cfg0.win 4).xinj (grid0.coords t) y) = queryOut m c (((cfg0.win 4).blk t).view.emb y)
  rw [after0_4]
  have hx : (cfg0.win 4).xinj (grid0.coords t) y = ix2 (⟨(y 0).val, hy0⟩ : Fin 1088) (⟨(y 1).val, hy1⟩ : Fin 512) := by
    funext a; apply Fin.ext
    match a with
    | ⟨0, _⟩ => rfl
    | ⟨1, _⟩ => rfl
  rw [hx, query_tile m c t _ _ (by dsimp only; omega)]
  unfold queryOut
  refine congrArg₂ (prod m c) (Fin.ext ?_) (Fin.ext ?_)
  · show 1088 * t.val + (y 0).val = win0_4.index t 0 * 1088 + 1 * (y 0).val
    rw [e.1]; omega
  · show 21520 + (y 1).val = 21520 + (win0_4.index t 1 * 512 + 1 * (y 1).val)
    rw [e.2]; omega

theorem covered_gates (i : S8704x16.Idx) : ∃ t : Fin cfg0.N, (cfg0.win 3).flush t = true ∧ i ∈ ((cfg0.win 3).blk t).view.set := by
  have hN : cfg0.N = 8 := N_0
  have h0 : (i 0).val < 8704 := (i 0).isLt
  have h1 : (i 1).val < 16 := (i 1).isLt
  obtain ⟨t, ht⟩ : ∃ t : Fin cfg0.N, t.val = (i 0).val / 1088 := ⟨⟨(i 0).val / 1088, by rw [hN]; omega⟩, rfl⟩
  have e := index_gates t
  refine ⟨t, flush_gates t, ?_⟩
  show i ∈ ((View.whole main_v1_0).slice (win0_3.rect t)).set
  rw [View.set_slice_whole, Rect.mem_set_unit]
  intro a
  match a with
  | ⟨0, _⟩ => show win0_3.index t 0 * 1088 ≤ (i 0).val ∧ (i 0).val < win0_3.index t 0 * 1088 + 1088
              rw [e.1]; omega
  | ⟨1, _⟩ => show win0_3.index t 1 * 16 ≤ (i 1).val ∧ (i 1).val < win0_3.index t 1 * 16 + 16
              rw [e.2]; omega

theorem final_gates (c : Dev nD) : (dats m 0 c).arrAt 3 cfg0.N = gatesOut m c :=
  (dats m 0 c).arrAt_eq_of_cover 3 _ (fun t _ => flushed_gates m c t) covered_gates

theorem covered_query (i : S8704x512.Idx) : ∃ t : Fin cfg0.N, (cfg0.win 4).flush t = true ∧ i ∈ ((cfg0.win 4).blk t).view.set := by
  have hN : cfg0.N = 8 := N_0
  have h0 : (i 0).val < 8704 := (i 0).isLt
  have h1 : (i 1).val < 512 := (i 1).isLt
  obtain ⟨t, ht⟩ : ∃ t : Fin cfg0.N, t.val = (i 0).val / 1088 := ⟨⟨(i 0).val / 1088, by rw [hN]; omega⟩, rfl⟩
  have e := index_query t
  refine ⟨t, flush_query t, ?_⟩
  show i ∈ ((View.whole main_v1_1).slice (win0_4.rect t)).set
  rw [View.set_slice_whole, Rect.mem_set_unit]
  intro a
  match a with
  | ⟨0, _⟩ => show win0_4.index t 0 * 1088 ≤ (i 0).val ∧ (i 0).val < win0_4.index t 0 * 1088 + 1088
              rw [e.1]; omega
  | ⟨1, _⟩ => show win0_4.index t 1 * 512 ≤ (i 1).val ∧ (i 1).val < win0_4.index t 1 * 512 + 512
              rw [e.2]; omega

theorem final_query (c : Dev nD) : (dats m 0 c).arrAt 4 cfg0.N = queryOut m c :=
  (dats m 0 c).arrAt_eq_of_cover 4 _ (fun t _ => flushed_query m c t) covered_query

/-- The kernel's run with its two results named. -/
theorem run (ρ : Dev nD → PrngReg) :
    θ_run defs (onTc (τ := τ) (main (F := Ideal))) ⟨m, fun _ => 0, ρ⟩ fun r => ∀ c : Dev nD,
      r.2.mem ((c : Thread nD τ).loc main_v1_0) = gatesOut m c
      ∧ r.2.mem ((c : Thread nD τ).loc main_v1_1) = queryOut m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final_gates m c), ((h c).1 4).trans (final_query m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

/-! ## The reference: the same columns of the same product -/

theorem ref_gates (x : S8704x4096.Idx → Ideal .bf16) (w : S4096x34320.Idx → Ideal .f32) (i : S8704x16.Idx) :
    extractStridedSlice Cert.Reference2Ideal.S8704x16 ![0, 12288]
        (Host.dotGeneral (φ₁ := .f32) (φ₂ := .f32) Cert.Reference2Ideal.dot_S8704x4096_S4096x34320_S8704x34320_1_0_0_1_n_n none
          (extf .f32 x bitsLt_bf16_f32) w) Cert.Reference2Ideal.Gen.slices_S8704x34320_S8704x16_0_12288 i
      = ∑ k : Fin 4096, x (ix2 ⟨(i 0).val, (i 0).isLt⟩ k)
          * w (ix2 k ⟨12288 + (i 1).val, by have : (i 1).val < 16 := (i 1).isLt; omega⟩) := by
  pointwise

theorem ref_query (x : S8704x4096.Idx → Ideal .bf16) (w : S4096x34320.Idx → Ideal .f32) (i : S8704x512.Idx) :
    extractStridedSlice Cert.Reference2Ideal.S8704x512 ![0, 21520]
        (Host.dotGeneral (φ₁ := .f32) (φ₂ := .f32) Cert.Reference2Ideal.dot_S8704x4096_S4096x34320_S8704x34320_1_0_0_1_n_n none
          (extf .f32 x bitsLt_bf16_f32) w) Cert.Reference2Ideal.Gen.slices_S8704x34320_S8704x512_0_21520 i
      = ∑ k : Fin 4096, x (ix2 ⟨(i 0).val, (i 0).isLt⟩ k)
          * w (ix2 k ⟨21520 + (i 1).val, by have : (i 1).val < 512 := (i 1).isLt; omega⟩) := by
  pointwise

end Cert.Narrow

end
-- ==== Proof.Narrow.Claims.lean ====
/-
  The claims about the narrow projection pair: the three frames, and that kernel and reference compute the same columns.
-/
module

public import proofs.«01_k».proof.Defs
public import proofs.«01_k».proof.Proof.Narrow.Value
public import proofs.«01_k».proof.Proof.Gen.Kernel2.Frame
public import Idealize.ShloMosaic.Lib.Quiescent

@[expose] public section

set_option maxRecDepth 16384

noncomputable section

namespace Cert.Narrow

open Idealize.ShloMosaic Idealize.ShloMosaic.TcCoe Idealize.SL.Sem

theorem frame_kernel : Cert.quiescent_Kernel2 := fun m ρ _ => Cert.Kernel2.Gen.frame m ρ
theorem frame_kernel_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨gatesOut m, queryOut m, run m ρ, ?_⟩
  refine (θ_run Cert.Reference2Ideal.defs _ _).mono (fun _ h c => ?_) (Cert.Reference2Ideal.Value.run (F := Ideal) m' ρ')
  have hc := h c
  rw [(hagree c).1, (hagree c).2] at hc
  refine ⟨hc.1.trans ?_, hc.2.1.trans ?_, (h c).2.2⟩
  · funext i
    exact ref_gates (hArg m c) (wArg m c) i
  · funext i
    exact ref_query (hArg m c) (wArg m c) i

end Cert.Narrow

end
-- ==== Proof.Down.Body.lean ====
/-
  The down projection of the MLP: what one grid point's body leaves in the accumulator and, at the last inner block, in
  the output tile, as the named products of the blocks it read.
-/
module

public import proofs.«01_k».proof.Proof.Gen.Kernel3Ideal.Frame
public import Idealize.ShloMosaic.Lib.Pipeline.Value
public import Idealize.ShloMosaic.Lib.Tactic

@[expose] public section

set_option maxRecDepth 16384

noncomputable section

namespace Cert.Down

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem origin : (![0, 0] : Fin 2 → Nat) = fun _ => 0 := funext fun a => by fin_cases a <;> rfl

section Cases
variable (c : Dev nD) (i : grid0.Coords)
  (b1 : Memref sig .tc .vmem S2176x2048 .bf16) (w1 : b1.IsWhole) (b2 : Memref sig .tc .vmem S2048x512 .f32) (w2 : b2.IsWhole)
  (b3 : Memref sig .tc .vmem S2176x512 .f32) (w3 : b3.IsWhole) (b4 : Memref sig .tc .vmem S2176x512 .f32) (w4 : b4.IsWhole)
  (b5 : Memref sig .tc .vmem S2176x512 .f32) (w5 : b5.IsWhole)
  (u : Vec F S2176x2048 .bf16) (w : Vec F S2048x512 .f32) (x acc : Vec F S2176x512 .f32)

/-- The first inner block sets the accumulator to its product, … -/
theorem acc_first (h0 : cond0_0 i) (h1 : ¬cond0_1 i) (h2 : ¬cond0_2 i) :
    sout0_A_0 c i b1 w1 b2 w2 b3 w3 b4 w4 b5 w5 h0 h1 h2 u w x = k0_pay1 u w := by
  unfold sout0_A_0
  rw [View.read_writes_eq_canon _ _ _ (scover0_A_0 c i b1 w1 b2 w2 b3 w3 b4 w4 b5 w5 h0 h1 h2 u w x)]
  unfold kernelRun0_A
  dsimp only
  sl_unfold_words
  rw [View.canon_unit_zero origin]
  simp only [View.readAt_eq_ld, w1.read_unread, w2.read_unread, View.ld_unit_zero (S := S2176x2048) origin,
    View.ld_unit_zero (S := S2048x512) origin]

/-- … the six in between add theirs, … -/
theorem acc_between (h0 : ¬cond0_0 i) (h1 : cond0_1 i) (h2 : ¬cond0_2 i) :
    sout0_B_0 c i b1 w1 b2 w2 b3 w3 b4 w4 b5 w5 h0 h1 h2 u w x acc = k0_pay2 acc u w := by
  unfold sout0_B_0
  rw [View.read_writes_eq_canon _ _ _ (scover0_B_0 c i b1 w1 b2 w2 b3 w3 b4 w4 b5 w5 h0 h1 h2 u w x acc)]
  unfold kernelRun0_B
  dsimp only
  sl_unfold_words
  rw [View.canon_unit_zero origin]
  simp only [View.readAt_eq_ld, w1.read_unread, w2.read_unread, w5.read_unread, View.ld_unit_zero (S := S2176x2048) origin,
    View.ld_unit_zero (S := S2048x512) origin, View.ld_unit_zero (S := S2176x512) origin]

/-- … and the last one writes the residual tile plus the whole product. -/
theorem tile_last (h0 : ¬cond0_0 i) (h1 : ¬cond0_1 i) (h2 : cond0_2 i) :
    out0_C_3 c i b1 w1 b2 w2 b3 w3 b4 w4 b5 w5 h0 h1 h2 u w x acc = k0_pay3 x acc u w := by
  unfold out0_C_3
  rw [View.read_writes_eq_canon _ _ _ (cover0_C_3 c i b1 w1 b2 w2 b3 w3 b4 w4 b5 w5 h0 h1 h2 u w x acc)]
  unfold kernelRun0_C
  dsimp only
  sl_unfold_words
  rw [View.canon_unit_zero origin]
  simp only [View.readAt_eq_ld, w1.read_unread, w2.read_unread, w3.read_unread, w5.read_unread,
    View.ld_unit_zero (S := S2176x2048) origin, View.ld_unit_zero (S := S2048x512) origin,
    View.ld_unit_zero (S := S2176x512) origin]
end Cases

/-- The accumulator after a point at the first inner block … -/
theorem scratch_first (c : Dev nD) (t : Fin cfg0.N) (h : t.val % 8 = 0) :
    (outsAt0 m c t.val t.isLt).2 = k0_pay1 (iblk m c 0 t) (iblk m c 1 t) := by
  rw [outsAt0_A m c t h (by omega) (by omega)]
  dsimp only
  rw [acc_first]

/-- … after one in between … -/
theorem scratch_between (c : Dev nD) (t : Fin cfg0.N) (h : 1 ≤ t.val % 8 ∧ t.val % 8 ≤ 6) :
    (outsAt0 m c t.val t.isLt).2
      = k0_pay2 (outsAt0 m c (t.val - 1) (Nat.lt_of_le_of_lt (Nat.sub_le _ _) t.isLt)).2 (iblk m c 0 t) (iblk m c 1 t) := by
  rw [outsAt0_B m c t (by omega) h (by omega)]
  dsimp only
  rw [acc_between]

/-- … and the output tile after the last. -/
theorem tile_eq (c : Dev nD) (t : Fin cfg0.N) (h : t.val % 8 = 7) :
    (outsAt0 m c t.val t.isLt).1
      = k0_pay3 (iblk m c 2 t) (outsAt0 m c (t.val - 1) (Nat.lt_of_le_of_lt (Nat.sub_le _ _) t.isLt)).2 (iblk m c 0 t)
          (iblk m c 1 t) := by
  rw [outsAt0_C m c t (by omega) (by omega) h]
  dsimp only
  rw [tile_last]

end Cert.Down

end
-- ==== Proof.Down.Value.lean ====
/-
  The down projection at the extended reals: the sum over the eight inner blocks, taken one after the other, is the whole
  row-by-column sum, so the result is the residual plus the product, entry by entry.
-/
module

public import proofs.«01_k».proof.Proof.Down.Body
public import proofs.«01_k».proof.Proof.Gen.Reference3Ideal.Run
public import Idealize.ShloMosaic.Lib.Pointwise
public import Idealize.ShloMosaic.Lib.ValueIdx
public import Idealize.ShloMosaic.Lib.StableHlo.Run

@[expose] public section

set_option maxRecDepth 16384

noncomputable section

namespace Cert.Down

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The three arguments, as arrays of extended reals: activations, weight, residual. -/
abbrev uArg (c : Dev nD) : S8704x16384.Idx → Ideal .bf16 := m ((c : Thread nD τ).loc main_arg0)
abbrev wArg (c : Dev nD) : S16384x4096.Idx → Ideal .f32 := m ((c : Thread nD τ).loc main_arg1)
abbrev xArg (c : Dev nD) : S8704x4096.Idx → Ideal .f32 := m ((c : Thread nD τ).loc main_arg2)

/-! ## The payloads, entry by entry -/

theorem first_apply (u : S2176x2048.Idx → Ideal .bf16) (w : S2048x512.Idx → Ideal .f32) (r : Fin 2176) (g : Fin 512) :
    k0_pay1 (F := Ideal) u w (ix2 r g) = ∑ k : Fin 2048, u (ix2 r k) * w (ix2 k g) := by
  pointwise [k0_pay1]

theorem between_apply (a : S2176x512.Idx → Ideal .f32) (u : S2176x2048.Idx → Ideal .bf16) (w : S2048x512.Idx → Ideal .f32)
    (r : Fin 2176) (g : Fin 512) :
    k0_pay2 (F := Ideal) a u w (ix2 r g) = a (ix2 r g) + ∑ k : Fin 2048, u (ix2 r k) * w (ix2 k g) := by
  pointwise [k0_pay2]

theorem last_apply (x a : S2176x512.Idx → Ideal .f32) (u : S2176x2048.Idx → Ideal .bf16) (w : S2048x512.Idx → Ideal .f32)
    (r : Fin 2176) (g : Fin 512) :
    k0_pay3 (F := Ideal) x a u w (ix2 r g)
      = x (ix2 r g) + (a (ix2 r g) + ∑ k : Fin 2048, u (ix2 r k) * w (ix2 k g)) := by
  pointwise [k0_pay3]

/-! ## The blocks -/

/-- The row block, the column block and the inner block of a point. -/
theorem index_u : ∀ t : Fin grid0.N, win0_0.index t 0 = t.val / 8 % 4 ∧ win0_0.index t 1 = t.val % 8 := by decide +kernel
theorem index_w : ∀ t : Fin grid0.N, win0_1.index t 0 = t.val % 8 ∧ win0_1.index t 1 = t.val / 32 := by decide +kernel
theorem index_x : ∀ t : Fin grid0.N, win0_2.index t 0 = t.val / 8 % 4 ∧ win0_2.index t 1 = t.val / 32 := by decide +kernel
theorem index_o : ∀ t : Fin grid0.N, win0_3.index t 0 = t.val / 8 % 4 ∧ win0_3.index t 1 = t.val / 32 := by decide +kernel

/-- The row of the arrays that row `r` of the tiles of point `t` is, and the column. -/
abbrev rowOf (t : Fin cfg0.N) (r : Fin 2176) : Fin 8704 := ⟨2176 * (t.val / 8 % 4) + r.val, by omega⟩
abbrev colOf (t : Fin cfg0.N) (g : Fin 512) : Fin 4096 :=
  ⟨512 * (t.val / 32) + g.val, by have : t.val < 256 := lt_of_lt_of_eq t.isLt N_0; omega⟩
abbrev innerOf (t : Fin cfg0.N) (k : Fin 2048) : Fin 16384 := ⟨2048 * (t.val % 8) + k.val, by omega⟩

/-- The two factors' blocks at a point. -/
abbrev uBlock (c : Dev nD) (t : Fin cfg0.N) : S2176x2048.Idx → Ideal .bf16 := iblk m c 0 t
abbrev wBlock (c : Dev nD) (t : Fin cfg0.N) : S2048x512.Idx → Ideal .f32 := iblk m c 1 t

theorem u_apply (c : Dev nD) (t : Fin cfg0.N) (r : Fin 2176) (k : Fin 2048) :
    uBlock m c t (ix2 r k) = uArg m c (ix2 (rowOf t r) (innerOf t k)) := by
  have e := index_u t
  unfold uBlock iblk
  rw [View.read_apply]
  show V m c main_arg0 _ = _
  rw [V_main_arg0]
  refine congrArg (uArg m c) (funext fun a => Fin.ext ?_)
  match a with
  | ⟨0, _⟩ => show win0_0.index t 0 * 2176 + 1 * r.val = 2176 * (t.val / 8 % 4) + r.val; rw [e.1]; omega
  | ⟨1, _⟩ => show win0_0.index t 1 * 2048 + 1 * k.val = 2048 * (t.val % 8) + k.val; rw [e.2]; omega

theorem w_apply (c : Dev nD) (t : Fin cfg0.N) (k : Fin 2048) (g : Fin 512) :
    wBlock m c t (ix2 k g) = wArg m c (ix2 (innerOf t k) (colOf t g)) := by
  have e := index_w t
  unfold wBlock iblk
  rw [View.read_apply]
  show V m c main_arg1 _ = _
  rw [V_main_arg1]
  refine congrArg (wArg m c) (funext fun a => Fin.ext ?_)
  match a with
  | ⟨0, _⟩ => show win0_1.index t 0 * 2048 + 1 * k.val = 2048 * (t.val % 8) + k.val; rw [e.1]; omega
  | ⟨1, _⟩ => show win0_1.index t 1 * 512 + 1 * g.val = 512 * (t.val / 32) + g.val; rw [e.2]; omega

theorem x_apply (c : Dev nD) (t : Fin cfg0.N) (r : Fin 2176) (g : Fin 512) :
    (iblk m c 2 t : S2176x512.Idx → Ideal .f32) (ix2 r g) = xArg m c (ix2 (rowOf t r) (colOf t g)) := by
  have e := index_x t
  unfold iblk
  rw [View.read_apply]
  show V m c main_arg2 _ = _
  rw [V_main_arg2]
  refine congrArg (xArg m c) (funext fun a => Fin.ext ?_)
  match a with
  | ⟨0, _⟩ => show win0_2.index t 0 * 2176 + 1 * r.val = 2176 * (t.val / 8 % 4) + r.val; rw [e.1]; omega
  | ⟨1, _⟩ => show win0_2.index t 1 * 512 + 1 * g.val = 512 * (t.val / 32) + g.val; rw [e.2]; omega

/-! ## The sums -/

/-- The `k`-th addend of row `i` times column `j`; nothing beyond the inner extent. -/
def addend (c : Dev nD) (i : Fin 8704) (j : Fin 4096) (k : ℕ) : EReal :=
  if h : k < 16384 then uArg m c (ix2 i ⟨k, h⟩) * wArg m c (ix2 ⟨k, h⟩ j) else 0

/-- The first `n` addends. -/
def upTo (c : Dev nD) (i : Fin 8704) (j : Fin 4096) (n : ℕ) : EReal := ∑ k ∈ Finset.range n, addend m c i j k

theorem upTo_full (c : Dev nD) (i : Fin 8704) (j : Fin 4096) :
    upTo m c i j 16384 = ∑ k : Fin 16384, uArg m c (ix2 i k) * wArg m c (ix2 k j) := by
  unfold upTo
  rw [Finset.sum_range]
  exact Finset.sum_congr rfl fun k _ => dif_pos k.isLt

/-- A point's product is the addends of its inner block. -/
theorem block_sum (c : Dev nD) (t : Fin cfg0.N) (r : Fin 2176) (g : Fin 512) :
    (∑ k : Fin 2048, uBlock m c t (ix2 r k) * wBlock m c t (ix2 k g))
      = ∑ k ∈ Finset.range 2048, addend m c (rowOf t r) (colOf t g) (2048 * (t.val % 8) + k) := by
  rw [Finset.sum_range]
  refine Finset.sum_congr rfl fun k _ => ?_
  rw [u_apply, w_apply]
  unfold addend
  rw [dif_pos (show 2048 * (t.val % 8) + k.val < 16384 from (innerOf t k).isLt)]

/-- Up to and with the inner block of a point. -/
theorem upTo_step (c : Dev nD) (i : Fin 8704) (j : Fin 4096) (n : ℕ) :
    upTo m c i j (2048 * (n + 1))
      = upTo m c i j (2048 * n) + ∑ k ∈ Finset.range 2048, addend m c i j (2048 * n + k) := by
  unfold upTo
  rw [Nat.mul_succ, Finset.sum_range_add]

/-- All addends, the last inner block apart. -/
theorem upTo_last (c : Dev nD) (i : Fin 8704) (j : Fin 4096) :
    upTo m c i j 16384
      = upTo m c i j (2048 * (6 + 1)) + ∑ k ∈ Finset.range 2048, addend m c i j (2048 * (6 + 1) + k) :=
  (congrArg (upTo m c i j) (by norm_num : 16384 = 2048 * (6 + 1 + 1))).trans (upTo_step m c i j (6 + 1))

/-- The accumulator before the last inner block holds the addends so far. -/
theorem acc_eq (c : Dev nD) (r : Fin 2176) (g : Fin 512) : ∀ (n : ℕ) (t : Fin cfg0.N), t.val % 8 = n → n ≤ 6 →
    (outsAt0 m c t.val t.isLt).2 (ix2 r g) = upTo m c (rowOf t r) (colOf t g) (2048 * (n + 1))
  | 0, t, ht, _ => by
    rw [scratch_first m c t ht]
    refine (first_apply _ _ r g).trans ((block_sum m c t r g).trans ?_)
    rw [upTo_step, ht]
    refine (zero_add _).symm.trans (congrArg (· + _) ?_)
    unfold upTo
    rw [Nat.mul_zero, Finset.sum_range_zero]
  | n + 1, t, ht, hn => by
    have hN : cfg0.N = 256 := N_0
    have hlt := t.isLt
    have ih := acc_eq c r g n ⟨t.val - 1, by omega⟩ (by show (t.val - 1) % 8 = n; omega) (by omega)
    have hr : rowOf (⟨t.val - 1, by omega⟩ : Fin cfg0.N) r = rowOf t r :=
      Fin.ext (by show 2176 * ((t.val - 1) / 8 % 4) + r.val = 2176 * (t.val / 8 % 4) + r.val; omega)
    have hg : colOf (⟨t.val - 1, by omega⟩ : Fin cfg0.N) g = colOf t g :=
      Fin.ext (by show 512 * ((t.val - 1) / 32) + g.val = 512 * (t.val / 32) + g.val; omega)
    rw [hr, hg] at ih
    rw [scratch_between m c t (by omega)]
    refine (between_apply _ _ _ r g).trans ?_
    have hs := block_sum m c t r g
    rw [ht] at hs
    rw [upTo_step]
    exact congrArg₂ (· + ·) ih hs

/-- The output tile of the last inner block: the residual plus the whole product. -/
theorem tile_apply (c : Dev nD) (t : Fin cfg0.N) (h : t.val % 8 = 7) (r : Fin 2176) (g : Fin 512) :
    (outsAt0 m c t.val t.isLt).1 (ix2 r g)
      = xArg m c (ix2 (rowOf t r) (colOf t g)) + upTo m c (rowOf t r) (colOf t g) 16384 := by
  have hN : cfg0.N = 256 := N_0
  have hlt := t.isLt
  have ha := acc_eq m c r g 6 ⟨t.val - 1, by omega⟩ (by show (t.val - 1) % 8 = 6; omega) le_rfl
  have hr : rowOf (⟨t.val - 1, by omega⟩ : Fin cfg0.N) r = rowOf t r :=
    Fin.ext (by show 2176 * ((t.val - 1) / 8 % 4) + r.val = 2176 * (t.val / 8 % 4) + r.val; omega)
  have hg : colOf (⟨t.val - 1, by omega⟩ : Fin cfg0.N) g = colOf t g :=
    Fin.ext (by show 512 * ((t.val - 1) / 32) + g.val = 512 * (t.val / 32) + g.val; omega)
  rw [hr, hg] at ha
  rw [tile_eq m c t h]
  refine (last_apply _ _ _ _ r g).trans ?_
  have hs := block_sum m c t r g
  rw [show t.val % 8 = 6 + 1 from h] at hs
  rw [upTo_last]
  exact congrArg₂ (· + ·) (x_apply m c t r g) (congrArg₂ (· + ·) ha hs)

/-- The result: the residual plus the product. -/
def out (c : Dev nD) : Buf (Elt Ideal) ((c : Thread nD τ).loc main_v0) :=
  fun i => xArg m c (ix2 ⟨(i 0).val, (i 0).isLt⟩ ⟨(i 1).val, (i 1).isLt⟩)
    + upTo m c ⟨(i 0).val, (i 0).isLt⟩ ⟨(i 1).val, (i 1).isLt⟩ 16384

theorem flushed_out (c : Dev nD) (t : Fin cfg0.N) (hf : (cfg0.win 3).flush t = true) :
    (dats m 0 c).flushed 3 t = ((cfg0.win 3).blk t).view.read (Elt Ideal) (out m c) := by
  have e := index_o t
  have h7 : t.val % 8 = 7 := (flush0_3 t).mp hf
  funext y
  have hy0 : (y 0).val < 2176 := (y 0).isLt
  have hy1 : (y 1).val < 512 := (y 1).isLt
  rw [View.read_apply]
  show (dats m 0 c).after 3 t ((cfg0.win 3).xinj (grid0.coords t) y) = out m c (((cfg0.win 3).blk t).view.emb y)
  rw [after0_3]
  have hx : (cfg0.win 3).xinj (grid0.coords t) y = ix2 (⟨(y 0).val, hy0⟩ : Fin 2176) (⟨(y 1).val, hy1⟩ : Fin 512) := by
    funext a; apply Fin.ext
    match a with
    | ⟨0, _⟩ => rfl
    | ⟨1, _⟩ => rfl
  rw [hx, tile_apply m c t h7]
  have hr : (((cfg0.win 3).blk t).view.emb y 0).val = 2176 * (t.val / 8 % 4) + (y 0).val := by
    show win0_3.index t 0 * 2176 + 1 * (y 0).val = _
    rw [e.1]; omega
  have hg : (((cfg0.win 3).blk t).view.emb y 1).val = 512 * (t.val / 32) + (y 1).val := by
    show win0_3.index t 1 * 512 + 1 * (y 1).val = _
    rw [e.2]; omega
  unfold out
  exact congrArg₂ (fun (i : Fin 8704) (j : Fin 4096) => xArg m c (ix2 i j) + upTo m c i j 16384) (Fin.ext hr.symm) (Fin.ext hg.symm)

theorem covered_out (i : S8704x4096.Idx) : ∃ t : Fin cfg0.N, (cfg0.win 3).flush t = true ∧ i ∈ ((cfg0.win 3).blk t).view.set := by
  have hN : cfg0.N = 256 := N_0
  have h0 : (i 0).val < 8704 := (i 0).isLt
  have h1 : (i 1).val < 4096 := (i 1).isLt
  obtain ⟨t, ht⟩ : ∃ t : Fin cfg0.N, t.val = 32 * ((i 1).val / 512) + 8 * ((i 0).val / 2176) + 7 :=
    ⟨⟨32 * ((i 1).val / 512) + 8 * ((i 0).val / 2176) + 7, by rw [hN]; omega⟩, rfl⟩
  have e := index_o t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t 0 * 2176 ≤ (i 0).val ∧ (i 0).val < win0_3.index t 0 * 2176 + 2176
              rw [e.1]; omega
  | ⟨1, _⟩ => show win0_3.index t 1 * 512 ≤ (i 1).val ∧ (i 1).val < win0_3.index t 1 * 512 + 512
              rw [e.2]; omega

theorem final_out (c : Dev nD) : (dats m 0 c).arrAt 3 cfg0.N = out m c :=
  (dats m 0 c).arrAt_eq_of_cover 3 _ (fun t hf => flushed_out m c t hf) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final_out m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

/-! ## The reference: the same sum -/

theorem ref_out (u : S8704x16384.Idx → Ideal .bf16) (w : S16384x4096.Idx → Ideal .f32) (x : S8704x4096.Idx → Ideal .f32)
    (i : S8704x4096.Idx) :
    addf (F := Ideal) (φ := .f32) x
        (Host.dotGeneral (φ₁ := .f32) (φ₂ := .f32) Cert.Reference3Ideal.dot_S8704x16384_S16384x4096_S8704x4096_1_0_0_1_n_n none
          (extf .f32 u bitsLt_bf16_f32) w) i
      = x (ix2 ⟨(i 0).val, (i 0).isLt⟩ ⟨(i 1).val, (i 1).isLt⟩)
        + ∑ k : Fin 16384, u (ix2 ⟨(i 0).val, (i 0).isLt⟩ k) * w (ix2 k ⟨(i 1).val, (i 1).isLt⟩) := by
  pointwise

end Cert.Down

end
-- ==== Proof.Down.Claims.lean ====
/-
  The claims about the down projection: the three frames, and that kernel and reference compute the same array.
-/
module

public import proofs.«01_k».proof.Defs
public import proofs.«01_k».proof.Proof.Down.Value
public import proofs.«01_k».proof.Proof.Gen.Kernel3.Frame
public import Idealize.ShloMosaic.Lib.Quiescent

@[expose] public section

set_option maxRecDepth 16384

noncomputable section

namespace Cert.Down

open Idealize.ShloMosaic Idealize.ShloMosaic.TcCoe Idealize.SL.Sem

theorem frame_kernel : Cert.quiescent_Kernel3 := fun m ρ _ => Cert.Kernel3.Gen.frame m ρ
theorem frame_kernel_ideal : Cert.quiescent_Kernel3Ideal := fun m ρ _ => Cert.Kernel3Ideal.Gen.frame m ρ
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨out m, run m ρ, ?_⟩
  refine (θ_run Cert.Reference3Ideal.defs _ _).mono (fun _ h c => ?_) (Cert.Reference3Ideal.Value.run (F := Ideal) m' ρ')
  have hc := h c
  rw [(hagree c).1, (hagree c).2.1, (hagree c).2.2] at hc
  refine ⟨hc.1.trans ?_, (h c).2⟩
  funext i
  refine (ref_out (uArg m c) (wArg m c) (xArg m c) i).trans ?_
  unfold out
  rw [upTo_full]

end Cert.Down

end
-- ==== Proof.Up.State.lean ====
/-
  The two weight tiles the call carries between grid points: in each phase one of them is filled with converted blocks of
  weight rows, while the other, filled in the phase before, is multiplied.
-/
module

public import proofs.«01_k».proof.Proof.Gen.Kernel4Ideal.Frame
public import proofs.«01_k».proof.Proof.Gen.Kernel4Ideal.Skeleton
public import Idealize.ShloMosaic.Lib.WholeRead
public import Idealize.ShloMosaic.Lib.ValueIdxCore
public import Idealize.ShloMosaic.Lib.VecWindow

@[expose] public section

set_option maxRecDepth 16384

noncomputable section

namespace Cert.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3)

variable {F : FTy → Type} [FloatOps F]

local notation "𝕄" => MT nD τ sig Unit (Elt F) ℕ (UR sig nD τ) ℕ

/-- Where the converted block of weight rows goes: slot `p % 2`, rows from `512 i`. -/
theorem off1_eq : ∀ i : grid0.Coords, k0_off1 i = ![(i 0).val % 2, 512 * (i 1).val, 0] := by decide +kernel
/-- Where the left half of the finished weight tile is read: the other slot. -/
theorem off2_eq : ∀ i : grid0.Coords, k0_off2 i = ![((i 0).val + 1) % 2, 0, 0] := by decide +kernel
/-- Where its right half is read. -/
theorem off3_eq : ∀ i : grid0.Coords, k0_off3 i = ![((i 0).val + 1) % 2, 0, 512] := by decide +kernel

instance closed1 (i : grid0.Coords) : ClosedOff (k0_off1 i) := ⟨_, off1_eq i⟩
instance closed2 (i : grid0.Coords) : ClosedOff (k0_off2 i) := ⟨_, off2_eq i⟩
instance closed3 (i : grid0.Coords) : ClosedOff (k0_off3 i) := ⟨_, off3_eq i⟩

/-- The body multiplies in every phase but the first. -/
theorem cond_iff : ∀ i : grid0.Coords, k0_cond1 i = 1#1 ↔ 1 ≤ (i 0).val := by decide +kernel

theorem off1_inb (i : grid0.Coords) : ∀ a, k0_off1 i a + S1x512x1024.size a ≤ S2x4096x1024.size a := by
  have h0 : (i 0).val < 17 := (i 0).isLt
  have h1 : (i 1).val < 8 := (i 1).isLt
  rw [off1_eq]
  intro a
  match a with
  | ⟨0, _⟩ => show (i 0).val % 2 + 1 ≤ 2; omega
  | ⟨1, _⟩ => show 512 * (i 1).val + 512 ≤ 4096; omega
  | ⟨2, _⟩ => show 0 + 1024 ≤ 1024; omega

theorem off2_inb (i : grid0.Coords) : ∀ a, k0_off2 i a + S1x4096x512.size a ≤ S2x4096x1024.size a := by
  rw [off2_eq]
  intro a
  match a with
  | ⟨0, _⟩ => show ((i 0).val + 1) % 2 + 1 ≤ 2; omega
  | ⟨1, _⟩ => show 0 + 4096 ≤ 4096; omega
  | ⟨2, _⟩ => show 0 + 512 ≤ 1024; omega

theorem off3_inb (i : grid0.Coords) : ∀ a, k0_off3 i a + S1x4096x512.size a ≤ S2x4096x1024.size a := by
  rw [off3_eq]
  intro a
  match a with
  | ⟨0, _⟩ => show ((i 0).val + 1) % 2 + 1 ≤ 2; omega
  | ⟨1, _⟩ => show 0 + 4096 ≤ 4096; omega
  | ⟨2, _⟩ => show 512 + 512 ≤ 1024; omega

/-- Point `n` of the grid. -/
def pt (n : ℕ) : Fin cfg0.N := ⟨n % 136, lt_of_lt_of_eq (Nat.mod_lt _ (by omega)) N_0.symm⟩

theorem pt_val (t : Fin cfg0.N) : pt t.val = t := by
  have hN : cfg0.N = 136 := N_0
  have := t.isLt
  exact Fin.ext (Nat.mod_eq_of_lt (by omega))

/-- The phase and the step of a point. -/
theorem coords_eq : ∀ t : Fin grid0.N, ((grid0.coords t) 0).val = t.val / 8 ∧ ((grid0.coords t) 1).val = t.val % 8 := by
  decide +kernel

variable (m : (ℓ : Loc nD τ sig) → Buf (Elt F) ℓ)

/-- The block of weight rows converted at a point. -/
def blockW (c : Dev nD) (t : Fin cfg0.N) : Vec F S1x512x1024 .bf16 := k0_pay1 (iblk m c 1 t : Vec F S512x1024 .f32)

/-- Before point `n` the weight scratch holds every block converted in the last two phases that has not been overwritten
    since. -/
def Holds (c : Dev nD) (n : ℕ) (b : Vec F S2x4096x1024 .bf16) : Prop :=
  ∀ s : ℕ, s < 136 → s < n → n ≤ s + 16 → ∀ (r : Fin 512) (k : Fin 1024),
    b (ix3 (⟨s / 8 % 2, by omega⟩ : Fin 2) (⟨512 * (s % 8) + r.val, by have := r.isLt; omega⟩ : Fin 4096) k)
      = blockW m c (pt s) (ix3 (0 : Fin 1) r k)

theorem holds_zero (c : Dev nD) (b : Vec F S2x4096x1024 .bf16) : Holds m c 0 b := fun s _ h => absurd h (by omega)

/-- Converting a block keeps what is still needed and adds the block. -/
theorem holds_succ (c : Dev nD) (t : Fin cfg0.N) (arg : Memref sig .tc .vmem S2x4096x1024 .bf16) (harg : arg.IsWhole)
    (b : Vec F S2x4096x1024 .bf16) (h : Holds m c t.val b) :
    Holds m c (t.val + 1) (arg.view.read (Elt F) (arg.view.writes (Elt F) (harg.unread b)
      [⟨Rect.unit (s := S2x4096x1024) (k0_off1 (grid0.coords t)) S1x512x1024.size (off1_inb (grid0.coords t)), blockW m c t⟩])) := by
  have hN : cfg0.N = 136 := N_0
  have ht := t.isLt
  obtain ⟨e0, e1⟩ := coords_eq t
  have q0 : k0_off1 (grid0.coords t) 0 = ((grid0.coords t) 0).val % 2 := congrFun (off1_eq (grid0.coords t)) 0
  have q1 : k0_off1 (grid0.coords t) 1 = 512 * ((grid0.coords t) 1).val := congrFun (off1_eq (grid0.coords t)) 1
  have q2 : k0_off1 (grid0.coords t) 2 = 0 := congrFun (off1_eq (grid0.coords t)) 2
  intro s hs hsn hns r k
  have hr := r.isLt
  by_cases hst : s = t.val
  · have hp : pt s = t := by rw [hst]; exact pt_val t
    have hy : (ix3 (⟨s / 8 % 2, by omega⟩ : Fin 2) (⟨512 * (s % 8) + r.val, by omega⟩ : Fin 4096) k : S2x4096x1024.Idx)
        = (Rect.unit (s := S2x4096x1024) (k0_off1 (grid0.coords t)) S1x512x1024.size (off1_inb (grid0.coords t))).emb
            (ix3 (0 : Fin 1) r k) := by
      funext a
      apply Fin.ext
      match a with
      | ⟨0, _⟩ =>
        show s / 8 % 2 = k0_off1 (grid0.coords t) 0 + 1 * 0
        rw [q0]; omega
      | ⟨1, _⟩ =>
        show 512 * (s % 8) + r.val = k0_off1 (grid0.coords t) 1 + 1 * r.val
        rw [q1]; omega
      | ⟨2, _⟩ =>
        show k.val = k0_off1 (grid0.coords t) 2 + 1 * k.val
        rw [q2]; omega
    rw [hy, View.read_writes_cons_emb, hp]
  · rw [View.read_writes_apply_of_forall_not_mem, harg.read_unread]
    · exact h s hs (by omega) (by omega) r k
    · intro p hp hmem
      rw [List.mem_singleton] at hp
      subst hp
      have hm := (Rect.mem_set_unit (s := S2x4096x1024) (inb := off1_inb (grid0.coords t))).mp hmem
      have h0 := hm 0
      have h1 := hm 1
      rw [q0] at h0
      rw [q1] at h1
      change ((grid0.coords t) 0).val % 2 ≤ s / 8 % 2 ∧ s / 8 % 2 < ((grid0.coords t) 0).val % 2 + 1 at h0
      change 512 * ((grid0.coords t) 1).val ≤ 512 * (s % 8) + r.val ∧ 512 * (s % 8) + r.val < 512 * ((grid0.coords t) 1).val + 512 at h1
      omega

/-- Half `f` of the weight tile multiplied in phase `p`: the blocks converted in phase `p - 1`. -/
def halfW (c : Dev nD) (p f : ℕ) : Vec F S1x4096x512 .bf16 := fun y =>
  blockW m c (pt (8 * (p - 1) + (y 1).val / 512))
    (ix3 (0 : Fin 1) (⟨(y 1).val % 512, Nat.mod_lt _ (by omega)⟩ : Fin 512)
      (⟨(512 * f + (y 2).val) % 1024, Nat.mod_lt _ (by omega)⟩ : Fin 1024))

/-- What the body reads of the weight scratch, after it has converted the point's block into the other slot. -/
theorem read_half (c : Dev nD) (t : Fin cfg0.N) (arg : Memref sig .tc .vmem S2x4096x1024 .bf16) (harg : arg.IsWhole)
    (b : Vec F S2x4096x1024 .bf16) (h : Holds m c t.val b) (hp : 8 ≤ t.val) (f : ℕ) (hf : f < 2)
    (off : Fin 3 → ℕ) (inb : ∀ a, off a + S1x4096x512.size a ≤ S2x4096x1024.size a)
    (hoff : off = ![((grid0.coords t 0).val + 1) % 2, 0, 512 * f]) (w : Vec F S1x512x1024 .bf16) :
    View.readAt (Elt F) arg.view (Rect.unit (s := S2x4096x1024) off S1x4096x512.size inb).toLoadRect
      (arg.view.writes (Elt F) (harg.unread b)
        [⟨Rect.unit (s := S2x4096x1024) (k0_off1 (grid0.coords t)) S1x512x1024.size (off1_inb (grid0.coords t)), w⟩])
      = halfW m c (t.val / 8) f := by
  have hN : cfg0.N = 136 := N_0
  have ht := t.isLt
  obtain ⟨e0, e1⟩ := coords_eq t
  subst hoff
  rw [View.readAt_unit _ _ inb rfl inb]
  funext y
  have hy0 : (y 0).val < 1 := (y 0).isLt
  have hy1 : (y 1).val < 4096 := (y 1).isLt
  have hy2 : (y 2).val < 512 := (y 2).isLt
  have key : ∀ z : S2x4096x1024.Idx, z = ix3 (⟨(t.val / 8 - 1) % 2, by omega⟩ : Fin 2) (⟨(y 1).val, hy1⟩ : Fin 4096) (⟨512 * f + (y 2).val, by omega⟩ : Fin 1024) →
      arg.view.read (Elt F) (arg.view.writes (Elt F) (harg.unread b)
        [⟨Rect.unit (s := S2x4096x1024) (k0_off1 (grid0.coords t)) S1x512x1024.size (off1_inb (grid0.coords t)), w⟩]) z
      = halfW m c (t.val / 8) f y := by
    intro z hz
    subst hz
    rw [View.read_writes_apply_of_forall_not_mem, harg.read_unread]
    · have := h (8 * (t.val / 8 - 1) + (y 1).val / 512) (by omega) (by omega) (by omega)
        ⟨(y 1).val % 512, Nat.mod_lt _ (by omega)⟩ ⟨(512 * f + (y 2).val) % 1024, Nat.mod_lt _ (by omega)⟩
      unfold halfW
      rw [← this]
      congr 1
      funext a
      match a with
      | ⟨0, _⟩ => apply Fin.ext; show (t.val / 8 - 1) % 2 = (8 * (t.val / 8 - 1) + (y 1).val / 512) / 8 % 2; omega
      | ⟨1, _⟩ => apply Fin.ext; show (y 1).val = 512 * ((8 * (t.val / 8 - 1) + (y 1).val / 512) % 8) + (y 1).val % 512; omega
      | ⟨2, _⟩ => apply Fin.ext; show 512 * f + (y 2).val = (512 * f + (y 2).val) % 1024; omega
    · intro p hp hmem
      rw [List.mem_singleton] at hp
      subst hp
      have hm := (Rect.mem_set_unit (s := S2x4096x1024) (inb := off1_inb (grid0.coords t))).mp hmem
      have h0 := hm 0
      have q0 : k0_off1 (grid0.coords t) 0 = ((grid0.coords t) 0).val % 2 := congrFun (off1_eq (grid0.coords t)) 0
      rw [q0] at h0
      change ((grid0.coords t) 0).val % 2 ≤ (t.val / 8 - 1) % 2 ∧ (t.val / 8 - 1) % 2 < ((grid0.coords t) 0).val % 2 + 1 at h0
      omega
  refine key _ (funext fun a => Fin.ext ?_)
  match a with
  | ⟨0, _⟩ => show ((grid0.coords t 0).val + 1) % 2 + 1 * (y 0).val = (t.val / 8 - 1) % 2; omega
  | ⟨1, _⟩ => show 0 + 1 * (y 1).val = (y 1).val; omega
  | ⟨2, _⟩ => show 512 * f + 1 * (y 2).val = 512 * f + (y 2).val; omega

end Cert.Up

end
-- ==== Proof.Up.Step.lean ====
/-
  One grid point: in the first phase the body only converts a block of weight rows; later it also leaves the whole output
  tile, as two halves.
-/
module

public import proofs.«01_k».proof.Proof.Up.State
public import Idealize.ShloMosaic.Lib.Pipeline.FrameBody

@[expose] public section

set_option maxRecDepth 16384

noncomputable section

namespace Cert.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body in the first phase: only a block of weight rows is converted into the scratch. -/
noncomputable def runFill (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : ¬ (k0_cond1 i = 1#1)) (x2 : Vec F S1088x4096 .bf16) (x3 : Vec F S512x1024 .f32) (x4 : Vec F S1088x1024 .bf16) (x5 : Vec F S2x4096x1024 .bf16) :
    { L5 : List (View.Piece (Elt F) S2x4096x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (iprop(owns (c : Thread nD τ) arg2 fullShare x2 ∗ owns (c : Thread nD τ) arg3 fullShare x3 ∗ owns (c : Thread nD τ) arg4 fullShare x4 ∗ (arg5.view.loc (c : Thread nD τ) ↦[arg5.view.set]{fullShare} arg5.view.writes (Elt F) (harg5.unread x5) L5)) -∗ K ⟨⟩))
          ⊢ wp frame (wpE (defs₀ (F := F)) Variants.none c none) E (cc0_mlp_up i arg2 harg2 arg3 harg3 arg4 harg4 arg5 harg5) K } := by
  refine ⟨?_, fun E K => ?run⟩
  case run =>
    simp only [cc0_mlp_up_eq_skeleton]; unfold cc0_mlp_up_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexact H5

set_option maxHeartbeats 8000000 in
/-- The body in a later phase: the same, and both halves of the output tile are stored. -/
noncomputable def runTile (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : k0_cond1 i = 1#1) (x2 : Vec F S1088x4096 .bf16) (x3 : Vec F S512x1024 .f32) (x4 : Vec F S1088x1024 .bf16) (x5 : Vec F S2x4096x1024 .bf16) :
    Σ' (L4 : List (View.Piece (Elt F) S1088x1024 .bf16)), { L5 : List (View.Piece (Elt F) S2x4096x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5
            ∗ (iprop(owns (c : Thread nD τ) arg2 fullShare x2 ∗ owns (c : Thread nD τ) arg3 fullShare x3 ∗ (arg4.view.loc (c : Thread nD τ) ↦[arg4.view.set]{fullShare} arg4.view.writes (Elt F) (harg4.unread x4) L4) ∗ (arg5.view.loc (c : Thread nD τ) ↦[arg5.view.set]{fullShare} arg5.view.writes (Elt F) (harg5.unread x5) L5)) -∗ K ⟨⟩))
          ⊢ wp frame (wpE (defs₀ (F := F)) Variants.none c none) E (cc0_mlp_up i arg2 harg2 arg3 harg3 arg4 harg4 arg5 harg5) K } := by
  refine ⟨?_, ?_, fun E K => ?run⟩
  case run =>
    simp only [cc0_mlp_up_eq_skeleton]; unfold cc0_mlp_up_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexact H4
    iexact H5

/-- The two halves of the tile. -/
def tilePieces (x : Vec F S1088x4096 .bf16) (w0 w1 : Vec F S1x4096x512 .bf16) : List (View.Piece (Elt F) S1088x1024 .bf16) :=
  [ ⟨Rect.unit (s := S1088x1024) ![0, 512] S1088x512.size inb_S1088x1024_S1088x512_0_512, k0_pay3 x w1⟩,
    ⟨Rect.unit (s := S1088x1024) ![0, 0] S1088x512.size inb_S1088x1024_S1088x512_0_0, k0_pay2 x w0⟩ ]

/-- They fill it. -/
theorem tile_cover (x : Vec F S1088x4096 .bf16) (w0 w1 : Vec F S1x4096x512 .bf16) (y : S1088x1024.Idx) :
    ∃ p ∈ tilePieces x w0 w1, y ∈ p.1.set :=
  View.cover_of_tiledL (tilePieces x w0 w1) S1088x512.size (by sl_kernel_rfl) y

set_option maxHeartbeats 8000000 in
theorem fill_block (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : ¬ (k0_cond1 i = 1#1)) (x2 : Vec F S1088x4096 .bf16) (x3 : Vec F S512x1024 .f32) (x4 : Vec F S1088x1024 .bf16) (x5 : Vec F S2x4096x1024 .bf16) :
    (runFill c i arg2 harg2 arg3 harg3 arg4 harg4 arg5 harg5 hc x2 x3 x4 x5).1
      = [⟨Rect.unit (s := S2x4096x1024) (k0_off1 i) S1x512x1024.size (off1_inb i), k0_pay1 (View.readAt (Elt F) arg3.view (Rect.unit (s := S512x1024) ![0, 0] S512x1024.size inb_S512x1024_S512x1024_0_0).toLoadRect (harg3.unread x3))⟩] := by
  rfl

set_option maxHeartbeats 8000000 in
theorem tile_block (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : k0_cond1 i = 1#1) (x2 : Vec F S1088x4096 .bf16) (x3 : Vec F S512x1024 .f32) (x4 : Vec F S1088x1024 .bf16) (x5 : Vec F S2x4096x1024 .bf16) :
    (runTile c i arg2 harg2 arg3 harg3 arg4 harg4 arg5 harg5 hc x2 x3 x4 x5).2.1
      = [⟨Rect.unit (s := S2x4096x1024) (k0_off1 i) S1x512x1024.size (off1_inb i), k0_pay1 (View.readAt (Elt F) arg3.view (Rect.unit (s := S512x1024) ![0, 0] S512x1024.size inb_S512x1024_S512x1024_0_0).toLoadRect (harg3.unread x3))⟩] := by
  rfl

set_option maxHeartbeats 8000000 in
theorem tile_pieces (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : k0_cond1 i = 1#1) (x2 : Vec F S1088x4096 .bf16) (x3 : Vec F S512x1024 .f32) (x4 : Vec F S1088x1024 .bf16) (x5 : Vec F S2x4096x1024 .bf16) :
    (runTile c i arg2 harg2 arg3 harg3 arg4 harg4 arg5 harg5 hc x2 x3 x4 x5).1
      = tilePieces (View.readAt (Elt F) arg2.view (Rect.unit (s := S1088x4096) ![0, 0] S1088x4096.size inb_S1088x4096_S1088x4096_0_0).toLoadRect (harg2.unread x2))
        (View.readAt (Elt F) arg5.view (Rect.unit (s := S2x4096x1024) (k0_off2 i) S1x4096x512.size (off2_inb i)).toLoadRect
          (arg5.view.writes (Elt F) (harg5.unread x5) [⟨Rect.unit (s := S2x4096x1024) (k0_off1 i) S1x512x1024.size (off1_inb i), k0_pay1 (View.readAt (Elt F) arg3.view (Rect.unit (s := S512x1024) ![0, 0] S512x1024.size inb_S512x1024_S512x1024_0_0).toLoadRect (harg3.unread x3))⟩]))
        (View.readAt (Elt F) arg5.view (Rect.unit (s := S2x4096x1024) (k0_off3 i) S1x4096x512.size (off3_inb i)).toLoadRect
          (arg5.view.writes (Elt F) (harg5.unread x5) [⟨Rect.unit (s := S2x4096x1024) (k0_off1 i) S1x512x1024.size (off1_inb i), k0_pay1 (View.readAt (Elt F) arg3.view (Rect.unit (s := S512x1024) ![0, 0] S512x1024.size inb_S512x1024_S512x1024_0_0).toLoadRect (harg3.unread x3))⟩])) := by
  rfl

theorem read_x2 (arg2 : Memref sig .tc .vmem S1088x4096 .bf16) (harg2 : arg2.IsWhole) (x2 : Vec F S1088x4096 .bf16) :
    View.readAt (Elt F) arg2.view (Rect.unit (s := S1088x4096) ![0, 0] S1088x4096.size inb_S1088x4096_S1088x4096_0_0).toLoadRect (harg2.unread x2) = x2 :=
  (View.readAt_full _ _ _).trans (harg2.read_unread x2)

theorem read_x3 (arg3 : Memref sig .tc .vmem S512x1024 .f32) (harg3 : arg3.IsWhole) (x3 : Vec F S512x1024 .f32) :
    View.readAt (Elt F) arg3.view (Rect.unit (s := S512x1024) ![0, 0] S512x1024.size inb_S512x1024_S512x1024_0_0).toLoadRect (harg3.unread x3) = x3 :=
  (View.readAt_full _ _ _).trans (harg3.read_unread x3)

set_option maxHeartbeats 8000000 in
/-- A point of the first phase. -/
theorem fill_step (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : ¬ (k0_cond1 i = 1#1)) (x2 : Vec F S1088x4096 .bf16) (x3 : Vec F S512x1024 .f32) (x4 : Vec F S1088x1024 .bf16) (x5 : Vec F S2x4096x1024 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (iprop(owns (c : Thread nD τ) arg2 fullShare x2 ∗ owns (c : Thread nD τ) arg3 fullShare x3 ∗ owns (c : Thread nD τ) arg4 fullShare x4 ∗ owns (c : Thread nD τ) arg5 fullShare (arg5.view.read (Elt F) (arg5.view.writes (Elt F) (harg5.unread x5) [⟨Rect.unit (s := S2x4096x1024) (k0_off1 i) S1x512x1024.size (off1_inb i), k0_pay1 x3⟩]))) -∗ K ⟨⟩))
      ⊢ wp frame (wpE (defs₀ (F := F)) Variants.none c none) E (cc0_mlp_up i arg2 harg2 arg3 harg3 arg4 harg4 arg5 harg5) K := by
  iintro ⟨H2, H3, H4, H5, Hk⟩
  iapply ((runFill c i arg2 harg2 arg3 harg3 arg4 harg4 arg5 harg5 hc x2 x3 x4 x5).2 E K)
  isplitl [H2]; · iexact H2
  isplitl [H3]; · iexact H3
  isplitl [H4]; · iexact H4
  isplitl [H5]; · iexact H5
  iintro ⟨H2, H3, H4, H5⟩
  iapply Hk
  isplitl [H2]; · iexact H2
  isplitl [H3]; · iexact H3
  isplitl [H4]; · iexact H4
  unfold owns; iexists _; isplitr; swap; · iexact H5
  ipureintro
  rw [fill_block c i arg2 harg2 arg3 harg3 arg4 harg4 arg5 harg5 hc x2 x3 x4 x5, read_x3 arg3 harg3 x3]

set_option maxHeartbeats 8000000 in
/-- A point of a later phase, given what it reads of the weight scratch. -/
theorem tile_step (c : Dev nD) (i : grid0.Coords) (arg2 : Memref sig .tc .vmem S1088x4096 .bf16) (harg2 : arg2.IsWhole) (arg3 : Memref sig .tc .vmem S512x1024 .f32) (harg3 : arg3.IsWhole)
    (arg4 : Memref sig .tc .vmem S1088x1024 .bf16) (harg4 : arg4.IsWhole) (arg5 : Memref sig .tc .vmem S2x4096x1024 .bf16) (harg5 : arg5.IsWhole)
    (hc : k0_cond1 i = 1#1) (x2 : Vec F S1088x4096 .bf16) (x3 : Vec F S512x1024 .f32) (x4 : Vec F S1088x1024 .bf16) (x5 : Vec F S2x4096x1024 .bf16) (W0 W1 : Vec F S1x4096x512 .bf16)
    (g0 : ∀ (off : Fin 3 → ℕ) (inb : ∀ a, off a + S1x4096x512.size a ≤ S2x4096x1024.size a) (_ : off = ![((i 0).val + 1) % 2, 0, 0])
      (w : Vec F S1x512x1024 .bf16), View.readAt (Elt F) arg5.view (Rect.unit (s := S2x4096x1024) off S1x4096x512.size inb).toLoadRect
        (arg5.view.writes (Elt F) (harg5.unread x5)
          [⟨Rect.unit (s := S2x4096x1024) (k0_off1 i) S1x512x1024.size (off1_inb i), w⟩]) = W0)
    (g1 : ∀ (off : Fin 3 → ℕ) (inb : ∀ a, off a + S1x4096x512.size a ≤ S2x4096x1024.size a) (_ : off = ![((i 0).val + 1) % 2, 0, 512])
      (w : Vec F S1x512x1024 .bf16), View.readAt (Elt F) arg5.view (Rect.unit (s := S2x4096x1024) off S1x4096x512.size inb).toLoadRect
        (arg5.view.writes (Elt F) (harg5.unread x5)
          [⟨Rect.unit (s := S2x4096x1024) (k0_off1 i) S1x512x1024.size (off1_inb i), w⟩]) = W1)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (iprop(owns (c : Thread nD τ) arg2 fullShare x2 ∗ owns (c : Thread nD τ) arg3 fullShare x3 ∗ owns (c : Thread nD τ) arg4 fullShare (View.canon (tilePieces x2 W0 W1)) ∗ owns (c : Thread nD τ) arg5 fullShare (arg5.view.read (Elt F) (arg5.view.writes (Elt F) (harg5.unread x5) [⟨Rect.unit (s := S2x4096x1024) (k0_off1 i) S1x512x1024.size (off1_inb i), k0_pay1 x3⟩]))) -∗ K ⟨⟩))
      ⊢ wp frame (wpE (defs₀ (F := F)) Variants.none c none) E (cc0_mlp_up i arg2 harg2 arg3 harg3 arg4 harg4 arg5 harg5) K := by
  iintro ⟨H2, H3, H4, H5, Hk⟩
  iapply ((runTile c i arg2 harg2 arg3 harg3 arg4 harg4 arg5 harg5 hc x2 x3 x4 x5).2.2 E K)
  isplitl [H2]; · iexact H2
  isplitl [H3]; · iexact H3
  isplitl [H4]; · iexact H4
  isplitl [H5]; · iexact H5
  iintro ⟨H2, H3, H4, H5⟩
  iapply Hk
  isplitl [H2]; · iexact H2
  isplitl [H3]; · iexact H3
  isplitl [H4]
  · unfold owns; iexists _; isplitr; swap; · iexact H4
    ipureintro
    rw [tile_pieces c i arg2 harg2 arg3 harg3 arg4 harg4 arg5 harg5 hc x2 x3 x4 x5, View.read_writes_eq_canon _ _ _ (tile_cover _ _ _)]
    rw [g0 _ (off2_inb i) (off2_eq i), g1 _ (off3_inb i) (off3_eq i), read_x2 arg2 harg2 x2]
  unfold owns; iexists _; isplitr; swap; · iexact H5
  ipureintro
  rw [tile_block c i arg2 harg2 arg3 harg3 arg4 harg4 arg5 harg5 hc x2 x3 x4 x5, read_x3 arg3 harg3 x3]

end Cert.Up

end
-- ==== Proof.Up.Body.lean ====
/-
  The body at every grid point, the invariant carried between points, and the run of the whole call.
-/
module

public import proofs.«01_k».proof.Proof.Up.Step
public import Idealize.ShloMosaic.Lib.Pipeline.FrameBody
public import Idealize.ShloMosaic.Lib.Claim

@[expose] public section

set_option maxRecDepth 16384

noncomputable section

namespace Cert.Up

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight scratch. -/
abbrev sc0 : Memref sig .tc .vmem S2x4096x1024 .bf16 := Memref.whole cc0_scratch0

theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

/-- Before point `n`: the weight scratch as that point and the later ones need it. -/
def PhiS (c : Dev nD) (n : ℕ) (_ : n ≤ cfg0.N) : sProp 𝕄 :=
  iprop((∃ b, ⌜Holds m c n b⌝ ∗ owns (c : Thread nD τ) sc0 fullShare b) ∗ (∃ r, prngReg c r))

/-- The output tile a point leaves. -/
def tileAt (c : Dev nD) (t : Fin cfg0.N) : Vec F S1088x1024 .bf16 :=
  View.canon (tilePieces (iblk m c 0 t : Vec F S1088x4096 .bf16) (halfW m c (t.val / 8) 0) (halfW m c (t.val / 8) 1))

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = tileAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- In the first phase nothing is written back. -/
theorem flush_first : ∀ t : Fin cfg0.N, t.val < 8 → (cfg0.win 2).flush t = false :=
  (by decide +kernel : ∀ t : Fin grid0.N, t.val < 8 → win0_2.flush t = false)
theorem idle_first : ∀ t : Fin cfg0.N, t.val < 8 → cfg0.idle 2 (grid0.coords t) = true :=
  (by decide +kernel : ∀ t : Fin grid0.N, t.val < 8 → idle0 2 (grid0.coords t) = true)
theorem idle_later : ∀ t : Fin cfg0.N, 8 ≤ t.val → cfg0.idle 2 (grid0.coords t) = false :=
  (by decide +kernel : ∀ t : Fin grid0.N, 8 ≤ t.val → idle0 2 (grid0.coords t) = false)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves_0 (c : Dev nD) (t : Fin cfg0.N) : (dats m 0 c).leavesExact 0 t
    = owns (c : Thread nD τ) ((cfg0.win 0).stage (cfg0.slots t 0)) fullShare (iblk m c 0 t) := by
  unfold Dat.leavesExact
  rw [show cfg0.idle 0 (cfg0.grid.coords t) = false from rfl, after_0]
theorem leaves_1 (c : Dev nD) (t : Fin cfg0.N) : (dats m 0 c).leavesExact 1 t
    = owns (c : Thread nD τ) ((cfg0.win 1).stage (cfg0.slots t 1)) fullShare (iblk m c 1 t) := by
  unfold Dat.leavesExact
  rw [show cfg0.idle 1 (cfg0.grid.coords t) = false from rfl, after_1]
theorem leaves_2 (c : Dev nD) (t : Fin cfg0.N) (ht : 8 ≤ t.val) : (dats m 0 c).leavesExact 2 t
    = owns (c : Thread nD τ) ((cfg0.win 2).stage (cfg0.slots t 2)) fullShare (tileAt m c t) := by
  unfold Dat.leavesExact
  rw [show cfg0.idle 2 (cfg0.grid.coords t) = false from idle_later t ht, after_2]

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl, leaves_0, leaves_1]
  rw [show (dats m 0 c).Φ t.succ = PhiS m c (t.val + 1) t.isLt from rfl, Phi_start m c t]
  unfold PhiS
  obtain ⟨e0, e1⟩ := coords_eq t
  by_cases ht : t.val < 8
  · have hc : ¬ (k0_cond1 (grid0.coords t) = 1#1) := fun h => by
      have a := (cond_iff (grid0.coords t)).mp h
      rw [e0] at a; omega
    rw [Dat.leavesExact_idle (dats m 0 c) 2 t (idle_first t ht) (flush_first t ht)]
    iintro ⟨⟨⟨%b, %hb, S0⟩, Hg⟩, Ho, ⟨%d0, H0⟩, ⟨%d1, H1⟩, ⟨%d2, H2⟩⟩
    iapply (fill_step c (grid0.coords t) _ _ _ _ _ _ _ _ hc _ _ _ _ Set.univ _)
    isplitl [H0]; · iexact H0
    isplitl [H1]; · iexact H1
    isplitl [H2]; · iexact H2
    isplitl [S0]; · iexact S0
    iintro ⟨H0, H1, H2, S0⟩
    isplitl [S0 Hg]
    · isplitl [S0]
      · iexists _; isplitr; swap; · iexact S0
        ipureintro; exact holds_succ m c t sc0 (Memref.isWhole_whole _) b hb
      iexact Hg
    isplitl [Ho]; · iexact Ho
    isplitl [H0]; · iexact H0
    isplitl [H1]; · iexact H1
    iexists _; iexact H2
  · have ht' : 8 ≤ t.val := by omega
    have hc : k0_cond1 (grid0.coords t) = 1#1 := (cond_iff (grid0.coords t)).mpr (by rw [e0]; omega)
    rw [leaves_2 m c t ht']
    iintro ⟨⟨⟨%b, %hb, S0⟩, Hg⟩, Ho, ⟨%d0, H0⟩, ⟨%d1, H1⟩, ⟨%d2, H2⟩⟩
    iapply (tile_step c (grid0.coords t) _ _ _ _ _ _ _ _ hc _ _ _ _ (halfW m c (t.val / 8) 0) (halfW m c (t.val / 8) 1)
        (fun off inb hoff w => read_half m c t sc0 (Memref.isWhole_whole _) b hb ht' 0 (by omega) off inb hoff w)
        (fun off inb hoff w => read_half m c t sc0 (Memref.isWhole_whole _) b hb ht' 1 (by omega) off inb hoff w)
        Set.univ _)
    isplitl [H0]; · iexact H0
    isplitl [H1]; · iexact H1
    isplitl [H2]; · iexact H2
    isplitl [S0]; · iexact S0
    iintro ⟨H0, H1, H2, S0⟩
    isplitl [S0 Hg]
    · isplitl [S0]
      · iexists _; isplitr; swap; · iexact S0
        ipureintro; exact holds_succ m c t sc0 (Memref.isWhole_whole _) b hb
      iexact Hg
    isplitl [Ho]; · iexact Ho
    isplitl [H0]; · iexact H0
    isplitl [H1]; · iexact H1
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨%b, S0⟩, Hg⟩
  isplitl [S0]
  · iexists b; isplitr; swap; · iexact S0
    ipureintro; exact holds_zero m c b
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, %hb, S0⟩, Hg⟩
  isplitl [S0]
  · iexists b; iexact S0
  iexact Hg

set_option backward.isDefEq.respectTransparency.types false in
/-- The launch: every execution ends with the arrays at what the proof data say and the semaphores at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Up

end
-- ==== Proof.Up.Value.lean ====
/-
  What the call computes: entry by entry the square of the positive part of the product, and the same from the reference.
-/
module

public import proofs.«01_k».proof.Proof.Up.Body
public import proofs.«01_k».proof.Proof.Gen.Reference4Ideal.Run
public import Idealize.ShloMosaic.Lib.Pointwise
public import Idealize.ShloMosaic.Lib.ValueIdx
public import Idealize.ShloMosaic.Lib.StableHlo.Run

@[expose] public section

set_option maxRecDepth 16384

noncomputable section

namespace Cert.Up

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: activations and weight. -/
abbrev hArg (c : Dev nD) : S8704x4096.Idx → Ideal .bf16 := m ((c : Thread nD τ).loc main_arg0)
abbrev wArg (c : Dev nD) : S4096x16384.Idx → Ideal .f32 := m ((c : Thread nD τ).loc main_arg1)

/-- The square of the positive part. -/
def posSq (x : EReal) : EReal := max x 0 * max x 0

/-! ## The payloads, entry by entry -/

theorem pay1_apply (x : S512x1024.Idx → Ideal .f32) (r : Fin 512) (k : Fin 1024) :
    k0_pay1 (F := Ideal) x (ix3 (0 : Fin 1) r k) = x (ix2 r k) := by
  pointwise [k0_pay1]

theorem pay2_apply (x : S1088x4096.Idx → Ideal .bf16) (w : S1x4096x512.Idx → Ideal .bf16) (r : Fin 1088) (g : Fin 512) :
    k0_pay2 (F := Ideal) x w (ix2 r g) = posSq (∑ k : Fin 4096, x (ix2 r k) * w (ix3 (0 : Fin 1) k g)) := by
  unfold posSq
  pointwise [k0_pay2]

theorem pay3_apply (x : S1088x4096.Idx → Ideal .bf16) (w : S1x4096x512.Idx → Ideal .bf16) (r : Fin 1088) (g : Fin 512) :
    k0_pay3 (F := Ideal) x w (ix2 r g) = posSq (∑ k : Fin 4096, x (ix2 r k) * w (ix3 (0 : Fin 1) k g)) := by
  unfold posSq
  pointwise [k0_pay3]

/-! ## The blocks -/

theorem index_h : ∀ t : Fin grid0.N, 8 ≤ t.val → win0_0.index t 0 = t.val % 8 ∧ win0_0.index t 1 = 0 := by decide +kernel
theorem index_w : ∀ t : Fin grid0.N, t.val < 128 → win0_1.index t 0 = t.val % 8 ∧ win0_1.index t 1 = t.val / 8 := by decide +kernel
theorem index_o : ∀ t : Fin grid0.N, 8 ≤ t.val → win0_2.index t 0 = t.val % 8 ∧ win0_2.index t 1 = t.val / 8 - 1 := by decide +kernel
theorem flush_later : ∀ t : Fin grid0.N, 8 ≤ t.val → win0_2.flush t = true := by decide +kernel

/-- The input tile at a point. -/
abbrev hBlock (c : Dev nD) (t : Fin cfg0.N) : S1088x4096.Idx → Ideal .bf16 := iblk m c 0 t

theorem h_apply (c : Dev nD) (t : Fin cfg0.N) (ht : 8 ≤ t.val) (r : Fin 1088) (k : Fin 4096) :
    hBlock m c t (ix2 r k) = hArg m c (ix2 ⟨1088 * (t.val % 8) + r.val, by omega⟩ k) := by
  have e := index_h t ht
  unfold hBlock iblk
  rw [View.read_apply]
  show V m c main_arg0 _ = _
  rw [V_main_arg0]
  refine congrArg (hArg m c) (funext fun a => Fin.ext ?_)
  match a with
  | ⟨0, _⟩ => show win0_0.index t 0 * 1088 + 1 * r.val = 1088 * (t.val % 8) + r.val; rw [e.1]; omega
  | ⟨1, _⟩ => show win0_0.index t 1 * 4096 + 1 * k.val = k.val; rw [e.2]; omega

theorem w_apply (c : Dev nD) (t : Fin cfg0.N) (ht : t.val < 128) (r : Fin 512) (k : Fin 1024) :
    (iblk m c 1 t : S512x1024.Idx → Ideal .f32) (ix2 r k)
      = wArg m c (ix2 ⟨512 * (t.val % 8) + r.val, by omega⟩ ⟨1024 * (t.val / 8) + k.val, by omega⟩) := by
  have e := index_w t ht
  unfold iblk
  rw [View.read_apply]
  show V m c main_arg1 _ = _
  rw [V_main_arg1]
  refine congrArg (wArg m c) (funext fun a => Fin.ext ?_)
  match a with
  | ⟨0, _⟩ => show win0_1.index t 0 * 512 + 1 * r.val = 512 * (t.val % 8) + r.val; rw [e.1]; omega
  | ⟨1, _⟩ => show win0_1.index t 1 * 1024 + 1 * k.val = 1024 * (t.val / 8) + k.val; rw [e.2]; omega

/-- Half a weight tile is a block of columns of the weight. -/
theorem half_apply (c : Dev nD) (p f : ℕ) (hp : 1 ≤ p) (hp' : p ≤ 16) (hf : f < 2) (k : Fin 4096) (g : Fin 512) :
    halfW m c p f (ix3 (0 : Fin 1) k g) = wArg m c (ix2 k ⟨1024 * (p - 1) + (512 * f + g.val), by omega⟩) := by
  have hk := k.isLt
  have hg := g.isLt
  have e : (pt (8 * (p - 1) + k.val / 512)).val = 8 * (p - 1) + k.val / 512 := by
    show (8 * (p - 1) + k.val / 512) % 136 = _; omega
  show blockW m c (pt (8 * (p - 1) + k.val / 512)) (ix3 (0 : Fin 1) (⟨k.val % 512, _⟩ : Fin 512) (⟨(512 * f + g.val) % 1024, _⟩ : Fin 1024)) = _
  unfold blockW
  refine (pay1_apply _ _ _).trans ((w_apply m c _ (by rw [e]; omega) _ _).trans ?_)
  refine congrArg (wArg m c) (funext fun a => Fin.ext ?_)
  match a with
  | ⟨0, _⟩ => show 512 * ((pt (8 * (p - 1) + k.val / 512)).val % 8) + k.val % 512 = k.val
              rw [e]; omega
  | ⟨1, _⟩ => show 1024 * ((pt (8 * (p - 1) + k.val / 512)).val / 8) + (512 * f + g.val) % 1024 = 1024 * (p - 1) + (512 * f + g.val)
              rw [e]; omega

/-! ## The product -/

/-- Entry (i, j) of the product; nothing beyond the last column. -/
def prod (c : Dev nD) (i : Fin 8704) (j : ℕ) : EReal :=
  if h : j < 16384 then ∑ k : Fin 4096, hArg m c (ix2 i k) * wArg m c (ix2 k ⟨j, h⟩) else 0

theorem half_prod (c : Dev nD) (t : Fin cfg0.N) (ht : 8 ≤ t.val) (f : ℕ) (hf : f < 2) (r : Fin 1088) (g : Fin 512) :
    (∑ k : Fin 4096, hBlock m c t (ix2 r k) * (halfW m c (t.val / 8) f : S1x4096x512.Idx → Ideal .bf16) (ix3 (0 : Fin 1) k g))
      = prod m c ⟨1088 * (t.val % 8) + r.val, by omega⟩ (1024 * (t.val / 8 - 1) + (512 * f + g.val)) := by
  have hN : cfg0.N = 136 := N_0
  have hlt := t.isLt
  have hg := g.isLt
  unfold prod
  rw [dif_pos (show 1024 * (t.val / 8 - 1) + (512 * f + g.val) < 16384 by omega)]
  exact Finset.sum_congr rfl fun k _ => congrArg₂ (· * ·) (h_apply m c t ht r k) (half_apply m c _ f (by omega) (by omega) hf k g)

/-- What a point leaves is its tile. -/
theorem tile_apply (c : Dev nD) (t : Fin cfg0.N) (ht : 8 ≤ t.val) (r : Fin 1088) (j : Fin 1024) :
    tileAt m c t (ix2 r j) = posSq (prod m c ⟨1088 * (t.val % 8) + r.val, by omega⟩ (1024 * (t.val / 8 - 1) + j.val)) := by
  have hj := j.isLt
  unfold tileAt tilePieces
  by_cases h : j.val < 512
  · have hy : (ix2 r j : S1088x1024.Idx)
        = (Rect.unit (s := S1088x1024) ![0, 0] S1088x512.size inb_S1088x1024_S1088x512_0_0).emb (ix2 r (⟨j.val, h⟩ : Fin 512)) := by
      funext a; apply Fin.ext
      match a with
      | ⟨0, _⟩ => show r.val = 0 + 1 * r.val; omega
      | ⟨1, _⟩ => show j.val = 0 + 1 * j.val; omega
    refine (View.canon_cons_of_not_mem _ _ (fun hm => ?_)).trans ?_
    · have h1 := (Rect.mem_set_unit (s := S1088x1024) (inb := inb_S1088x1024_S1088x512_0_512)).mp hm 1
      change 512 ≤ j.val ∧ j.val < 512 + 512 at h1
      omega
    rw [hy, View.canon_cons_emb]
    refine (pay2_apply _ _ _ _).trans (congrArg posSq ((half_prod m c t ht 0 (by omega) r ⟨j.val, h⟩).trans ?_))
    exact congrArg (prod m c _) (by show 1024 * (t.val / 8 - 1) + (512 * 0 + j.val) = _; omega)
  · have hy : (ix2 r j : S1088x1024.Idx)
        = (Rect.unit (s := S1088x1024) ![0, 512] S1088x512.size inb_S1088x1024_S1088x512_0_512).emb (ix2 r (⟨j.val - 512, by omega⟩ : Fin 512)) := by
      funext a; apply Fin.ext
      match a with
      | ⟨0, _⟩ => show r.val = 0 + 1 * r.val; omega
      | ⟨1, _⟩ => show j.val = 512 + 1 * (j.val - 512); omega
    rw [hy, View.canon_cons_emb]
    refine (pay3_apply _ _ _ _).trans (congrArg posSq ((half_prod m c t ht 1 (by omega) r ⟨j.val - 512, by omega⟩).trans ?_))
    exact congrArg (prod m c _) (by show 1024 * (t.val / 8 - 1) + (512 * 1 + (j.val - 512)) = _; omega)

/-- The result. -/
def out (c : Dev nD) : Buf (Elt Ideal) ((c : Thread nD τ).loc main_v0) :=
  fun i => posSq (prod m c ⟨(i 0).val, (i 0).isLt⟩ (i 1).val)

theorem flushed_out (c : Dev nD) (t : Fin cfg0.N) (hf : (cfg0.win 2).flush t = true) :
    (dats m 0 c).flushed 2 t = ((cfg0.win 2).blk t).view.read (Elt Ideal) (out m c) := by
  have ht : 8 ≤ t.val := by
    by_contra h
    rw [flush_first t (by omega)] at hf
    exact Bool.false_ne_true hf
  have e := index_o t ht
  funext y
  have hy0 : (y 0).val < 1088 := (y 0).isLt
  have hy1 : (y 1).val < 1024 := (y 1).isLt
  rw [View.read_apply]
  show (dats m 0 c).after 2 t ((cfg0.win 2).xinj (grid0.coords t) y) = out m c (((cfg0.win 2).blk t).view.emb y)
  rw [after_2]
  have hx : (cfg0.win 2).xinj (grid0.coords t) y = ix2 (⟨(y 0).val, hy0⟩ : Fin 1088) (⟨(y 1).val, hy1⟩ : Fin 1024) := by
    funext a; apply Fin.ext
    match a with
    | ⟨0, _⟩ => rfl
    | ⟨1, _⟩ => rfl
  rw [hx, tile_apply m c t ht]
  unfold out
  refine congrArg posSq (congrArg₂ (prod m c) (Fin.ext ?_) ?_)
  · show 1088 * (t.val % 8) + (y 0).val = win0_2.index t 0 * 1088 + 1 * (y 0).val
    rw [e.1]; omega
  · show 1024 * (t.val / 8 - 1) + (y 1).val = win0_2.index t 1 * 1024 + 1 * (y 1).val
    rw [e.2]; omega

theorem covered_out (i : S8704x16384.Idx) : ∃ t : Fin cfg0.N, (cfg0.win 2).flush t = true ∧ i ∈ ((cfg0.win 2).blk t).view.set := by
  have hN : cfg0.N = 136 := N_0
  have h0 : (i 0).val < 8704 := (i 0).isLt
  have h1 : (i 1).val < 16384 := (i 1).isLt
  obtain ⟨t, ht⟩ : ∃ t : Fin cfg0.N, t.val = 8 * ((i 1).val / 1024 + 1) + (i 0).val / 1088 :=
    ⟨⟨8 * ((i 1).val / 1024 + 1) + (i 0).val / 1088, by rw [hN]; omega⟩, rfl⟩
  have e := index_o t (by omega)
  refine ⟨t, flush_later t (by omega), ?_⟩
  show i ∈ ((View.whole main_v0).slice (win0_2.rect t)).set
  rw [View.set_slice_whole, Rect.mem_set_unit]
  intro a
  match a with
  | ⟨0, _⟩ => show win0_2.index t 0 * 1088 ≤ (i 0).val ∧ (i 0).val < win0_2.index t 0 * 1088 + 1088
              rw [e.1]; omega
  | ⟨1, _⟩ => show win0_2.index t 1 * 1024 ≤ (i 1).val ∧ (i 1).val < win0_2.index t 1 * 1024 + 1024
              rw [e.2]; omega

theorem final_out (c : Dev nD) : (dats m 0 c).arrAt 2 cfg0.N = out m c :=
  (dats m 0 c).arrAt_eq_of_cover 2 _ (fun t hf => flushed_out m c t hf) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_out m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c)))⟩)
    (run_main m ρ)

/-! ## The reference: the same sum -/

/-- The reference's product before the squared positive part. -/
abbrev refProd (h : S8704x4096.Idx → Ideal .bf16) (w : S4096x16384.Idx → Ideal .f32) : FVec Ideal S8704x16384 .f32 :=
  Host.dotGeneral (φ₁ := .f32) (φ₂ := .f32) Cert.Reference4Ideal.dot_S8704x4096_S4096x16384_S8704x16384_1_0_0_1_n_n none
    (extf .f32 h bitsLt_bf16_f32) w

theorem ref_out (h : S8704x4096.Idx → Ideal .bf16) (w : S4096x16384.Idx → Ideal .f32) (i : S8704x16384.Idx) :
    truncf (F := Ideal) .bf16
        (mulf (maximumf (refProd h w) (broadcastInDim S8704x16384 ![] Cert.Reference4Ideal.Gen.bcast_S_S8704x16384 (constant Cert.Reference4Ideal.S_ .f32 0x00000000#32)))
          (maximumf (refProd h w) (broadcastInDim S8704x16384 ![] Cert.Reference4Ideal.Gen.bcast_S_S8704x16384 (constant Cert.Reference4Ideal.S_ .f32 0x00000000#32))))
        bitsLt_bf16_f32 i
      = posSq (∑ k : Fin 4096, h (ix2 ⟨(i 0).val, (i 0).isLt⟩ k) * w (ix2 k ⟨(i 1).val, (i 1).isLt⟩)) := by
  unfold posSq
  pointwise

end Cert.Up

end
-- ==== Proof.Up.Claims.lean ====
/-
  The claims of the up projection.
-/
module

public import proofs.«01_k».proof.Defs
public import proofs.«01_k».proof.Proof.Up.Value
public import proofs.«01_k».proof.Proof.Gen.Kernel4.Launch
public import Idealize.ShloMosaic.Lib.Quiescent

@[expose] public section

set_option maxRecDepth 16384

noncomputable section

namespace Cert.Up

open Idealize.ShloMosaic Idealize.ShloMosaic.TcCoe Idealize.SL.Sem

/-- The two printed programs have the same bodies at the machine's own floats. -/
theorem bodies_eq : @Cert.Kernel4.defs₀ Bits _ _ = @Cert.Kernel4Ideal.defs₀ Bits _ _ := by
  unfold Cert.Kernel4.defs₀ Cert.Kernel4Ideal.defs₀
  refine congrArg Defs.onTc ?_
  funext l a
  match l, a with
  | 0, (t, s) => rfl
  | ⟨_ + 1, h⟩, _ => exact absurd h (Nat.not_lt.2 (Nat.le_add_left _ _))

theorem defs_eq : @Cert.Kernel4.defs Bits _ _ = @Cert.Kernel4Ideal.defs Bits _ _ :=
  congrArg (Pipeline.defs (Cert.Kernel4Ideal.pcfgs (F := Bits))) bodies_eq

theorem main_eq : Cert.Kernel4.main (F := Bits) = Cert.Kernel4Ideal.main (F := Bits) := by
  funext c
  exact (Cert.Kernel4.Gen.main_chain (F := Bits) c).trans (Cert.Kernel4Ideal.Gen.main_chain (F := Bits) c).symm

/-- One run serves both frames: here it is read at the machine's own floats. -/
theorem frame_kernel : Cert.quiescent_Kernel4 := by
  intro m ρ _
  rw [defs_eq, main_eq]
  exact frame (F := Bits) m ρ

theorem frame_kernel_ideal : Cert.quiescent_Kernel4Ideal := fun m ρ _ => frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨out m, run m ρ, ?_⟩
  refine (θ_run Cert.Reference4Ideal.defs _ _).mono (fun _ h c => ?_) (Cert.Reference4Ideal.Value.run (F := Ideal) m' ρ')
  have hc := h c
  rw [(hagree c).1, (hagree c).2] at hc
  refine ⟨hc.1.trans ?_, (h c).2⟩
  funext i
  refine (ref_out (hArg m c) (wArg m c) i).trans ?_
  unfold out prod
  rw [dif_pos (show (i 1).val < 16384 from (i 1).isLt)]

end Cert.Up

end
-- ==== Proof.Mem.Claims.lean ====
/-
  The memory's key and value projection: the call's array is the product of the memory rows with the weight, entry by
  entry, and the two results are the version's own cuts of it, as the reference's are of its product.
-/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import Idealize.ShloMosaic.Lib.Pipeline.Value
public import Idealize.ShloMosaic.Lib.Tactic
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.Mem

section Reference
open Cert.Reference5Ideal Cert.Reference5Ideal.Gen Idealize.ShloMosaic Idealize.ShloMosaic.TcCoe Idealize.SL.Sem

/-- The reference's product. -/
abbrev refProd (h : S512x4096.Idx → Ideal .bf16) (w : S4096x1024.Idx → Ideal .f32) : FVec Ideal S512x1024 .f32 :=
  Host.dotGeneral (φ₁ := .f32) (φ₂ := .f32) dot_S512x4096_S4096x1024_S512x1024_1_0_0_1_n_n none (extf .f32 h bitsLt_bf16_f32) w

theorem refProd_apply (h : S512x4096.Idx → Ideal .bf16) (w : S4096x1024.Idx → Ideal .f32) (i : S512x1024.Idx) :
    refProd h w i = ∑ k : Fin 4096, h (ix2 ⟨(i 0).val, (i 0).isLt⟩ k) * w (ix2 k ⟨(i 1).val, (i 1).isLt⟩) := by
  pointwise

end Reference

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: the memory rows and the weight. -/
abbrev hArg (c : Dev nD) : S512x4096.Idx → Ideal .bf16 := m ((c : Thread nD τ).loc main_arg0)
abbrev wArg (c : Dev nD) : S4096x1024.Idx → Ideal .f32 := m ((c : Thread nD τ).loc main_arg1)

theorem origin : (![0, 0] : Fin 2 → Nat) = fun _ => 0 := funext fun a => by fin_cases a <;> rfl

/-- A point leaves the product of its two blocks. -/
theorem tile_eq (c : Dev nD) (i : grid0.Coords)
    (b2 : Memref sig .tc .vmem S512x4096 .bf16) (w2 : b2.IsWhole) (b3 : Memref sig .tc .vmem S4096x512 .f32) (w3 : b3.IsWhole)
    (b4 : Memref sig .tc .vmem S512x512 .f32) (w4 : b4.IsWhole) (b5 : Memref sig .tc .vmem S4096x512 .bf16) (w5 : b5.IsWhole)
    (hc : cond0_0 i) (x : Vec Ideal S512x4096 .bf16) (w : Vec Ideal S4096x512 .f32) :
    out0_A_2 c i b2 w2 b3 w3 b4 w4 b5 w5 hc x w = k0_pay2 x (k0_pay1 w) := by
  unfold out0_A_2
  rw [View.read_writes_eq_canon _ _ _ (cover0_A_2 c i b2 w2 b3 w3 b4 w4 b5 w5 hc x w)]
  unfold kernelRun0_A
  dsimp only
  sl_unfold_words
  rw [View.canon_unit_zero origin]
  simp only [View.readAt_eq_ld, w2.read_unread, w3.read_unread, View.ld_unit_zero (S := S512x4096) origin,
    View.ld_unit_zero (S := S4096x512) origin, View.readCov_unit_zero (S := S4096x512) _ origin]

theorem pay_apply (x : S512x4096.Idx → Ideal .bf16) (w : S4096x512.Idx → Ideal .f32) (r g : Fin 512) :
    k0_pay2 (F := Ideal) x (k0_pay1 (F := Ideal) w) (ix2 r g) = ∑ k : Fin 4096, x (ix2 r k) * w (ix2 k g) := by
  pointwise [k0_pay2, k0_pay1]

theorem index_h : ∀ t : Fin grid0.N, win0_0.index t 0 = 0 ∧ win0_0.index t 1 = 0 := by decide +kernel
theorem index_w : ∀ t : Fin grid0.N, win0_1.index t 0 = 0 ∧ win0_1.index t 1 = t.val := by decide +kernel
theorem index_o : ∀ t : Fin grid0.N, win0_2.index t 0 = 0 ∧ win0_2.index t 1 = t.val := by decide +kernel
theorem flush_all : ∀ t : Fin grid0.N, win0_2.flush t = true := by decide +kernel

theorem points (t : Fin cfg0.N) : t.val < 2 := lt_of_lt_of_eq t.isLt N_0

abbrev hBlock (c : Dev nD) (t : Fin cfg0.N) : S512x4096.Idx → Ideal .bf16 := iblk m c 0 t
abbrev wBlock (c : Dev nD) (t : Fin cfg0.N) : S4096x512.Idx → Ideal .f32 := iblk m c 1 t

theorem h_apply (c : Dev nD) (t : Fin cfg0.N) (r : Fin 512) (k : Fin 4096) : hBlock m c t (ix2 r k) = hArg m c (ix2 r k) := by
  have e := index_h t
  unfold hBlock iblk
  rw [View.read_apply]
  show V m c main_arg0 _ = _
  rw [V_main_arg0]
  refine congrArg (hArg m c) (funext fun a => Fin.ext ?_)
  match a with
  | ⟨0, _⟩ => show win0_0.index t 0 * 512 + 1 * r.val = r.val; rw [e.1]; omega
  | ⟨1, _⟩ => show win0_0.index t 1 * 4096 + 1 * k.val = k.val; rw [e.2]; omega

theorem w_apply (c : Dev nD) (t : Fin cfg0.N) (k : Fin 4096) (g : Fin 512) :
    wBlock m c t (ix2 k g) = wArg m c (ix2 k ⟨512 * t.val + g.val, by have := points t; omega⟩) := by
  have e := index_w t
  unfold wBlock iblk
  rw [View.read_apply]
  show V m c main_arg1 _ = _
  rw [V_main_arg1]
  refine congrArg (wArg m c) (funext fun a => Fin.ext ?_)
  match a with
  | ⟨0, _⟩ => show win0_1.index t 0 * 4096 + 1 * k.val = k.val; rw [e.1]; omega
  | ⟨1, _⟩ => show win0_1.index t 1 * 512 + 1 * g.val = 512 * t.val + g.val; rw [e.2]; omega

/-- The call's array: the product, as the reference has it. -/
def out (c : Dev nD) : Buf (Elt Ideal) ((c : Thread nD τ).loc main_v0) := refProd (hArg m c) (wArg m c)

theorem flushed_out (c : Dev nD) (t : Fin cfg0.N) :
    (dats m 0 c).flushed 2 t = ((cfg0.win 2).blk t).view.read (Elt Ideal) (out m c) := by
  have e := index_o t
  have ht := points t
  funext y
  have hy0 : (y 0).val < 512 := (y 0).isLt
  have hy1 : (y 1).val < 512 := (y 1).isLt
  rw [View.read_apply]
  show (dats m 0 c).after 2 t ((cfg0.win 2).xinj (grid0.coords t) y) = refProd (hArg m c) (wArg m c) (((cfg0.win 2).blk t).view.emb y)
  rw [after0_2]
  have hx : (cfg0.win 2).xinj (grid0.coords t) y = ix2 (⟨(y 0).val, hy0⟩ : Fin 512) (⟨(y 1).val, hy1⟩ : Fin 512) := by
    funext a; apply Fin.ext
    match a with
    | ⟨0, _⟩ => rfl
    | ⟨1, _⟩ => rfl
  rw [hx]
  unfold outsAt0
  rw [tile_eq]
  refine (pay_apply (hBlock m c t) (wBlock m c t) _ _).trans (Eq.trans ?_ (refProd_apply (hArg m c) (wArg m c) _).symm)
  refine Finset.sum_congr rfl fun k _ => congrArg₂ (· * ·) ((h_apply m c t _ k).trans (congrArg (hArg m c) ?_))
    ((w_apply m c t k _).trans (congrArg (wArg m c) ?_))
  · funext a; apply Fin.ext
    match a with
    | ⟨0, _⟩ => show (y 0).val = win0_2.index t 0 * 512 + 1 * (y 0).val; rw [e.1]; omega
    | ⟨1, _⟩ => rfl
  · funext a; apply Fin.ext
    match a with
    | ⟨0, _⟩ => rfl
    | ⟨1, _⟩ => show 512 * t.val + (y 1).val = win0_2.index t 1 * 512 + 1 * (y 1).val; rw [e.2]; omega

theorem covered_out (i : S512x1024.Idx) : ∃ t : Fin cfg0.N, (cfg0.win 2).flush t = true ∧ i ∈ ((cfg0.win 2).blk t).view.set := by
  have hN : cfg0.N = 2 := N_0
  have h0 : (i 0).val < 512 := (i 0).isLt
  have h1 : (i 1).val < 1024 := (i 1).isLt
  obtain ⟨t, ht⟩ : ∃ t : Fin cfg0.N, t.val = (i 1).val / 512 := ⟨⟨(i 1).val / 512, by rw [hN]; omega⟩, rfl⟩
  have e := index_o t
  refine ⟨t, flush_all t, ?_⟩
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512
              rw [e.1]; omega
  | ⟨1, _⟩ => show win0_2.index t 1 * 512 ≤ (i 1).val ∧ (i 1).val < win0_2.index t 1 * 512 + 512
              rw [e.2]; omega

theorem final_out (c : Dev nD) : (dats m 0 c).arrAt 2 cfg0.N = out m c :=
  (dats m 0 c).arrAt_eq_of_cover 2 _ (fun t _ => flushed_out m c t) covered_out

/-! ## The lines after the call -/

section Lines
variable (U : Valuation τ sig (Elt Ideal))

/-- The keys: the first 512 columns, with heads apart, -/
abbrev keys (p : S512x1024.Idx → Ideal .f32) : Vec Ideal S2x256x4x128 .f32 :=
  shapeCast S2x256x4x128 (extractStridedSlice S512x512 ![0, 0] (p : Vec Ideal S512x1024 .f32) slices_S512x1024_S512x512_0_0) shapeCasts_S512x512_S2x256x4x128
/-- and the values: the other 512. -/
abbrev values (p : S512x1024.Idx → Ideal .f32) : Vec Ideal S2x256x4x128 .f32 :=
  shapeCast S2x256x4x128 (extractStridedSlice S512x512 ![0, 512] (p : Vec Ideal S512x1024 .f32) slices_S512x1024_S512x512_0_512) shapeCasts_S512x512_S2x256x4x128

theorem left_keys : StableHlo.after (List.flatten [hostOps1]) U (Proc.devRef .tc main_v2) = keys (U (Proc.devRef .tc main_v0)) := by
  simp only [List.flatten_cons, List.flatten_nil, List.append_nil]
  after_results
  rfl

theorem left_values : StableHlo.after (List.flatten [hostOps1]) U (Proc.devRef .tc main_v4) = values (U (Proc.devRef .tc main_v0)) := by
  simp only [List.flatten_cons, List.flatten_nil, List.append_nil]
  after_results
  rfl

end Lines

theorem arrays_out (c : Dev nD) :
    Pipeline.withArrays spec0 c (V0 m c) (fun w => (dats m 0 c).arrAt w cfg0.N) (Proc.devRef .tc main_v0) = out m c :=
  (Pipeline.withArrays_arr spec0 (by decide) c (V0 m c) (fun w => (dats m 0 c).arrAt w cfg0.N) 2).trans (final_out m c)

/-- The kernel's run with its two results named. -/
theorem run (ρ : Dev nD → PrngReg) :
    θ_run defs (onTc (τ := τ) (main (F := Ideal))) ⟨m, fun _ => 0, ρ⟩ fun r => ∀ c : Dev nD,
      r.2.mem ((c : Thread nD τ).loc main_v2) = keys (out m c)
      ∧ r.2.mem ((c : Thread nD τ).loc main_v4) = values (out m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h.1 c).2 main_v2 (Pipeline.mem_restRefs_of main_v2 (by decide) (by decide))).trans
          ((left_keys _).trans (congrArg keys (arrays_out m c))),
       ((h.1 c).2 main_v4 (Pipeline.mem_restRefs_of main_v4 (by decide) (by decide))).trans
          ((left_values _).trans (congrArg values (arrays_out m c))), h.2 c⟩)
    (θ_run_and (run_main m ρ) (unchanged m ρ))

/-! ## The claims -/

theorem frame_kernel : Cert.quiescent_Kernel5 := fun m ρ _ => Cert.Kernel5.Gen.frame m ρ
theorem frame_kernel_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => keys (out m c), fun c => values (out m c), run m ρ, ?_⟩
  refine (θ_run Cert.Reference5Ideal.defs _ _).mono (fun _ h c => ?_) (Cert.Reference5Ideal.Value.run (F := Ideal) m' ρ')
  have hc := h c
  rw [(hagree c).1, (hagree c).2] at hc
  exact ⟨hc.1, hc.2.1, (h c).2.2⟩

end Cert.Mem

end
-- ==== Proof.Norm.Prompt.lean ====
/-
  The final norm of the prompt rows: every row of the result is the row of the argument scaled by the reciprocal root of its
  mean square and by the gain, entry by entry, from the call and from the reference.
-/
module

public import proofs.«01_k».proof.Defs
public import proofs.«01_k».proof.Proof.Gen.Kernel6.Frame
public import proofs.«01_k».proof.Proof.Gen.Kernel6Ideal.Frame
public import proofs.«01_k».proof.Proof.Gen.Reference6Ideal.Run
public import Idealize.ShloMosaic.Lib.Pipeline.Value
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.NormPrompt

section Reference
open Cert.Reference6Ideal Cert.Reference6Ideal.Gen Idealize.ShloMosaic Idealize.ShloMosaic.TcCoe Idealize.SL.Sem

/-- Entry (r, k) of the normed rows. -/
def entry (x : S8704x4096.Idx → Ideal .f32) (g : S4096.Idx → Ideal .f32) (r : Fin 8704) (k : Fin 4096) : EReal :=
  x (ix2 r k) * Ideal.rsqrt (Ideal.div (∑ j : Fin 4096, x (ix2 r j) * x (ix2 r j)) (Ideal.ofBits FTy.f32 0x45800000#32)
    + Ideal.ofBits FTy.f32 0x358637BD#32) * g (ix1 k)

/-- The reference, entry by entry. -/
theorem ref_out (x : S8704x4096.Idx → Ideal .f32) (g : S4096.Idx → Ideal .f32) (i : S8192x4096.Idx) :
    (mulf (F := Ideal) (φ := .f32) (mulf (extractStridedSlice S8192x4096 ![0, 0] x slices_S8704x4096_S8192x4096_0_0) (broadcastInDim S8192x4096 ![0, 1] bcast_S8192x1_S8192x4096_0_1 (Host.rsqrt (addf (Host.divf (broadcastInDim S8192x1 ![0] bcast_S8192_S8192x1_0 (Host.reduceAdd (mulf (extractStridedSlice S8192x4096 ![0, 0] x slices_S8704x4096_S8192x4096_0_0) (extractStridedSlice S8192x4096 ![0, 0] x slices_S8704x4096_S8192x4096_0_0)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)) : FVec Ideal S8192x4096 .f32) i
      = entry x g ⟨(i 0).val, by have : (i 0).val < 8192 := (i 0).isLt; omega⟩ ⟨(i 1).val, (i 1).isLt⟩ := by
  unfold entry
  pointwise

end Reference

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: the rows and the gain. -/
abbrev xArg (c : Dev nD) : S8704x4096.Idx → Ideal .f32 := m ((c : Thread nD τ).loc main_arg0)
abbrev gArg (c : Dev nD) : S4096.Idx → Ideal .f32 := m ((c : Thread nD τ).loc main_arg1)

theorem origin : (![0, 0] : Fin 2 → Nat) = fun _ => 0 := funext fun a => by fin_cases a <;> rfl

theorem pay1_apply (x : S256x4096.Idx → Ideal .f32) (g : S1x4096.Idx → Ideal .f32) (r : Fin 256) (k : Fin 4096) :
    k0_pay1 (F := Ideal) x g (ix2 r k)
      = x (ix2 r k) * Ideal.rsqrt (Ideal.div (∑ j : Fin 4096, x (ix2 r j) * x (ix2 r j)) (Ideal.ofBits FTy.f32 0x45800000#32)
          + Ideal.ofBits FTy.f32 0x358637BD#32) * g (ix2 (0 : Fin 1) k) := by
  pointwise [k0_pay1]

/-- The gain is laid out as one row before the call. -/
theorem V_gain (c : Dev nD) : V m c main_v0 = shapeCast S1x4096 (gArg m c) shapeCasts_S4096_S1x4096 := by
  unfold V
  after_results
  rfl

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_o : ∀ t : Fin grid0.N, win0_2.index t 0 = t.val ∧ win0_2.index t 1 = 0 := by decide +kernel
theorem flush_all : ∀ t : Fin grid0.N, win0_2.flush t = true := by decide +kernel

theorem points (t : Fin cfg0.N) : t.val < 32 := lt_of_lt_of_eq t.isLt N_0

abbrev xBlock (c : Dev nD) (t : Fin cfg0.N) : S256x4096.Idx → Ideal .f32 := iblk m c 0 t
abbrev gBlock (c : Dev nD) (t : Fin cfg0.N) : S1x4096.Idx → Ideal .f32 := iblk m c 1 t

theorem x_apply (c : Dev nD) (t : Fin cfg0.N) (r : Fin 256) (k : Fin 4096) :
    xBlock m c t (ix2 r k) = xArg m c (ix2 ⟨(256 * t.val + r.val), by have := points t; omega⟩ k) := by
  have e := index_x t
  unfold xBlock iblk
  rw [View.read_apply]
  show V m c main_arg0 _ = _
  rw [V_main_arg0]
  refine congrArg (xArg m c) (funext fun a => Fin.ext ?_)
  match a with
  | ⟨0, _⟩ => show win0_0.index t 0 * 256 + 1 * r.val = (256 * t.val + r.val); rw [e.1]; omega
  | ⟨1, _⟩ => show win0_0.index t 1 * 4096 + 1 * k.val = k.val; rw [e.2]; omega

theorem gain_apply (g : S4096.Idx → Ideal .f32) (k : Fin 4096) :
    (shapeCast S1x4096 (g : Vec Ideal S4096 .f32) shapeCasts_S4096_S1x4096 : S1x4096.Idx → Ideal .f32) (ix2 (0 : Fin 1) k) = g (ix1 k) := by
  pointwise

theorem g_apply (c : Dev nD) (t : Fin cfg0.N) (k : Fin 4096) : gBlock m c t (ix2 (0 : Fin 1) k) = gArg m c (ix1 k) := by
  have e := index_g t
  unfold gBlock iblk
  rw [View.read_apply]
  show V m c main_v0 _ = _
  rw [V_gain]
  refine Eq.trans (congrArg (shapeCast S1x4096 (gArg m c : Vec Ideal S4096 .f32) shapeCasts_S4096_S1x4096 : S1x4096.Idx → Ideal .f32)
    (funext fun a => Fin.ext ?_)) (gain_apply (gArg m c) k)
  match a with
  | ⟨0, _⟩ => show win0_1.index t 0 * 1 + 1 * 0 = 0; rw [e.1]
  | ⟨1, _⟩ => show win0_1.index t 1 * 4096 + 1 * k.val = k.val; rw [e.2]; omega

theorem tile_apply (c : Dev nD) (t : Fin cfg0.N) (r : Fin 256) (k : Fin 4096) :
    (out0_2 (iblk m c 0 t) (iblk m c 1 t) : Vec Ideal S256x4096 .f32) (ix2 r k)
      = entry (xArg m c) (gArg m c) ⟨(256 * t.val + r.val), by have := points t; omega⟩ k := by
  unfold out0_2
  rw [View.canon_unit_zero origin, View.ld_unit_zero (S := S256x4096) origin, View.ld_unit_zero (S := S1x4096) origin]
  refine (pay1_apply (xBlock m c t) (gBlock m c t) r k).trans ?_
  unfold entry
  rw [g_apply]
  simp only [x_apply]

/-- The result. -/
def out (c : Dev nD) : Buf (Elt Ideal) ((c : Thread nD τ).loc main_v1) :=
  fun i => entry (xArg m c) (gArg m c) ⟨(i 0).val, by have : (i 0).val < 8192 := (i 0).isLt; omega⟩ ⟨(i 1).val, (i 1).isLt⟩

theorem flushed_out (c : Dev nD) (t : Fin cfg0.N) :
    (dats m 0 c).flushed 2 t = ((cfg0.win 2).blk t).view.read (Elt Ideal) (out m c) := by
  have e := index_o t
  funext y
  have hy0 : (y 0).val < 256 := (y 0).isLt
  have hy1 : (y 1).val < 4096 := (y 1).isLt
  rw [View.read_apply]
  show (dats m 0 c).after 2 t ((cfg0.win 2).xinj (grid0.coords t) y) = out m c (((cfg0.win 2).blk t).view.emb y)
  rw [after0_2]
  have hx : (cfg0.win 2).xinj (grid0.coords t) y = ix2 (⟨(y 0).val, hy0⟩ : Fin 256) (⟨(y 1).val, hy1⟩ : Fin 4096) := by
    funext a; apply Fin.ext
    match a with
    | ⟨0, _⟩ => rfl
    | ⟨1, _⟩ => rfl
  rw [hx, tile_apply]
  unfold out
  refine congrArg₂ (entry (xArg m c) (gArg m c)) (Fin.ext ?_) (Fin.ext ?_)
  · show (256 * t.val + (y 0).val) = (win0_2.index t 0 * 256 + 1 * (y 0).val)
    rw [e.1]; omega
  · show (y 1).val = win0_2.index t 1 * 4096 + 1 * (y 1).val
    rw [e.2]; omega

theorem covered_out (i : S8192x4096.Idx) : ∃ t : Fin cfg0.N, (cfg0.win 2).flush t = true ∧ i ∈ ((cfg0.win 2).blk t).view.set := by
  have hN : cfg0.N = 32 := N_0
  have h0 : (i 0).val < 8192 := (i 0).isLt
  have h1 : (i 1).val < 4096 := (i 1).isLt
  obtain ⟨t, ht⟩ : ∃ t : Fin cfg0.N, t.val = (i 0).val / 256 := ⟨⟨(i 0).val / 256, by rw [hN]; omega⟩, rfl⟩
  have e := index_o t
  refine ⟨t, flush_all t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e.1]; omega
  | ⟨1, _⟩ => show win0_2.index t 1 * 4096 ≤ (i 1).val ∧ (i 1).val < win0_2.index t 1 * 4096 + 4096
              rw [e.2]; omega

theorem final_out (c : Dev nD) : (dats m 0 c).arrAt 2 cfg0.N = out m c :=
  (dats m 0 c).arrAt_eq_of_cover 2 _ (fun t _ => flushed_out m c t) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_out m c), h.2 c⟩)
    (θ_run_and (run_main m ρ) (unchanged m ρ))

/-! ## The claims -/

theorem frame_kernel : Cert.quiescent_Kernel6 := fun m ρ _ => Cert.Kernel6.Gen.frame m ρ
theorem frame_kernel_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨out m, run m ρ, ?_⟩
  refine (θ_run Cert.Reference6Ideal.defs _ _).mono (fun _ h c => ?_) (Cert.Reference6Ideal.Value.run (F := Ideal) m' ρ')
  have hc := h c
  rw [(hagree c).1, (hagree c).2] at hc
  refine ⟨hc.1.trans ?_, (h c).2⟩
  funext i
  exact ref_out (xArg m c) (gArg m c) i

end Cert.NormPrompt

end
-- ==== Proof.Norm.Sample.lean ====
/-
  The final norm of the sample rows: every row of the result is the row of the argument scaled by the reciprocal root of its
  mean square and by the gain, entry by entry, from the call and from the reference.
-/
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import Idealize.ShloMosaic.Lib.Pipeline.Value
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.NormSample

section Reference
open Cert.Reference7Ideal Cert.Reference7Ideal.Gen Idealize.ShloMosaic Idealize.ShloMosaic.TcCoe Idealize.SL.Sem

/-- Entry (r, k) of the normed rows. -/
def entry (x : S8704x4096.Idx → Ideal .f32) (g : S4096.Idx → Ideal .f32) (r : Fin 8704) (k : Fin 4096) : EReal :=
  x (ix2 r k) * Ideal.rsqrt (Ideal.div (∑ j : Fin 4096, x (ix2 r j) * x (ix2 r j)) (Ideal.ofBits FTy.f32 0x45800000#32)
    + Ideal.ofBits FTy.f32 0x358637BD#32) * g (ix1 k)

/-- The reference, entry by entry. -/
theorem ref_out (x : S8704x4096.Idx → Ideal .f32) (g : S4096.Idx → Ideal .f32) (i : S512x4096.Idx) :
    (mulf (F := Ideal) (φ := .f32) (mulf (extractStridedSlice S512x4096 ![8192, 0] x slices_S8704x4096_S512x4096_8192_0) (broadcastInDim S512x4096 ![0, 1] bcast_S512x1_S512x4096_0_1 (Host.rsqrt (addf (Host.divf (broadcastInDim S512x1 ![0] bcast_S512_S512x1_0 (Host.reduceAdd (mulf (extractStridedSlice S512x4096 ![8192, 0] x slices_S8704x4096_S512x4096_8192_0) (extractStridedSlice S512x4096 ![8192, 0] x slices_S8704x4096_S512x4096_8192_0)) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g)) : FVec Ideal S512x4096 .f32) i
      = entry x g ⟨8192 + (i 0).val, by have : (i 0).val < 512 := (i 0).isLt; omega⟩ ⟨(i 1).val, (i 1).isLt⟩ := by
  unfold entry
  pointwise

end Reference

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: the rows and the gain. -/
abbrev xArg (c : Dev nD) : S8704x4096.Idx → Ideal .f32 := m ((c : Thread nD τ).loc main_arg0)
abbrev gArg (c : Dev nD) : S4096.Idx → Ideal .f32 := m ((c : Thread nD τ).loc main_arg1)

theorem origin : (![0, 0] : Fin 2 → Nat) = fun _ => 0 := funext fun a => by fin_cases a <;> rfl

theorem pay1_apply (x : S256x4096.Idx → Ideal .f32) (g : S1x4096.Idx → Ideal .f32) (r : Fin 256) (k : Fin 4096) :
    k0_pay1 (F := Ideal) x g (ix2 r k)
      = x (ix2 r k) * Ideal.rsqrt (Ideal.div (∑ j : Fin 4096, x (ix2 r j) * x (ix2 r j)) (Ideal.ofBits FTy.f32 0x45800000#32)
          + Ideal.ofBits FTy.f32 0x358637BD#32) * g (ix2 (0 : Fin 1) k) := by
  pointwise [k0_pay1]

/-- The gain is laid out as one row before the call. -/
theorem V_gain (c : Dev nD) : V m c main_v0 = shapeCast S1x4096 (gArg m c) shapeCasts_S4096_S1x4096 := by
  unfold V
  after_results
  rfl

theorem index_x : ∀ t : Fin grid0.N, win0_0.index t 0 = 32 + t.val ∧ win0_0.index t 1 = 0 := by decide +kernel
theorem index_g : ∀ t : Fin grid0.N, win0_1.index t 0 = 0 ∧ win0_1.index t 1 = 0 := by decide +kernel
theorem index_o : ∀ t : Fin grid0.N, win0_2.index t 0 = t.val ∧ win0_2.index t 1 = 0 := by decide +kernel
theorem flush_all : ∀ t : Fin grid0.N, win0_2.flush t = true := by decide +kernel

theorem points (t : Fin cfg0.N) : t.val < 2 := lt_of_lt_of_eq t.isLt N_0

abbrev xBlock (c : Dev nD) (t : Fin cfg0.N) : S256x4096.Idx → Ideal .f32 := iblk m c 0 t
abbrev gBlock (c : Dev nD) (t : Fin cfg0.N) : S1x4096.Idx → Ideal .f32 := iblk m c 1 t

theorem x_apply (c : Dev nD) (t : Fin cfg0.N) (r : Fin 256) (k : Fin 4096) :
    xBlock m c t (ix2 r k) = xArg m c (ix2 ⟨8192 + (256 * t.val + r.val), by have := points t; omega⟩ k) := by
  have e := index_x t
  unfold xBlock iblk
  rw [View.read_apply]
  show V m c main_arg0 _ = _
  rw [V_main_arg0]
  refine congrArg (xArg m c) (funext fun a => Fin.ext ?_)
  match a with
  | ⟨0, _⟩ => show win0_0.index t 0 * 256 + 1 * r.val = 8192 + (256 * t.val + r.val); rw [e.1]; omega
  | ⟨1, _⟩ => show win0_0.index t 1 * 4096 + 1 * k.val = k.val; rw [e.2]; omega

theorem gain_apply (g : S4096.Idx → Ideal .f32) (k : Fin 4096) :
    (shapeCast S1x4096 (g : Vec Ideal S4096 .f32) shapeCasts_S4096_S1x4096 : S1x4096.Idx → Ideal .f32) (ix2 (0 : Fin 1) k) = g (ix1 k) := by
  pointwise

theorem g_apply (c : Dev nD) (t : Fin cfg0.N) (k : Fin 4096) : gBlock m c t (ix2 (0 : Fin 1) k) = gArg m c (ix1 k) := by
  have e := index_g t
  unfold gBlock iblk
  rw [View.read_apply]
  show V m c main_v0 _ = _
  rw [V_gain]
  refine Eq.trans (congrArg (shapeCast S1x4096 (gArg m c : Vec Ideal S4096 .f32) shapeCasts_S4096_S1x4096 : S1x4096.Idx → Ideal .f32)
    (funext fun a => Fin.ext ?_)) (gain_apply (gArg m c) k)
  match a with
  | ⟨0, _⟩ => show win0_1.index t 0 * 1 + 1 * 0 = 0; rw [e.1]
  | ⟨1, _⟩ => show win0_1.index t 1 * 4096 + 1 * k.val = k.val; rw [e.2]; omega

theorem tile_apply (c : Dev nD) (t : Fin cfg0.N) (r : Fin 256) (k : Fin 4096) :
    (out0_2 (iblk m c 0 t) (iblk m c 1 t) : Vec Ideal S256x4096 .f32) (ix2 r k)
      = entry (xArg m c) (gArg m c) ⟨8192 + (256 * t.val + r.val), by have := points t; omega⟩ k := by
  unfold out0_2
  rw [View.canon_unit_zero origin, View.ld_unit_zero (S := S256x4096) origin, View.ld_unit_zero (S := S1x4096) origin]
  refine (pay1_apply (xBlock m c t) (gBlock m c t) r k).trans ?_
  unfold entry
  rw [g_apply]
  simp only [x_apply]

/-- The result. -/
def out (c : Dev nD) : Buf (Elt Ideal) ((c : Thread nD τ).loc main_v1) :=
  fun i => entry (xArg m c) (gArg m c) ⟨8192 + (i 0).val, by have : (i 0).val < 512 := (i 0).isLt; omega⟩ ⟨(i 1).val, (i 1).isLt⟩

theorem flushed_out (c : Dev nD) (t : Fin cfg0.N) :
    (dats m 0 c).flushed 2 t = ((cfg0.win 2).blk t).view.read (Elt Ideal) (out m c) := by
  have e := index_o t
  funext y
  have hy0 : (y 0).val < 256 := (y 0).isLt
  have hy1 : (y 1).val < 4096 := (y 1).isLt
  rw [View.read_apply]
  show (dats m 0 c).after 2 t ((cfg0.win 2).xinj (grid0.coords t) y) = out m c (((cfg0.win 2).blk t).view.emb y)
  rw [after0_2]
  have hx : (cfg0.win 2).xinj (grid0.coords t) y = ix2 (⟨(y 0).val, hy0⟩ : Fin 256) (⟨(y 1).val, hy1⟩ : Fin 4096) := by
    funext a; apply Fin.ext
    match a with
    | ⟨0, _⟩ => rfl
    | ⟨1, _⟩ => rfl
  rw [hx, tile_apply]
  unfold out
  refine congrArg₂ (entry (xArg m c) (gArg m c)) (Fin.ext ?_) (Fin.ext ?_)
  · show 8192 + (256 * t.val + (y 0).val) = 8192 + (win0_2.index t 0 * 256 + 1 * (y 0).val)
    rw [e.1]; omega
  · show (y 1).val = win0_2.index t 1 * 4096 + 1 * (y 1).val
    rw [e.2]; omega

theorem covered_out (i : S512x4096.Idx) : ∃ t : Fin cfg0.N, (cfg0.win 2).flush t = true ∧ i ∈ ((cfg0.win 2).blk t).view.set := by
  have hN : cfg0.N = 2 := N_0
  have h0 : (i 0).val < 512 := (i 0).isLt
  have h1 : (i 1).val < 4096 := (i 1).isLt
  obtain ⟨t, ht⟩ : ∃ t : Fin cfg0.N, t.val = (i 0).val / 256 := ⟨⟨(i 0).val / 256, by rw [hN]; omega⟩, rfl⟩
  have e := index_o t
  refine ⟨t, flush_all t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e.1]; omega
  | ⟨1, _⟩ => show win0_2.index t 1 * 4096 ≤ (i 1).val ∧ (i 1).val < win0_2.index t 1 * 4096 + 4096
              rw [e.2]; omega

theorem final_out (c : Dev nD) : (dats m 0 c).arrAt 2 cfg0.N = out m c :=
  (dats m 0 c).arrAt_eq_of_cover 2 _ (fun t _ => flushed_out m c t) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_out m c), h.2 c⟩)
    (θ_run_and (run_main m ρ) (unchanged m ρ))

/-! ## The claims -/

theorem frame_kernel : Cert.quiescent_Kernel7 := fun m ρ _ => Cert.Kernel7.Gen.frame m ρ
theorem frame_kernel_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨out m, run m ρ, ?_⟩
  refine (θ_run Cert.Reference7Ideal.defs _ _).mono (fun _ h c => ?_) (Cert.Reference7Ideal.Value.run (F := Ideal) m' ρ')
  have hc := h c
  rw [(hagree c).1, (hagree c).2] at hc
  refine ⟨hc.1.trans ?_, (h c).2⟩
  funext i
  exact ref_out (xArg m c) (gArg m c) i

end Cert.NormSample

end
-- ==== Proof.Norm.Memory.lean ====
/-
  The norm of the memory rows: every row of the result is the row of the argument scaled by the reciprocal root of its
  mean square and by the gain, entry by entry, from the call and from the reference.
-/
module

public import proofs.«01_k».proof.Defs
public import proofs.«01_k».proof.Proof.Gen.Kernel8.Frame
public import proofs.«01_k».proof.Proof.Gen.Kernel8Ideal.Frame
public import proofs.«01_k».proof.Proof.Gen.Reference8Ideal.Run
public import Idealize.ShloMosaic.Lib.Pipeline.Value
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.NormMemory

section Reference
open Cert.Reference8Ideal Cert.Reference8Ideal.Gen Idealize.ShloMosaic Idealize.ShloMosaic.TcCoe Idealize.SL.Sem

/-- Entry (r, k) of the normed rows. -/
def entry (x : S512x4096.Idx → Ideal .f32) (g : S4096.Idx → Ideal .f32) (r : Fin 512) (k : Fin 4096) : EReal :=
  x (ix2 r k) * Ideal.rsqrt (Ideal.div (∑ j : Fin 4096, x (ix2 r j) * x (ix2 r j)) (Ideal.ofBits FTy.f32 0x45800000#32)
    + Ideal.ofBits FTy.f32 0x358637BD#32) * g (ix1 k)

/-- The reference, entry by entry. -/
theorem ref_out (x : S512x4096.Idx → Ideal .f32) (g : S4096.Idx → Ideal .f32) (i : S512x4096.Idx) :
    (truncf (F := Ideal) .bf16 (mulf (mulf x (broadcastInDim S512x4096 ![0, 1] bcast_S512x1_S512x4096_0_1 (Host.rsqrt (addf (Host.divf (broadcastInDim S512x1 ![0] bcast_S512_S512x1_0 (Host.reduceAdd (mulf x x) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g))) bitsLt_bf16_f32 : FVec Ideal S512x4096 .bf16) i
      = entry x g ⟨(i 0).val, by have : (i 0).val < 512 := (i 0).isLt; omega⟩ ⟨(i 1).val, (i 1).isLt⟩ := by
  unfold entry
  pointwise

end Reference

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: the rows and the gain. -/
abbrev xArg (c : Dev nD) : S512x4096.Idx → Ideal .f32 := m ((c : Thread nD τ).loc main_arg0)
abbrev gArg (c : Dev nD) : S4096.Idx → Ideal .f32 := m ((c : Thread nD τ).loc main_arg1)

theorem origin : (![0, 0] : Fin 2 → Nat) = fun _ => 0 := funext fun a => by fin_cases a <;> rfl

theorem pay1_apply (x : S256x4096.Idx → Ideal .f32) (g : S1x4096.Idx → Ideal .f32) (r : Fin 256) (k : Fin 4096) :
    k0_pay1 (F := Ideal) x g (ix2 r k)
      = x (ix2 r k) * Ideal.rsqrt (Ideal.div (∑ j : Fin 4096, x (ix2 r j) * x (ix2 r j)) (Ideal.ofBits FTy.f32 0x45800000#32)
          + Ideal.ofBits FTy.f32 0x358637BD#32) * g (ix2 (0 : Fin 1) k) := by
  pointwise [k0_pay1]

/-- The gain is laid out as one row before the call. -/
theorem V_gain (c : Dev nD) : V m c main_v0 = shapeCast S1x4096 (gArg m c) shapeCasts_S4096_S1x4096 := by
  unfold V
  after_results
  rfl

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_o : ∀ t : Fin grid0.N, win0_2.index t 0 = t.val ∧ win0_2.index t 1 = 0 := by decide +kernel
theorem flush_all : ∀ t : Fin grid0.N, win0_2.flush t = true := by decide +kernel

theorem points (t : Fin cfg0.N) : t.val < 2 := lt_of_lt_of_eq t.isLt N_0

abbrev xBlock (c : Dev nD) (t : Fin cfg0.N) : S256x4096.Idx → Ideal .f32 := iblk m c 0 t
abbrev gBlock (c : Dev nD) (t : Fin cfg0.N) : S1x4096.Idx → Ideal .f32 := iblk m c 1 t

theorem x_apply (c : Dev nD) (t : Fin cfg0.N) (r : Fin 256) (k : Fin 4096) :
    xBlock m c t (ix2 r k) = xArg m c (ix2 ⟨(256 * t.val + r.val), by have := points t; omega⟩ k) := by
  have e := index_x t
  unfold xBlock iblk
  rw [View.read_apply]
  show V m c main_arg0 _ = _
  rw [V_main_arg0]
  refine congrArg (xArg m c) (funext fun a => Fin.ext ?_)
  match a with
  | ⟨0, _⟩ => show win0_0.index t 0 * 256 + 1 * r.val = (256 * t.val + r.val); rw [e.1]; omega
  | ⟨1, _⟩ => show win0_0.index t 1 * 4096 + 1 * k.val = k.val; rw [e.2]; omega

theorem gain_apply (g : S4096.Idx → Ideal .f32) (k : Fin 4096) :
    (shapeCast S1x4096 (g : Vec Ideal S4096 .f32) shapeCasts_S4096_S1x4096 : S1x4096.Idx → Ideal .f32) (ix2 (0 : Fin 1) k) = g (ix1 k) := by
  pointwise

theorem g_apply (c : Dev nD) (t : Fin cfg0.N) (k : Fin 4096) : gBlock m c t (ix2 (0 : Fin 1) k) = gArg m c (ix1 k) := by
  have e := index_g t
  unfold gBlock iblk
  rw [View.read_apply]
  show V m c main_v0 _ = _
  rw [V_gain]
  refine Eq.trans (congrArg (shapeCast S1x4096 (gArg m c : Vec Ideal S4096 .f32) shapeCasts_S4096_S1x4096 : S1x4096.Idx → Ideal .f32)
    (funext fun a => Fin.ext ?_)) (gain_apply (gArg m c) k)
  match a with
  | ⟨0, _⟩ => show win0_1.index t 0 * 1 + 1 * 0 = 0; rw [e.1]
  | ⟨1, _⟩ => show win0_1.index t 1 * 4096 + 1 * k.val = k.val; rw [e.2]; omega

theorem tile_apply (c : Dev nD) (t : Fin cfg0.N) (r : Fin 256) (k : Fin 4096) :
    (out0_2 (iblk m c 0 t) (iblk m c 1 t) : Vec Ideal S256x4096 .bf16) (ix2 r k)
      = entry (xArg m c) (gArg m c) ⟨(256 * t.val + r.val), by have := points t; omega⟩ k := by
  unfold out0_2
  rw [View.canon_unit_zero origin, View.ld_unit_zero (S := S256x4096) origin, View.ld_unit_zero (S := S1x4096) origin]
  refine (pay1_apply (xBlock m c t) (gBlock m c t) r k).trans ?_
  unfold entry
  rw [g_apply]
  simp only [x_apply]

/-- The result. -/
def out (c : Dev nD) : Buf (Elt Ideal) ((c : Thread nD τ).loc main_v1) :=
  fun i => entry (xArg m c) (gArg m c) ⟨(i 0).val, by have : (i 0).val < 512 := (i 0).isLt; omega⟩ ⟨(i 1).val, (i 1).isLt⟩

theorem flushed_out (c : Dev nD) (t : Fin cfg0.N) :
    (dats m 0 c).flushed 2 t = ((cfg0.win 2).blk t).view.read (Elt Ideal) (out m c) := by
  have e := index_o t
  funext y
  have hy0 : (y 0).val < 256 := (y 0).isLt
  have hy1 : (y 1).val < 4096 := (y 1).isLt
  rw [View.read_apply]
  show (dats m 0 c).after 2 t ((cfg0.win 2).xinj (grid0.coords t) y) = out m c (((cfg0.win 2).blk t).view.emb y)
  rw [after0_2]
  have hx : (cfg0.win 2).xinj (grid0.coords t) y = ix2 (⟨(y 0).val, hy0⟩ : Fin 256) (⟨(y 1).val, hy1⟩ : Fin 4096) := by
    funext a; apply Fin.ext
    match a with
    | ⟨0, _⟩ => rfl
    | ⟨1, _⟩ => rfl
  rw [hx, tile_apply]
  unfold out
  refine congrArg₂ (entry (xArg m c) (gArg m c)) (Fin.ext ?_) (Fin.ext ?_)
  · show (256 * t.val + (y 0).val) = (win0_2.index t 0 * 256 + 1 * (y 0).val)
    rw [e.1]; omega
  · show (y 1).val = win0_2.index t 1 * 4096 + 1 * (y 1).val
    rw [e.2]; omega

theorem covered_out (i : S512x4096.Idx) : ∃ t : Fin cfg0.N, (cfg0.win 2).flush t = true ∧ i ∈ ((cfg0.win 2).blk t).view.set := by
  have hN : cfg0.N = 2 := N_0
  have h0 : (i 0).val < 512 := (i 0).isLt
  have h1 : (i 1).val < 4096 := (i 1).isLt
  obtain ⟨t, ht⟩ : ∃ t : Fin cfg0.N, t.val = (i 0).val / 256 := ⟨⟨(i 0).val / 256, by rw [hN]; omega⟩, rfl⟩
  have e := index_o t
  refine ⟨t, flush_all t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e.1]; omega
  | ⟨1, _⟩ => show win0_2.index t 1 * 4096 ≤ (i 1).val ∧ (i 1).val < win0_2.index t 1 * 4096 + 4096
              rw [e.2]; omega

theorem final_out (c : Dev nD) : (dats m 0 c).arrAt 2 cfg0.N = out m c :=
  (dats m 0 c).arrAt_eq_of_cover 2 _ (fun t _ => flushed_out m c t) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_out m c), h.2 c⟩)
    (θ_run_and (run_main m ρ) (unchanged m ρ))

/-! ## The claims -/

theorem frame_kernel : Cert.quiescent_Kernel8 := fun m ρ _ => Cert.Kernel8.Gen.frame m ρ
theorem frame_kernel_ideal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨out m, run m ρ, ?_⟩
  refine (θ_run Cert.Reference8Ideal.defs _ _).mono (fun _ h c => ?_) (Cert.Reference8Ideal.Value.run (F := Ideal) m' ρ')
  have hc := h c
  rw [(hagree c).1, (hagree c).2] at hc
  refine ⟨hc.1.trans ?_, (h c).2⟩
  funext i
  exact ref_out (xArg m c) (gArg m c) i

end Cert.NormMemory

end
-- ==== Proof.Norm.Mlp.lean ====
/-
  The norm of the rows the MLP takes: every row of the result is the row of the argument scaled by the reciprocal root of its
  mean square and by the gain, entry by entry, from the call and from the reference.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import Idealize.ShloMosaic.Lib.Pipeline.Value
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.NormMlp

section Reference
open Cert.Reference9Ideal Cert.Reference9Ideal.Gen Idealize.ShloMosaic Idealize.ShloMosaic.TcCoe Idealize.SL.Sem

/-- Entry (r, k) of the normed rows. -/
def entry (x : S8704x4096.Idx → Ideal .f32) (g : S4096.Idx → Ideal .f32) (r : Fin 8704) (k : Fin 4096) : EReal :=
  x (ix2 r k) * Ideal.rsqrt (Ideal.div (∑ j : Fin 4096, x (ix2 r j) * x (ix2 r j)) (Ideal.ofBits FTy.f32 0x45800000#32)
    + Ideal.ofBits FTy.f32 0x358637BD#32) * g (ix1 k)

/-- The reference, entry by entry. -/
theorem ref_out (x : S8704x4096.Idx → Ideal .f32) (g : S4096.Idx → Ideal .f32) (i : S8704x4096.Idx) :
    (truncf (F := Ideal) .bf16 (mulf (mulf x (broadcastInDim S8704x4096 ![0, 1] bcast_S8704x1_S8704x4096_0_1 (Host.rsqrt (addf (Host.divf (broadcastInDim S8704x1 ![0] bcast_S8704_S8704x1_0 (Host.reduceAdd (mulf x x) (constant S_ .f32 0x00000000#32) reducesTo_S8704x4096_S8704_d1 h_S_)) (broadcastInDim S8704x1 ![] bcast_S_S8704x1 (constant S_ .f32 0x45800000#32))) (broadcastInDim S8704x1 ![] bcast_S_S8704x1 (constant S_ .f32 0x358637BD#32)))))) (broadcastInDim S8704x4096 ![0, 1] bcast_S1x4096_S8704x4096_0_1 (broadcastInDim S1x4096 ![1] bcast_S4096_S1x4096_1 g))) bitsLt_bf16_f32 : FVec Ideal S8704x4096 .bf16) i
      = entry x g ⟨(i 0).val, by have : (i 0).val < 8704 := (i 0).isLt; omega⟩ ⟨(i 1).val, (i 1).isLt⟩ := by
  unfold entry
  pointwise

end Reference

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals: the rows and the gain. -/
abbrev xArg (c : Dev nD) : S8704x4096.Idx → Ideal .f32 := m ((c : Thread nD τ).loc main_arg0)
abbrev gArg (c : Dev nD) : S4096.Idx → Ideal .f32 := m ((c : Thread nD τ).loc main_arg1)

theorem origin : (![0, 0] : Fin 2 → Nat) = fun _ => 0 := funext fun a => by fin_cases a <;> rfl

theorem pay1_apply (x : S256x4096.Idx → Ideal .f32) (g : S1x4096.Idx → Ideal .f32) (r : Fin 256) (k : Fin 4096) :
    k0_pay1 (F := Ideal) x g (ix2 r k)
      = x (ix2 r k) * Ideal.rsqrt (Ideal.div (∑ j : Fin 4096, x (ix2 r j) * x (ix2 r j)) (Ideal.ofBits FTy.f32 0x45800000#32)
          + Ideal.ofBits FTy.f32 0x358637BD#32) * g (ix2 (0 : Fin 1) k) := by
  pointwise [k0_pay1]

/-- The gain is laid out as one row before the call. -/
theorem V_gain (c : Dev nD) : V m c main_v0 = shapeCast S1x4096 (gArg m c) shapeCasts_S4096_S1x4096 := by
  unfold V
  after_results
  rfl

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_o : ∀ t : Fin grid0.N, win0_2.index t 0 = t.val ∧ win0_2.index t 1 = 0 := by decide +kernel
theorem flush_all : ∀ t : Fin grid0.N, win0_2.flush t = true := by decide +kernel

theorem points (t : Fin cfg0.N) : t.val < 34 := lt_of_lt_of_eq t.isLt N_0

abbrev xBlock (c : Dev nD) (t : Fin cfg0.N) : S256x4096.Idx → Ideal .f32 := iblk m c 0 t
abbrev gBlock (c : Dev nD) (t : Fin cfg0.N) : S1x4096.Idx → Ideal .f32 := iblk m c 1 t

theorem x_apply (c : Dev nD) (t : Fin cfg0.N) (r : Fin 256) (k : Fin 4096) :
    xBlock m c t (ix2 r k) = xArg m c (ix2 ⟨(256 * t.val + r.val), by have := points t; omega⟩ k) := by
  have e := index_x t
  unfold xBlock iblk
  rw [View.read_apply]
  show V m c main_arg0 _ = _
  rw [V_main_arg0]
  refine congrArg (xArg m c) (funext fun a => Fin.ext ?_)
  match a with
  | ⟨0, _⟩ => show win0_0.index t 0 * 256 + 1 * r.val = (256 * t.val + r.val); rw [e.1]; omega
  | ⟨1, _⟩ => show win0_0.index t 1 * 4096 + 1 * k.val = k.val; rw [e.2]; omega

theorem gain_apply (g : S4096.Idx → Ideal .f32) (k : Fin 4096) :
    (shapeCast S1x4096 (g : Vec Ideal S4096 .f32) shapeCasts_S4096_S1x4096 : S1x4096.Idx → Ideal .f32) (ix2 (0 : Fin 1) k) = g (ix1 k) := by
  pointwise

theorem g_apply (c : Dev nD) (t : Fin cfg0.N) (k : Fin 4096) : gBlock m c t (ix2 (0 : Fin 1) k) = gArg m c (ix1 k) := by
  have e := index_g t
  unfold gBlock iblk
  rw [View.read_apply]
  show V m c main_v0 _ = _
  rw [V_gain]
  refine Eq.trans (congrArg (shapeCast S1x4096 (gArg m c : Vec Ideal S4096 .f32) shapeCasts_S4096_S1x4096 : S1x4096.Idx → Ideal .f32)
    (funext fun a => Fin.ext ?_)) (gain_apply (gArg m c) k)
  match a with
  | ⟨0, _⟩ => show win0_1.index t 0 * 1 + 1 * 0 = 0; rw [e.1]
  | ⟨1, _⟩ => show win0_1.index t 1 * 4096 + 1 * k.val = k.val; rw [e.2]; omega

theorem tile_apply (c : Dev nD) (t : Fin cfg0.N) (r : Fin 256) (k : Fin 4096) :
    (out0_2 (iblk m c 0 t) (iblk m c 1 t) : Vec Ideal S256x4096 .bf16) (ix2 r k)
      = entry (xArg m c) (gArg m c) ⟨(256 * t.val + r.val), by have := points t; omega⟩ k := by
  unfold out0_2
  rw [View.canon_unit_zero origin, View.ld_unit_zero (S := S256x4096) origin, View.ld_unit_zero (S := S1x4096) origin]
  refine (pay1_apply (xBlock m c t) (gBlock m c t) r k).trans ?_
  unfold entry
  rw [g_apply]
  simp only [x_apply]

/-- The result. -/
def out (c : Dev nD) : Buf (Elt Ideal) ((c : Thread nD τ).loc main_v1) :=
  fun i => entry (xArg m c) (gArg m c) ⟨(i 0).val, by have : (i 0).val < 8704 := (i 0).isLt; omega⟩ ⟨(i 1).val, (i 1).isLt⟩

theorem flushed_out (c : Dev nD) (t : Fin cfg0.N) :
    (dats m 0 c).flushed 2 t = ((cfg0.win 2).blk t).view.read (Elt Ideal) (out m c) := by
  have e := index_o t
  funext y
  have hy0 : (y 0).val < 256 := (y 0).isLt
  have hy1 : (y 1).val < 4096 := (y 1).isLt
  rw [View.read_apply]
  show (dats m 0 c).after 2 t ((cfg0.win 2).xinj (grid0.coords t) y) = out m c (((cfg0.win 2).blk t).view.emb y)
  rw [after0_2]
  have hx : (cfg0.win 2).xinj (grid0.coords t) y = ix2 (⟨(y 0).val, hy0⟩ : Fin 256) (⟨(y 1).val, hy1⟩ : Fin 4096) := by
    funext a; apply Fin.ext
    match a with
    | ⟨0, _⟩ => rfl
    | ⟨1, _⟩ => rfl
  rw [hx, tile_apply]
  unfold out
  refine congrArg₂ (entry (xArg m c) (gArg m c)) (Fin.ext ?_) (Fin.ext ?_)
  · show (256 * t.val + (y 0).val) = (win0_2.index t 0 * 256 + 1 * (y 0).val)
    rw [e.1]; omega
  · show (y 1).val = win0_2.index t 1 * 4096 + 1 * (y 1).val
    rw [e.2]; omega

theorem covered_out (i : S8704x4096.Idx) : ∃ t : Fin cfg0.N, (cfg0.win 2).flush t = true ∧ i ∈ ((cfg0.win 2).blk t).view.set := by
  have hN : cfg0.N = 34 := N_0
  have h0 : (i 0).val < 8704 := (i 0).isLt
  have h1 : (i 1).val < 4096 := (i 1).isLt
  obtain ⟨t, ht⟩ : ∃ t : Fin cfg0.N, t.val = (i 0).val / 256 := ⟨⟨(i 0).val / 256, by rw [hN]; omega⟩, rfl⟩
  have e := index_o t
  refine ⟨t, flush_all t, ?_⟩
  show i ∈ ((View.whole main_v1).slice (win0_2.rect t)).set
  rw [View.set_slice_whole, Rect.mem_set_unit]
  intro a
  match a with
  | ⟨0, _⟩ => show win0_2.index t 0 * 256 ≤ (i 0).val ∧ (i 0).val < win0_2.index t 0 * 256 + 256
              rw [e.1]; omega
  | ⟨1, _⟩ => show win0_2.index t 1 * 4096 ≤ (i 1).val ∧ (i 1).val < win0_2.index t 1 * 4096 + 4096
              rw [e.2]; omega

theorem final_out (c : Dev nD) : (dats m 0 c).arrAt 2 cfg0.N = out m c :=
  (dats m 0 c).arrAt_eq_of_cover 2 _ (fun t _ => flushed_out m c t) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final_out m c), h.2 c⟩)
    (θ_run_and (run_main m ρ) (unchanged m ρ))

/-! ## The claims -/

theorem frame_kernel : Cert.quiescent_Kernel9 := fun m ρ _ => Cert.Kernel9.Gen.frame m ρ
theorem frame_kernel_ideal : Cert.quiescent_Kernel9Ideal := fun m ρ _ => Cert.Kernel9Ideal.Gen.frame m ρ
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨out m, run m ρ, ?_⟩
  refine (θ_run Cert.Reference9Ideal.defs _ _).mono (fun _ h c => ?_) (Cert.Reference9Ideal.Value.run (F := Ideal) m' ρ')
  have hc := h c
  rw [(hagree c).1, (hagree c).2] at hc
  refine ⟨hc.1.trans ?_, (h c).2⟩
  funext i
  exact ref_out (xArg m c) (gArg m c) i

end Cert.NormMlp

end
-- ==== Proof.Norm.Mixer.lean ====
/-
  The norm before the input projection: the prompt rows and below them the sample rows, every row scaled by the reciprocal
  root of its mean square and by the gain, entry by entry, from the call and from the reference.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import Idealize.ShloMosaic.Lib.Pipeline.Value
public import Idealize.ShloMosaic.Lib.Tactic
public import Idealize.ShloMosaic.Lib.Pointwise
public import Idealize.ShloMosaic.Lib.ValueIdx
public import Idealize.ShloMosaic.Lib.StableHlo.Run
public import Idealize.ShloMosaic.Lib.Quiescent

@[expose] public section

set_option maxRecDepth 16384

noncomputable section

namespace Cert.NormMixer

section Reference
open Cert.Reference10Ideal Cert.Reference10Ideal.Gen Idealize.ShloMosaic Idealize.ShloMosaic.TcCoe Idealize.SL.Sem

/-- Entry `k` of a row scaled by its root mean square and the gain. -/
def normed (x g : Fin 4096 → EReal) (k : Fin 4096) : EReal :=
  x k * Ideal.rsqrt (Ideal.div (∑ j : Fin 4096, x j * x j) (Ideal.ofBits FTy.f32 0x45800000#32)
    + Ideal.ofBits FTy.f32 0x358637BD#32) * g k

/-- Row `r` of the two groups, one above the other. -/
def rowOf (xp : S8192x4096.Idx → Ideal .f32) (xs : S512x4096.Idx → Ideal .f32) (r : Fin 8704) (k : Fin 4096) : EReal :=
  if h : r.val < 8192 then xp (ix2 ⟨r.val, h⟩ k) else xs (ix2 ⟨r.val - 8192, by omega⟩ k)

theorem rowOf_prompt (xp : S8192x4096.Idx → Ideal .f32) (xs : S512x4096.Idx → Ideal .f32) (r : Fin 8704) (h : r.val < 8192)
    (k : Fin 4096) : rowOf xp xs r k = xp (ix2 ⟨r.val, h⟩ k) := dif_pos h

theorem rowOf_sample (xp : S8192x4096.Idx → Ideal .f32) (xs : S512x4096.Idx → Ideal .f32) (r : Fin 8704) (h : ¬ r.val < 8192)
    (k : Fin 4096) : rowOf xp xs r k = xs (ix2 ⟨r.val - 8192, by omega⟩ k) := dif_neg h

abbrev refPrompt (xp : S8192x4096.Idx → Ideal .f32) (g : S4096.Idx → Ideal .f32) : FVec Ideal S8192x4096 .f32 :=
  (mulf (F := Ideal) (φ := .f32) (mulf xp (broadcastInDim S8192x4096 ![0, 1] bcast_S8192x1_S8192x4096_0_1 (Host.rsqrt (addf (Host.divf (broadcastInDim S8192x1 ![0] bcast_S8192_S8192x1_0 (Host.reduceAdd (mulf xp xp) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g)))

abbrev refSample (xs : S512x4096.Idx → Ideal .f32) (g : S4096.Idx → Ideal .f32) : FVec Ideal S512x4096 .f32 :=
  (mulf (F := Ideal) (φ := .f32) (mulf xs (broadcastInDim S512x4096 ![0, 1] bcast_S512x1_S512x4096_0_1 (Host.rsqrt (addf (Host.divf (broadcastInDim S512x1 ![0] bcast_S512_S512x1_0 (Host.reduceAdd (mulf xs xs) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 g)))

theorem refPrompt_apply (xp : S8192x4096.Idx → Ideal .f32) (g : S4096.Idx → Ideal .f32) (r : Fin 8192) (k : Fin 4096) :
    refPrompt xp g (ix2 r k) = normed (fun j => xp (ix2 r j)) (fun j => g (ix1 j)) k := by
  unfold normed
  pointwise

theorem refSample_apply (xs : S512x4096.Idx → Ideal .f32) (g : S4096.Idx → Ideal .f32) (r : Fin 512) (k : Fin 4096) :
    refSample xs g (ix2 r k) = normed (fun j => xs (ix2 r j)) (fun j => g (ix1 j)) k := by
  unfold normed
  pointwise

/-- Two arrays one above the other, rounded, entry by entry. -/
theorem stacked (a : FVec Ideal S8192x4096 .f32) (b : FVec Ideal S512x4096 .f32) (i : S8704x4096.Idx) :
    truncf (F := Ideal) .bf16 (concatenate S8704x4096 0 [⟨S8192x4096, a⟩, ⟨S512x4096, b⟩] concatenates_S8192x4096_S512x4096_S8704x4096_d0) bitsLt_bf16_f32 i
      = if h : (i 0).val < 8192 then (a (ix2 ⟨(i 0).val, h⟩ ⟨(i 1).val, (i 1).isLt⟩) : EReal)
        else b (ix2 ⟨(i 0).val - 8192, by have : (i 0).val < 8704 := (i 0).isLt; omega⟩ ⟨(i 1).val, (i 1).isLt⟩) := by
  pointwise

/-- The reference, entry by entry. -/
theorem ref_out (xp : S8192x4096.Idx → Ideal .f32) (xs : S512x4096.Idx → Ideal .f32) (g : S4096.Idx → Ideal .f32) (i : S8704x4096.Idx) :
    truncf (F := Ideal) .bf16 (concatenate S8704x4096 0 [⟨S8192x4096, refPrompt xp g⟩, ⟨S512x4096, refSample xs g⟩] concatenates_S8192x4096_S512x4096_S8704x4096_d0) bitsLt_bf16_f32 i
      = normed (rowOf xp xs ⟨(i 0).val, (i 0).isLt⟩) (fun j => g (ix1 j)) ⟨(i 1).val, (i 1).isLt⟩ := by
  refine (stacked _ _ i).trans ?_
  by_cases h : (i 0).val < 8192
  · rw [dif_pos h]
    refine (refPrompt_apply xp g _ _).trans (congrArg (fun x => normed x _ _) (funext fun j => ?_))
    exact (rowOf_prompt xp xs ⟨(i 0).val, (i 0).isLt⟩ h j).symm
  · rw [dif_neg h]
    refine (refSample_apply xs g _ _).trans (congrArg (fun x => normed x _ _) (funext fun j => ?_))
    exact (rowOf_sample xp xs ⟨(i 0).val, (i 0).isLt⟩ h j).symm

end Reference

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The three arguments, as arrays of extended reals: prompt rows, sample rows, gain. -/
abbrev pArg (c : Dev nD) : S8192x4096.Idx → Ideal .f32 := m ((c : Thread nD τ).loc main_arg0)
abbrev sArg (c : Dev nD) : S512x4096.Idx → Ideal .f32 := m ((c : Thread nD τ).loc main_arg1)
abbrev gArg (c : Dev nD) : S4096.Idx → Ideal .f32 := m ((c : Thread nD τ).loc main_arg2)

theorem origin : (![0, 0] : Fin 2 → Nat) = fun _ => 0 := funext fun a => by fin_cases a <;> rfl

theorem tile_A (c : Dev nD) (i : grid0.Coords)
    (b1 : Memref sig .tc .vmem S256x4096 .f32) (w1 : b1.IsWhole) (b2 : Memref sig .tc .vmem S256x4096 .f32) (w2 : b2.IsWhole)
    (b3 : Memref sig .tc .vmem S1x4096 .f32) (w3 : b3.IsWhole) (b4 : Memref sig .tc .vmem S256x4096 .bf16) (w4 : b4.IsWhole)
    (h0 : cond0_0 i) (h1 : ¬cond0_1 i) (xp xs : Vec Ideal S256x4096 .f32) (g : Vec Ideal S1x4096 .f32) :
    out0_A_3 c i b1 w1 b2 w2 b3 w3 b4 w4 h0 h1 xp xs g = k0_pay1 xp g := by
  unfold out0_A_3
  rw [View.read_writes_eq_canon _ _ _ (cover0_A_3 c i b1 w1 b2 w2 b3 w3 b4 w4 h0 h1 xp xs g)]
  unfold kernelRun0_A
  dsimp only
  sl_unfold_words
  rw [View.canon_unit_zero origin]
  simp only [View.readAt_eq_ld, w1.read_unread, w3.read_unread, View.ld_unit_zero (S := S256x4096) origin,
    View.ld_unit_zero (S := S1x4096) origin]

theorem k0_pay1_apply (x : S256x4096.Idx → Ideal .f32) (g : S1x4096.Idx → Ideal .f32) (r : Fin 256) (k : Fin 4096) :
    k0_pay1 (F := Ideal) x g (ix2 r k)
      = x (ix2 r k) * Ideal.rsqrt (Ideal.div (∑ j : Fin 4096, x (ix2 r j) * x (ix2 r j)) (Ideal.ofBits FTy.f32 0x45800000#32)
    + Ideal.ofBits FTy.f32 0x358637BD#32) * g (ix2 (0 : Fin 1) k) := by
  pointwise [k0_pay1]

theorem tile_B (c : Dev nD) (i : grid0.Coords)
    (b1 : Memref sig .tc .vmem S256x4096 .f32) (w1 : b1.IsWhole) (b2 : Memref sig .tc .vmem S256x4096 .f32) (w2 : b2.IsWhole)
    (b3 : Memref sig .tc .vmem S1x4096 .f32) (w3 : b3.IsWhole) (b4 : Memref sig .tc .vmem S256x4096 .bf16) (w4 : b4.IsWhole)
    (h0 : ¬cond0_0 i) (h1 : cond0_1 i) (xp xs : Vec Ideal S256x4096 .f32) (g : Vec Ideal S1x4096 .f32) :
    out0_B_3 c i b1 w1 b2 w2 b3 w3 b4 w4 h0 h1 xp xs g = k0_pay2 xs g := by
  unfold out0_B_3
  rw [View.read_writes_eq_canon _ _ _ (cover0_B_3 c i b1 w1 b2 w2 b3 w3 b4 w4 h0 h1 xp xs g)]
  unfold kernelRun0_B
  dsimp only
  sl_unfold_words
  rw [View.canon_unit_zero origin]
  simp only [View.readAt_eq_ld, w2.read_unread, w3.read_unread, View.ld_unit_zero (S := S256x4096) origin,
    View.ld_unit_zero (S := S1x4096) origin]

theorem k0_pay2_apply (x : S256x4096.Idx → Ideal .f32) (g : S1x4096.Idx → Ideal .f32) (r : Fin 256) (k : Fin 4096) :
    k0_pay2 (F := Ideal) x g (ix2 r k)
      = x (ix2 r k) * Ideal.rsqrt (Ideal.div (∑ j : Fin 4096, x (ix2 r j) * x (ix2 r j)) (Ideal.ofBits FTy.f32 0x45800000#32)
    + Ideal.ofBits FTy.f32 0x358637BD#32) * g (ix2 (0 : Fin 1) k) := by
  pointwise [k0_pay2]

/-- The gain is laid out as one row before the call. -/
theorem V_gain (c : Dev nD) : V m c main_v0 = shapeCast S1x4096 (gArg m c) shapeCasts_S4096_S1x4096 := by
  unfold V
  after_results
  rfl

theorem index_p : ∀ t : Fin grid0.N, t.val < 32 → win0_0.index t 0 = t.val ∧ win0_0.index t 1 = 0 := by decide +kernel
theorem index_s : ∀ t : Fin grid0.N, 32 ≤ t.val → win0_1.index t 0 = t.val - 32 ∧ win0_1.index t 1 = 0 := by decide +kernel
theorem index_g : ∀ t : Fin grid0.N, win0_2.index t 0 = 0 ∧ win0_2.index t 1 = 0 := by decide +kernel
theorem index_o : ∀ t : Fin grid0.N, win0_3.index t 0 = t.val ∧ win0_3.index t 1 = 0 := by decide +kernel
theorem flush_all : ∀ t : Fin grid0.N, win0_3.flush t = true := by decide +kernel

theorem points (t : Fin cfg0.N) : t.val < 34 := lt_of_lt_of_eq t.isLt N_0

abbrev pBlock (c : Dev nD) (t : Fin cfg0.N) : S256x4096.Idx → Ideal .f32 := iblk m c 0 t
abbrev sBlock (c : Dev nD) (t : Fin cfg0.N) : S256x4096.Idx → Ideal .f32 := iblk m c 1 t
abbrev gBlock (c : Dev nD) (t : Fin cfg0.N) : S1x4096.Idx → Ideal .f32 := iblk m c 2 t

theorem p_apply (c : Dev nD) (t : Fin cfg0.N) (ht : t.val < 32) (r : Fin 256) (k : Fin 4096) :
    pBlock m c t (ix2 r k) = rowOf (pArg m c) (sArg m c) ⟨256 * t.val + r.val, by omega⟩ k := by
  have e := index_p t ht
  unfold rowOf
  rw [dif_pos (show 256 * t.val + r.val < 8192 by omega)]
  unfold pBlock iblk
  rw [View.read_apply]
  show V m c main_arg0 _ = _
  rw [V_main_arg0]
  refine congrArg (pArg m c) (funext fun a => Fin.ext ?_)
  match a with
  | ⟨0, _⟩ => show win0_0.index t 0 * 256 + 1 * r.val = 256 * t.val + r.val; rw [e.1]; omega
  | ⟨1, _⟩ => show win0_0.index t 1 * 4096 + 1 * k.val = k.val; rw [e.2]; omega

theorem s_apply (c : Dev nD) (t : Fin cfg0.N) (ht : 32 ≤ t.val) (r : Fin 256) (k : Fin 4096) :
    sBlock m c t (ix2 r k) = rowOf (pArg m c) (sArg m c) ⟨256 * t.val + r.val, by have := points t; omega⟩ k := by
  have e := index_s t ht
  unfold rowOf
  rw [dif_neg (show ¬ 256 * t.val + r.val < 8192 by omega)]
  unfold sBlock iblk
  rw [View.read_apply]
  show V m c main_arg1 _ = _
  rw [V_main_arg1]
  refine congrArg (sArg m c) (funext fun a => Fin.ext ?_)
  match a with
  | ⟨0, _⟩ => show win0_1.index t 0 * 256 + 1 * r.val = 256 * t.val + r.val - 8192; rw [e.1]; omega
  | ⟨1, _⟩ => show win0_1.index t 1 * 4096 + 1 * k.val = k.val; rw [e.2]; omega

theorem gain_apply (g : S4096.Idx → Ideal .f32) (k : Fin 4096) :
    (shapeCast S1x4096 (g : Vec Ideal S4096 .f32) shapeCasts_S4096_S1x4096 : S1x4096.Idx → Ideal .f32) (ix2 (0 : Fin 1) k) = g (ix1 k) := by
  pointwise

theorem g_apply (c : Dev nD) (t : Fin cfg0.N) (k : Fin 4096) : gBlock m c t (ix2 (0 : Fin 1) k) = gArg m c (ix1 k) := by
  have e := index_g t
  unfold gBlock iblk
  rw [View.read_apply]
  show V m c main_v0 _ = _
  rw [V_gain]
  refine Eq.trans (congrArg (shapeCast S1x4096 (gArg m c : Vec Ideal S4096 .f32) shapeCasts_S4096_S1x4096 : S1x4096.Idx → Ideal .f32)
    (funext fun a => Fin.ext ?_)) (gain_apply (gArg m c) k)
  match a with
  | ⟨0, _⟩ => show win0_2.index t 0 * 1 + 1 * 0 = 0; rw [e.1]
  | ⟨1, _⟩ => show win0_2.index t 1 * 4096 + 1 * k.val = k.val; rw [e.2]; omega

/-- What a point leaves: its rows, normed. -/
theorem tile_apply (c : Dev nD) (t : Fin cfg0.N) (r : Fin 256) (k : Fin 4096) :
    outsAt0 m c t.val t.isLt (ix2 r k)
      = normed (rowOf (pArg m c) (sArg m c) ⟨256 * t.val + r.val, by have := points t; omega⟩) (fun j => gArg m c (ix1 j)) k := by
  by_cases h : t.val < 32
  · rw [outsAt0_A m c t h (by omega), tile_A]
    refine (k0_pay1_apply (pBlock m c t) (gBlock m c t) r k).trans ?_
    unfold normed
    rw [g_apply]
    simp only [p_apply m c t h]
  · rw [outsAt0_B m c t h (by omega), tile_B]
    refine (k0_pay2_apply (sBlock m c t) (gBlock m c t) r k).trans ?_
    unfold normed
    rw [g_apply]
    simp only [s_apply m c t (not_lt.mp h)]

/-- The result. -/
def out (c : Dev nD) : Buf (Elt Ideal) ((c : Thread nD τ).loc main_v1) :=
  fun i => normed (rowOf (pArg m c) (sArg m c) ⟨(i 0).val, (i 0).isLt⟩) (fun j => gArg m c (ix1 j)) ⟨(i 1).val, (i 1).isLt⟩

theorem flushed_out (c : Dev nD) (t : Fin cfg0.N) :
    (dats m 0 c).flushed 3 t = ((cfg0.win 3).blk t).view.read (Elt Ideal) (out m c) := by
  have e := index_o t
  funext y
  have hy0 : (y 0).val < 256 := (y 0).isLt
  have hy1 : (y 1).val < 4096 := (y 1).isLt
  rw [View.read_apply]
  show (dats m 0 c).after 3 t ((cfg0.win 3).xinj (grid0.coords t) y) = out m c (((cfg0.win 3).blk t).view.emb y)
  rw [after0_3]
  have hx : (cfg0.win 3).xinj (grid0.coords t) y = ix2 (⟨(y 0).val, hy0⟩ : Fin 256) (⟨(y 1).val, hy1⟩ : Fin 4096) := by
    funext a; apply Fin.ext
    match a with
    | ⟨0, _⟩ => rfl
    | ⟨1, _⟩ => rfl
  rw [hx, tile_apply]
  unfold out
  refine congrArg₂ (fun r k => normed (rowOf (pArg m c) (sArg m c) r) (fun j => gArg m c (ix1 j)) k) (Fin.ext ?_) (Fin.ext ?_)
  · show 256 * t.val + (y 0).val = win0_3.index t 0 * 256 + 1 * (y 0).val
    rw [e.1]; omega
  · show (y 1).val = win0_3.index t 1 * 4096 + 1 * (y 1).val
    rw [e.2]; omega

theorem covered_out (i : S8704x4096.Idx) : ∃ t : Fin cfg0.N, (cfg0.win 3).flush t = true ∧ i ∈ ((cfg0.win 3).blk t).view.set := by
  have hN : cfg0.N = 34 := N_0
  have h0 : (i 0).val < 8704 := (i 0).isLt
  have h1 : (i 1).val < 4096 := (i 1).isLt
  obtain ⟨t, ht⟩ : ∃ t : Fin cfg0.N, t.val = (i 0).val / 256 := ⟨⟨(i 0).val / 256, by rw [hN]; omega⟩, rfl⟩
  have e := index_o t
  refine ⟨t, flush_all t, ?_⟩
  show i ∈ ((View.whole main_v1).slice (win0_3.rect t)).set
  rw [View.set_slice_whole, Rect.mem_set_unit]
  intro a
  match a with
  | ⟨0, _⟩ => show win0_3.index t 0 * 256 ≤ (i 0).val ∧ (i 0).val < win0_3.index t 0 * 256 + 256
              rw [e.1]; omega
  | ⟨1, _⟩ => show win0_3.index t 1 * 4096 ≤ (i 1).val ∧ (i 1).val < win0_3.index t 1 * 4096 + 4096
              rw [e.2]; omega

theorem final_out (c : Dev nD) : (dats m 0 c).arrAt 3 cfg0.N = out m c :=
  (dats m 0 c).arrAt_eq_of_cover 3 _ (fun t _ => flushed_out m c t) covered_out

/-- The kernel's run with its result named. -/
theorem run (ρ : Dev nD → PrngReg) :
    θ_run defs (onTc (τ := τ) (main (F := Ideal))) ⟨m, fun _ => 0, ρ⟩ fun r => ∀ c : Dev nD,
      r.2.mem ((c : Thread nD τ).loc main_v1) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final_out m c), h.2 c⟩)
    (θ_run_and (run_main m ρ) (unchanged m ρ))

/-! ## The claims -/

theorem frame_kernel : Cert.quiescent_Kernel10 := fun m ρ _ => Cert.Kernel10.Gen.frame m ρ
theorem frame_kernel_ideal : Cert.quiescent_Kernel10Ideal := fun m ρ _ => Cert.Kernel10Ideal.Gen.frame m ρ
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨out m, run m ρ, ?_⟩
  refine (θ_run Cert.Reference10Ideal.defs _ _).mono (fun _ h c => ?_) (Cert.Reference10Ideal.Value.run (F := Ideal) m' ρ')
  have hc := h c
  rw [(hagree c).1, (hagree c).2.1, (hagree c).2.2] at hc
  refine ⟨hc.1.trans ?_, (h c).2⟩
  funext i
  exact ref_out (pArg m c) (sArg m c) (gArg m c) i

end Cert.NormMixer

end
-- ==== Proof.Attn.Points.lean ====
module

public import proofs.«01_k».proof.Proof.Gen.KernelIdeal.Frame
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the converted block of weight rows goes: slot `p % 2`, rows from `64 i`. -/
theorem off1_eq : ∀ i : grid0.Coords, k0_off1 i = ![(i 0).val % 2, 64 * (i 1).val, 0] := by decide +kernel
/-- Where the first half of the finished weight block is read: the other slot. -/
theorem off2_eq : ∀ i : grid0.Coords, k0_off2 i = ![((i 0).val + 1) % 2, 0, 0] := by decide +kernel
/-- Where its second half is read. -/
theorem off3_eq : ∀ i : grid0.Coords, k0_off3 i = ![((i 0).val + 1) % 2, 512, 0] := by decide +kernel
/-- The first half, as the last phase reads it. -/
theorem off4_eq : ∀ i : grid0.Coords, k0_off4 i = ![((i 0).val + 1) % 2, 0, 0] := by decide +kernel
/-- The second half, as the last phase reads it. -/
theorem off5_eq : ∀ i : grid0.Coords, k0_off5 i = ![((i 0).val + 1) % 2, 512, 0] := by decide +kernel

instance closed1 (i : grid0.Coords) : ClosedOff (k0_off1 i) := ⟨_, off1_eq i⟩
instance closed2 (i : grid0.Coords) : ClosedOff (k0_off2 i) := ⟨_, off2_eq i⟩
instance closed3 (i : grid0.Coords) : ClosedOff (k0_off3 i) := ⟨_, off3_eq i⟩
instance closed4 (i : grid0.Coords) : ClosedOff (k0_off4 i) := ⟨_, off4_eq i⟩
instance closed5 (i : grid0.Coords) : ClosedOff (k0_off5 i) := ⟨_, off5_eq i⟩

/-- The condition under which the body clears its scratch: the first point. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1
theorem cond1_iff : ∀ i : grid0.Coords, cond1 i ↔ (i 0).val = 0 ∧ (i 1).val = 0 := by decide +kernel
theorem cond2_iff : ∀ i : grid0.Coords, k0_cond2 i = 1#1 ↔ 1 ≤ (i 0).val ∧ (i 0).val ≤ 8 := by decide +kernel
theorem cond3_iff : ∀ i : grid0.Coords, k0_cond3 i = 1#1 ↔ (i 0).val = 9 := by decide +kernel

end Cert.Attn

end
-- ==== Proof.Attn.RunA.lean ====
module

public import proofs.«01_k».proof.Proof.Attn.Points
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 64000000 in
/-- The body at the first point: a block of rows is converted into the weight scratch and the three padded scratch tiles are cleared. -/
noncomputable def runA (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : cond1 i) (hc2 : ¬ (k0_cond2 i = 1#1)) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    Σ' (L20 : List (View.Piece (Elt F) S2x1024x4096 .bf16)), Σ' (L21 : List (View.Piece (Elt F) S16x2048 .f32)), Σ' (L22 : List (View.Piece (Elt F) S16x2048 .f32)), { L23 : List (View.Piece (Elt F) S16x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23)) -∗ K ⟨⟩))
          ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun E K => ?run⟩
  case run =>
    simp only [cc0_proj_attn_eq_skeleton]; unfold cc0_proj_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]; · iexact H20
    isplitl [H21]; · iexact H21
    isplitl [H22]; · iexact H22
    iexact H23

end Cert.Attn

end
-- ==== Proof.Attn.RunB.lean ====
module

public import proofs.«01_k».proof.Proof.Attn.Points
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 64000000 in
/-- The body at the other points of the first phase: only a block of rows is converted into the weight scratch. -/
noncomputable def runB (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : ¬ (k0_cond2 i = 1#1)) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    { L20 : List (View.Piece (Elt F) S2x1024x4096 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ (arg20.view.loc (c : Thread nD τ) ↦[arg20.view.set]{fullShare} arg20.view.writes (Elt F) (harg20.unread x20) L20) ∗ owns (c : Thread nD τ) arg21 fullShare x21 ∗ owns (c : Thread nD τ) arg22 fullShare x22 ∗ owns (c : Thread nD τ) arg23 fullShare x23) -∗ K ⟨⟩))
          ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, fun E K => ?run⟩
  case run =>
    simp only [cc0_proj_attn_eq_skeleton]; unfold cc0_proj_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]; · iexact H20
    isplitl [H21]
    · iexists _; isplitr; · ipureintro; exact harg21.read_unread _
      iexact H21
    isplitl [H22]
    · iexists _; isplitr; · ipureintro; exact harg22.read_unread _
      iexact H22
    iexists _; isplitr; · ipureintro; exact harg23.read_unread _
    iexact H23

end Cert.Attn

end
-- ==== Proof.Attn.RunC.lean ====
module

public import proofs.«01_k».proof.Proof.Attn.Points
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 64000000 in
/-- The body in the middle phases: the product with the rotary epilogue, and the recurrence of one sequence beside it. -/
noncomputable def runC (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : k0_cond2 i = 1#1) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    Σ' (L15 : List (View.Piece (Elt F) S544x1024 .f32)), Σ' (L16 : List (View.Piece (Elt F) S1x4x4096 .f32)), Σ' (L17 : List (View.Piece (Elt F) S1x8x512x256 .f32)), Σ' (L18 : List (View.Piece (Elt F) S1x8x256 .f32)), Σ' (L19 : List (View.Piece (Elt F) S1x8x128 .f32)), Σ' (L20 : List (View.Piece (Elt F) S2x1024x4096 .bf16)), Σ' (L21 : List (View.Piece (Elt F) S16x2048 .f32)), Σ' (L22 : List (View.Piece (Elt F) S16x2048 .f32)), { L23 : List (View.Piece (Elt F) S16x4096 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17) ∗ (arg18.view.loc (c : Thread nD τ) ↦[arg18.view.set]{fullShare} arg18.view.writes (Elt F) (harg18.unread x18) L18) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23)) -∗ K ⟨⟩))
          ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_proj_attn_eq_skeleton]; unfold cc0_proj_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23

end Cert.Attn

end
-- ==== Proof.Attn.RunD.lean ====
module

public import proofs.«01_k».proof.Proof.Attn.Points
public import proofs.«01_k».proof.Proof.Gen.KernelIdeal.Skeleton

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 64000000 in
/-- The body in the last phase: the product with the rotary epilogue, without the recurrence. -/
noncomputable def runD (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : ¬ (k0_cond2 i = 1#1)) (hc3 : k0_cond3 i = 1#1)
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    Σ' (L15 : List (View.Piece (Elt F) S544x1024 .f32)), { L20 : List (View.Piece (Elt F) S2x1024x4096 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ owns (c : Thread nD τ) arg16 fullShare x16 ∗ owns (c : Thread nD τ) arg17 fullShare x17 ∗ owns (c : Thread nD τ) arg18 fullShare x18 ∗ owns (c : Thread nD τ) arg19 fullShare x19 ∗ (arg20.view.loc (c : Thread nD τ) ↦[arg20.view.set]{fullShare} arg20.view.writes (Elt F) (harg20.unread x20) L20) ∗ owns (c : Thread nD τ) arg21 fullShare x21 ∗ owns (c : Thread nD τ) arg22 fullShare x22 ∗ owns (c : Thread nD τ) arg23 fullShare x23) -∗ K ⟨⟩))
          ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, fun E K => ?run⟩
  case run =>
    simp only [cc0_proj_attn_eq_skeleton]; unfold cc0_proj_attn_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
    sl_exec (disch := first | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]; · iexact H20
    isplitl [H21]
    · iexists _; isplitr; · ipureintro; exact harg21.read_unread _
      iexact H21
    isplitl [H22]
    · iexists _; isplitr; · ipureintro; exact harg22.read_unread _
      iexact H22
    iexists _; isplitr; · ipureintro; exact harg23.read_unread _
    iexact H23

end Cert.Attn

end
-- ==== Proof.Attn.State.lean ====
/-
  What the call carries from one grid point to the next: the two weight tiles, of which one is being filled with converted
  blocks of weight rows while the other one, filled in the phase before, is multiplied.
-/
module

public import proofs.«01_k».proof.Proof.Attn.Points
public import Idealize.ShloMosaic.Lib.WholeRead
public import Idealize.ShloMosaic.Lib.ValueIdxCore
public import Idealize.ShloMosaic.Lib.VecWindow

@[expose] public section

set_option maxRecDepth 16384

noncomputable section

namespace Cert.Attn

open Cert.KernelIdeal Cert.KernelIdeal.Gen
open Idealize.ShloMosaic Idealize.ShloMosaic.TcCoe
open Idealize.SL.Sem
open Idealize.ShloMosaic.ValueIdx (ix3)

variable {F : FTy → Type} [FloatOps F]
variable (m : (ℓ : Loc nD τ sig) → Buf (Elt F) ℓ)

theorem off1_inb (i : grid0.Coords) : ∀ a, k0_off1 i a + S1x64x4096.size a ≤ S2x1024x4096.size a := by
  have h0 : (i 0).val < 10 := (i 0).isLt
  have h1 : (i 1).val < 16 := (i 1).isLt
  rw [off1_eq]
  intro a
  match a with
  | ⟨0, _⟩ => show (i 0).val % 2 + 1 ≤ 2; omega
  | ⟨1, _⟩ => show 64 * (i 1).val + 64 ≤ 1024; omega
  | ⟨2, _⟩ => show 0 + 4096 ≤ 4096; omega

/-- Point `n` of the grid. -/
def pt (n : ℕ) : Fin cfg0.N := ⟨n % 160, lt_of_lt_of_eq (Nat.mod_lt _ (by omega)) N_0.symm⟩

theorem pt_val (t : Fin cfg0.N) : pt t.val = t := by
  have hN : cfg0.N = 160 := N_0
  have := t.isLt
  exact Fin.ext (Nat.mod_eq_of_lt (by omega))

/-- The phase and the step of a point. -/
theorem coords_eq : ∀ t : Fin grid0.N, ((grid0.coords t) 0).val = t.val / 16 ∧ ((grid0.coords t) 1).val = t.val % 16 := by
  decide +kernel

/-- The block of weight rows converted at a point. -/
def blockW (c : Dev nD) (t : Fin cfg0.N) : Vec F S1x64x4096 .bf16 := k0_pay290 (iblk m c 1 t : Vec F S64x4096 .f32)

/-- Before point `n` the weight scratch `b` holds every block converted in the last two phases that has not been
overwritten since. -/
def Holds (c : Dev nD) (n : ℕ) (b : Vec F S2x1024x4096 .bf16) : Prop :=
  ∀ s : ℕ, s < 160 → s < n → n ≤ s + 32 → ∀ (r : Fin 64) (k : Fin 4096),
    b (ix3 (⟨s / 16 % 2, by omega⟩ : Fin 2) (⟨64 * (s % 16) + r.val, by have := r.isLt; omega⟩ : Fin 1024) k)
      = blockW m c (pt s) (ix3 (0 : Fin 1) r k)

theorem holds_zero (c : Dev nD) (b : Vec F S2x1024x4096 .bf16) : Holds m c 0 b := fun s _ h => absurd h (by omega)

/-- Converting a block keeps what is still needed and adds the block. -/
theorem holds_succ (c : Dev nD) (t : Fin cfg0.N) (arg : Memref sig .tc .vmem S2x1024x4096 .bf16) (harg : arg.IsWhole)
    (b : Vec F S2x1024x4096 .bf16) (h : Holds m c t.val b) :
    Holds m c (t.val + 1) (arg.view.read (Elt F) (arg.view.writes (Elt F) (harg.unread b)
      [⟨Rect.unit (s := S2x1024x4096) (k0_off1 (grid0.coords t)) S1x64x4096.size (off1_inb (grid0.coords t)), blockW m c t⟩])) := by
  have hN : cfg0.N = 160 := N_0
  have ht := t.isLt
  obtain ⟨e0, e1⟩ := coords_eq t
  intro s hs hsn hns r k
  have hr := r.isLt
  by_cases hst : s = t.val
  · have hp : pt s = t := by rw [hst]; exact pt_val t
    have hy : (ix3 (⟨s / 16 % 2, by omega⟩ : Fin 2) (⟨64 * (s % 16) + r.val, by omega⟩ : Fin 1024) k : S2x1024x4096.Idx)
        = (Rect.unit (s := S2x1024x4096) (k0_off1 (grid0.coords t)) S1x64x4096.size (off1_inb (grid0.coords t))).emb
            (ix3 (0 : Fin 1) r k) := by
      funext a
      apply Fin.ext
      have e := congrFun (off1_eq (grid0.coords t)) a
      match a with
      | ⟨0, _⟩ =>
        show s / 16 % 2 = k0_off1 (grid0.coords t) 0 + 1 * 0
        rw [show k0_off1 (grid0.coords t) 0 = ((grid0.coords t) 0).val % 2 from e]; omega
      | ⟨1, _⟩ =>
        show 64 * (s % 16) + r.val = k0_off1 (grid0.coords t) 1 + 1 * r.val
        rw [show k0_off1 (grid0.coords t) 1 = 64 * ((grid0.coords t) 1).val from e]; omega
      | ⟨2, _⟩ =>
        show k.val = k0_off1 (grid0.coords t) 2 + 1 * k.val
        rw [show k0_off1 (grid0.coords t) 2 = 0 from e]; omega
    rw [hy, View.read_writes_cons_emb, hp]
  · rw [View.read_writes_apply_of_forall_not_mem, harg.read_unread]
    · exact h s hs (by omega) (by omega) r k
    · intro p hp hmem
      rw [List.mem_singleton] at hp
      subst hp
      have hm := (Rect.mem_set_unit (s := S2x1024x4096) (inb := off1_inb (grid0.coords t))).mp hmem
      have h0 := hm 0
      have h1 := hm 1
      have q0 : k0_off1 (grid0.coords t) 0 = ((grid0.coords t) 0).val % 2 := congrFun (off1_eq (grid0.coords t)) 0
      have q1 : k0_off1 (grid0.coords t) 1 = 64 * ((grid0.coords t) 1).val := congrFun (off1_eq (grid0.coords t)) 1
      rw [q0] at h0
      rw [q1] at h1
      change ((grid0.coords t) 0).val % 2 ≤ s / 16 % 2 ∧ s / 16 % 2 < ((grid0.coords t) 0).val % 2 + 1 at h0
      change 64 * ((grid0.coords t) 1).val ≤ 64 * (s % 16) + r.val ∧ 64 * (s % 16) + r.val < 64 * ((grid0.coords t) 1).val + 64 at h1
      omega

/-- Half `f` of the weight tile multiplied in phase `p`: the blocks converted in phase `p - 1`. -/
def halfW (c : Dev nD) (p f : ℕ) : Vec F S1x512x4096 .bf16 := fun y =>
  blockW m c (pt (16 * (p - 1) + (512 * f + (y 1).val) / 64))
    (ix3 (0 : Fin 1) (⟨(y 1).val % 64, Nat.mod_lt _ (by omega)⟩ : Fin 64) (⟨(y 2).val, (y 2).isLt⟩ : Fin 4096))

/-- What the body reads of the weight scratch, after it has converted the point's block into the other tile. -/
theorem read_half (c : Dev nD) (t : Fin cfg0.N) (arg : Memref sig .tc .vmem S2x1024x4096 .bf16) (harg : arg.IsWhole)
    (b : Vec F S2x1024x4096 .bf16) (h : Holds m c t.val b) (hp : 16 ≤ t.val) (f : ℕ) (hf : f < 2)
    (off : Fin 3 → ℕ) (inb : ∀ a, off a + S1x512x4096.size a ≤ S2x1024x4096.size a)
    (hoff : off = ![((grid0.coords t 0).val + 1) % 2, 512 * f, 0]) (w : Vec F S1x64x4096 .bf16) :
    View.readAt (Elt F) arg.view (Rect.unit (s := S2x1024x4096) off S1x512x4096.size inb).toLoadRect
      (arg.view.writes (Elt F) (harg.unread b)
        [⟨Rect.unit (s := S2x1024x4096) (k0_off1 (grid0.coords t)) S1x64x4096.size (off1_inb (grid0.coords t)), w⟩])
      = halfW m c (t.val / 16) f := by
  have hN : cfg0.N = 160 := N_0
  have ht := t.isLt
  obtain ⟨e0, e1⟩ := coords_eq t
  subst hoff
  rw [View.readAt_unit _ _ inb rfl inb]
  funext y
  have hy0 : (y 0).val < 1 := (y 0).isLt
  have hy1 : (y 1).val < 512 := (y 1).isLt
  have hy2 : (y 2).val < 4096 := (y 2).isLt
  have key : ∀ z : S2x1024x4096.Idx, z = ix3 (⟨(t.val / 16 - 1) % 2, by omega⟩ : Fin 2) (⟨512 * f + (y 1).val, by omega⟩ : Fin 1024) (⟨(y 2).val, hy2⟩ : Fin 4096) →
      arg.view.read (Elt F) (arg.view.writes (Elt F) (harg.unread b)
        [⟨Rect.unit (s := S2x1024x4096) (k0_off1 (grid0.coords t)) S1x64x4096.size (off1_inb (grid0.coords t)), w⟩]) z
      = halfW m c (t.val / 16) f y := by
    intro z hz
    subst hz
    rw [View.read_writes_apply_of_forall_not_mem, harg.read_unread]
    · have := h (16 * (t.val / 16 - 1) + (512 * f + (y 1).val) / 64) (by omega) (by omega) (by omega)
        ⟨(y 1).val % 64, Nat.mod_lt _ (by omega)⟩ ⟨(y 2).val, hy2⟩
      unfold halfW
      rw [← this]
      congr 1
      funext a
      match a with
      | ⟨0, _⟩ => apply Fin.ext; show (t.val / 16 - 1) % 2 = (16 * (t.val / 16 - 1) + (512 * f + (y 1).val) / 64) / 16 % 2; omega
      | ⟨1, _⟩ => apply Fin.ext; show 512 * f + (y 1).val = 64 * ((16 * (t.val / 16 - 1) + (512 * f + (y 1).val) / 64) % 16) + (y 1).val % 64; omega
      | ⟨2, _⟩ => rfl
    · intro p hp hmem
      rw [List.mem_singleton] at hp
      subst hp
      have hm := (Rect.mem_set_unit (s := S2x1024x4096) (inb := off1_inb (grid0.coords t))).mp hmem
      have h0 := hm 0
      have q0 : k0_off1 (grid0.coords t) 0 = ((grid0.coords t) 0).val % 2 := congrFun (off1_eq (grid0.coords t)) 0
      rw [q0] at h0
      change ((grid0.coords t) 0).val % 2 ≤ (t.val / 16 - 1) % 2 ∧ (t.val / 16 - 1) % 2 < ((grid0.coords t) 0).val % 2 + 1 at h0
      omega
  refine key _ (funext fun a => Fin.ext ?_)
  match a with
  | ⟨0, _⟩ => show ((grid0.coords t 0).val + 1) % 2 + 1 * (y 0).val = (t.val / 16 - 1) % 2; omega
  | ⟨1, _⟩ => show 512 * f + 1 * (y 1).val = 512 * f + (y 1).val; omega
  | ⟨2, _⟩ => show 0 + 1 * (y 2).val = (y 2).val; omega

end Cert.Attn

end
-- ==== Proof.Attn.Tile.lean ====
/-
  What the body stores into the projection's tile, as one list of eight strips: the same list in the middle phases and in
  the last one.
-/
module

public import proofs.«01_k».proof.Proof.Attn.RunA
public import proofs.«01_k».proof.Proof.Attn.RunB
public import proofs.«01_k».proof.Proof.Attn.RunC
public import proofs.«01_k».proof.Proof.Attn.RunD
public import proofs.«01_k».proof.Proof.Attn.State

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2_inb (i : grid0.Coords) : ∀ a, k0_off2 i a + S1x512x4096.size a ≤ S2x1024x4096.size a := by
  have h0 : (i 0).val < 10 := (i 0).isLt
  have h1 : (i 1).val < 16 := (i 1).isLt
  rw [off2_eq]
  intro a
  match a with
  | ⟨0, _⟩ => show _ % 2 + 1 ≤ 2; omega
  | ⟨1, _⟩ => show 0 + 512 ≤ 1024; omega
  | ⟨2, _⟩ => show 0 + 4096 ≤ 4096; omega

theorem off3_inb (i : grid0.Coords) : ∀ a, k0_off3 i a + S1x512x4096.size a ≤ S2x1024x4096.size a := by
  have h0 : (i 0).val < 10 := (i 0).isLt
  have h1 : (i 1).val < 16 := (i 1).isLt
  rw [off3_eq]
  intro a
  match a with
  | ⟨0, _⟩ => show _ % 2 + 1 ≤ 2; omega
  | ⟨1, _⟩ => show 512 + 512 ≤ 1024; omega
  | ⟨2, _⟩ => show 0 + 4096 ≤ 4096; omega

theorem off4_inb (i : grid0.Coords) : ∀ a, k0_off4 i a + S1x512x4096.size a ≤ S2x1024x4096.size a := by
  have h0 : (i 0).val < 10 := (i 0).isLt
  have h1 : (i 1).val < 16 := (i 1).isLt
  rw [off4_eq]
  intro a
  match a with
  | ⟨0, _⟩ => show _ % 2 + 1 ≤ 2; omega
  | ⟨1, _⟩ => show 0 + 512 ≤ 1024; omega
  | ⟨2, _⟩ => show 0 + 4096 ≤ 4096; omega

theorem off5_inb (i : grid0.Coords) : ∀ a, k0_off5 i a + S1x512x4096.size a ≤ S2x1024x4096.size a := by
  have h0 : (i 0).val < 10 := (i 0).isLt
  have h1 : (i 1).val < 16 := (i 1).isLt
  rw [off5_eq]
  intro a
  match a with
  | ⟨0, _⟩ => show _ % 2 + 1 ≤ 2; omega
  | ⟨1, _⟩ => show 512 + 512 ≤ 1024; omega
  | ⟨2, _⟩ => show 0 + 4096 ≤ 4096; omega

/-- Columns `o … o + 127` of half a tile: rotated where `w` says so, as they are elsewhere. -/
def strip (acc : FVec F S544x512 .f32) (w : BitVec 1) (cos sin : Vec F S544x128 .f32) (off : Fin 2 → ℕ)
    (h : S544x512.Slices off S544x128) : FVec F S544x128 .f32 :=
  Scalar.select w
    (addf (mulf (extractStridedSlice S544x128 off acc h) (shapeCast S544x128 cos shapeCasts_S544x128_S544x128))
      (mulf (dynamicRotate 1 64#32 none (extractStridedSlice S544x128 off acc h) rotates_S544x128_d1)
        (shapeCast S544x128 sin shapeCasts_S544x128_S544x128)))
    (extractStridedSlice S544x128 off acc h)

/-- Half a tile before the rotary epilogue. -/
def half (x : Vec F S544x4096 .bf16) (w : Vec F S1x512x4096 .bf16) : FVec F S544x512 .f32 :=
  matmul dot_S544x4096_S512x4096_S544x512_1_1_0_0_n_n none x (shapeCast S512x4096 w shapeCasts_S1x512x4096_S512x4096)
    (constant S544x512 .f32 0x00000000#32)

/-- The eight strips of a tile. -/
def tilePieces (a0 a1 : FVec F S544x512 .f32) (w0 w1 : BitVec 1) (cos sin : Vec F S544x128 .f32) :
    List (View.Piece (Elt F) S544x1024 .f32) :=
  [ ⟨(Rect.unit (s := S544x1024) ![0, 512] S544x512.size inb_S544x1024_S544x512_0_512).within
      (Rect.unit (s := S544x512) ![0, 384] S544x128.size inb_S544x512_S544x128_0_384) (fun _ => rfl),
      strip a1 w1 cos sin ![0, 384] slices_S544x512_o0_384_S544x128⟩,
    ⟨(Rect.unit (s := S544x1024) ![0, 512] S544x512.size inb_S544x1024_S544x512_0_512).within
      (Rect.unit (s := S544x512) ![0, 256] S544x128.size inb_S544x512_S544x128_0_256) (fun _ => rfl),
      strip a1 w1 cos sin ![0, 256] slices_S544x512_o0_256_S544x128⟩,
    ⟨(Rect.unit (s := S544x1024) ![0, 512] S544x512.size inb_S544x1024_S544x512_0_512).within
      (Rect.unit (s := S544x512) ![0, 128] S544x128.size inb_S544x512_S544x128_0_128) (fun _ => rfl),
      strip a1 w1 cos sin ![0, 128] slices_S544x512_o0_128_S544x128⟩,
    ⟨(Rect.unit (s := S544x1024) ![0, 512] S544x512.size inb_S544x1024_S544x512_0_512).within
      (Rect.unit (s := S544x512) ![0, 0] S544x128.size inb_S544x512_S544x128_0_0) (fun _ => rfl),
      strip a1 w1 cos sin ![0, 0] slices_S544x512_o0_0_S544x128⟩,
    ⟨(Rect.unit (s := S544x1024) ![0, 0] S544x512.size inb_S544x1024_S544x512_0_0).within
      (Rect.unit (s := S544x512) ![0, 384] S544x128.size inb_S544x512_S544x128_0_384) (fun _ => rfl),
      strip a0 w0 cos sin ![0, 384] slices_S544x512_o0_384_S544x128⟩,
    ⟨(Rect.unit (s := S544x1024) ![0, 0] S544x512.size inb_S544x1024_S544x512_0_0).within
      (Rect.unit (s := S544x512) ![0, 256] S544x128.size inb_S544x512_S544x128_0_256) (fun _ => rfl),
      strip a0 w0 cos sin ![0, 256] slices_S544x512_o0_256_S544x128⟩,
    ⟨(Rect.unit (s := S544x1024) ![0, 0] S544x512.size inb_S544x1024_S544x512_0_0).within
      (Rect.unit (s := S544x512) ![0, 128] S544x128.size inb_S544x512_S544x128_0_128) (fun _ => rfl),
      strip a0 w0 cos sin ![0, 128] slices_S544x512_o0_128_S544x128⟩,
    ⟨(Rect.unit (s := S544x1024) ![0, 0] S544x512.size inb_S544x1024_S544x512_0_0).within
      (Rect.unit (s := S544x512) ![0, 0] S544x128.size inb_S544x512_S544x128_0_0) (fun _ => rfl),
      strip a0 w0 cos sin ![0, 0] slices_S544x512_o0_0_S544x128⟩ ]

/-- The strips fill the tile. -/
theorem tile_cover (a0 a1 : FVec F S544x512 .f32) (w0 w1 : BitVec 1) (cos sin : Vec F S544x128 .f32) (y : S544x1024.Idx) :
    ∃ p ∈ tilePieces a0 a1 w0 w1 cos sin, y ∈ p.1.set :=
  View.cover_of_tiledL (tilePieces a0 a1 w0 w1 cos sin) S544x128.size (by sl_kernel_rfl) y

set_option maxHeartbeats 64000000 in
theorem runD_tile (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : ¬ (k0_cond2 i = 1#1)) (hc3 : k0_cond3 i = 1#1)
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).1
      = tilePieces
          (half (View.readAt (Elt F) arg2.view (Rect.unit (s := S544x4096) ![0, 0] S544x4096.size inb_S544x4096_S544x4096_0_0).toLoadRect (harg2.unread x2)) (View.readAt (Elt F) arg20.view (Rect.unit (s := S2x1024x4096) (k0_off4 i) S1x512x4096.size (off4_inb i)).toLoadRect
            (arg20.view.writes (Elt F) (harg20.unread x20) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.1)))
          (half (View.readAt (Elt F) arg2.view (Rect.unit (s := S544x4096) ![0, 0] S544x4096.size inb_S544x4096_S544x4096_0_0).toLoadRect (harg2.unread x2)) (View.readAt (Elt F) arg20.view (Rect.unit (s := S2x1024x4096) (k0_off5 i) S1x512x4096.size (off5_inb i)).toLoadRect
            (arg20.view.writes (Elt F) (harg20.unread x20) (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.1)))
          (runD.sl.v84 i) (runD.sl.v155 i) (View.readAt (Elt F) arg4.view (Rect.unit (s := S544x128) ![0, 0] S544x128.size inb_S544x128_S544x128_0_0).toLoadRect (harg4.unread x4)) (View.readAt (Elt F) arg5.view (Rect.unit (s := S544x128) ![0, 0] S544x128.size inb_S544x128_S544x128_0_0).toLoadRect (harg5.unread x5)) := by
  rfl

set_option maxHeartbeats 64000000 in
theorem runC_tile (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : k0_cond2 i = 1#1) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).1
      = tilePieces
          (half (View.readAt (Elt F) arg2.view (Rect.unit (s := S544x4096) ![0, 0] S544x4096.size inb_S544x4096_S544x4096_0_0).toLoadRect (harg2.unread x2)) (View.readAt (Elt F) arg20.view (Rect.unit (s := S2x1024x4096) (k0_off2 i) S1x512x4096.size (off2_inb i)).toLoadRect
            (arg20.view.writes (Elt F) (harg20.unread x20) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.2.2.2.2.1)))
          (half (View.readAt (Elt F) arg2.view (Rect.unit (s := S544x4096) ![0, 0] S544x4096.size inb_S544x4096_S544x4096_0_0).toLoadRect (harg2.unread x2)) (View.readAt (Elt F) arg20.view (Rect.unit (s := S2x1024x4096) (k0_off3 i) S1x512x4096.size (off3_inb i)).toLoadRect
            (arg20.view.writes (Elt F) (harg20.unread x20) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.2.2.2.2.1)))
          (runD.sl.v84 i) (runD.sl.v155 i) (View.readAt (Elt F) arg4.view (Rect.unit (s := S544x128) ![0, 0] S544x128.size inb_S544x128_S544x128_0_0).toLoadRect (harg4.unread x4)) (View.readAt (Elt F) arg5.view (Rect.unit (s := S544x128) ![0, 0] S544x128.size inb_S544x128_S544x128_0_0).toLoadRect (harg5.unread x5)) := by
  rfl

set_option maxHeartbeats 64000000 in
theorem runA_block (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : cond1 i) (hc2 : ¬ (k0_cond2 i = 1#1)) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).1
      = [⟨Rect.unit (s := S2x1024x4096) (k0_off1 i) S1x64x4096.size (off1_inb i), k0_pay290 (View.readAt (Elt F) arg3.view (Rect.unit (s := S64x4096) ![0, 0] S64x4096.size inb_S64x4096_S64x4096_0_0).toLoadRect (harg3.unread x3))⟩] := by
  rfl

set_option maxHeartbeats 64000000 in
theorem runB_block (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : ¬ (k0_cond2 i = 1#1)) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).1
      = [⟨Rect.unit (s := S2x1024x4096) (k0_off1 i) S1x64x4096.size (off1_inb i), k0_pay290 (View.readAt (Elt F) arg3.view (Rect.unit (s := S64x4096) ![0, 0] S64x4096.size inb_S64x4096_S64x4096_0_0).toLoadRect (harg3.unread x3))⟩] := by
  rfl

set_option maxHeartbeats 64000000 in
theorem runD_block (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : ¬ (k0_cond2 i = 1#1)) (hc3 : k0_cond3 i = 1#1)
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.1
      = [⟨Rect.unit (s := S2x1024x4096) (k0_off1 i) S1x64x4096.size (off1_inb i), k0_pay290 (View.readAt (Elt F) arg3.view (Rect.unit (s := S64x4096) ![0, 0] S64x4096.size inb_S64x4096_S64x4096_0_0).toLoadRect (harg3.unread x3))⟩] := by
  rfl

set_option maxHeartbeats 64000000 in
theorem runC_block (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hc1 : ¬ cond1 i) (hc2 : k0_cond2 i = 1#1) (hc3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 hc2 hc3 x2 x3 x4 x5 x6 x7 x8 x9 x10 x11 x12 x13 x14 x15 x16 x17 x18 x19 x20 x21 x22 x23).2.2.2.2.2.1
      = [⟨Rect.unit (s := S2x1024x4096) (k0_off1 i) S1x64x4096.size (off1_inb i), k0_pay290 (View.readAt (Elt F) arg3.view (Rect.unit (s := S64x4096) ![0, 0] S64x4096.size inb_S64x4096_S64x4096_0_0).toLoadRect (harg3.unread x3))⟩] := by
  rfl

end Cert.Attn

end
-- ==== Proof.Attn.Step.lean ====
/-
  One grid point's body as the rest of the proof uses it: in the first phase it only converts a block of weight rows; later
  it also leaves the whole tile of the projection.
-/
module

public import proofs.«01_k».proof.Proof.Attn.Tile
public import Idealize.ShloMosaic.Lib.VecWindow
public import Idealize.ShloMosaic.Lib.WholeRead
public import Idealize.ShloMosaic.Lib.Pipeline.FrameBody

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 64000000 in
/-- A point of the first phase. -/
theorem idle_step (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (h2 : ¬ (k0_cond2 i = 1#1)) (h3 : ¬ (k0_cond3 i = 1#1))
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare (arg20.view.read (Elt F) (arg20.view.writes (Elt F) (harg20.unread x20) [⟨Rect.unit (s := S2x1024x4096) (k0_off1 i) S1x64x4096.size (off1_inb i), k0_pay290 x3⟩])) ∗ (∃ y, owns (c : Thread nD τ) arg21 fullShare y) ∗ (∃ y, owns (c : Thread nD τ) arg22 fullShare y) ∗ (∃ y, owns (c : Thread nD τ) arg23 fullShare y)) -∗ K ⟨⟩))
      ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  by_cases hc1 : cond1 i
  · skip
    iintro ⟨H2, H3, H4, H5, H6, H7, H8, H9, H10, H11, H12, H13, H14, H15, H16, H17, H18, H19, H20, H21, H22, H23, Hk⟩
    iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro ⟨H2, H3, H4, H5, H6, H7, H8, H9, H10, H11, H12, H13, H14, H15, H16, H17, H18, H19, H20, H21, H22, H23⟩
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · unfold owns; iexists _; isplitr; swap; · iexact H20
      ipureintro; exact congrArg (fun L => arg20.view.read (Elt F) (arg20.view.writes (Elt F) (harg20.unread x20) L)) ((runA_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).trans (by rw [View.readAt_full, harg3.read_unread]))
    isplitl [H21]
    · iexists _; unfold owns; iexists _; isplitr; swap; · iexact H21
      ipureintro; rfl
    isplitl [H22]
    · iexists _; unfold owns; iexists _; isplitr; swap; · iexact H22
      ipureintro; rfl
    iexists _; unfold owns; iexists _; isplitr; swap; · iexact H23
    ipureintro; rfl
  · skip
    iintro ⟨H2, H3, H4, H5, H6, H7, H8, H9, H10, H11, H12, H13, H14, H15, H16, H17, H18, H19, H20, H21, H22, H23, Hk⟩
    iapply ((runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro ⟨H2, H3, H4, H5, H6, H7, H8, H9, H10, H11, H12, H13, H14, H15, H16, H17, H18, H19, H20, H21, H22, H23⟩
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · iexact H15
    isplitl [H16]
    · iexact H16
    isplitl [H17]
    · iexact H17
    isplitl [H18]
    · iexact H18
    isplitl [H19]
    · iexact H19
    isplitl [H20]
    · unfold owns; iexists _; isplitr; swap; · iexact H20
      ipureintro; exact congrArg (fun L => arg20.view.read (Elt F) (arg20.view.writes (Elt F) (harg20.unread x20) L)) ((runB_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).trans (by rw [View.readAt_full, harg3.read_unread]))
    isplitl [H21]
    · iexists _; iexact H21
    isplitl [H22]
    · iexists _; iexact H22
    iexists _; iexact H23

/-- Whether a phase's tile is rotated: the query and key groups are, the value groups are not. -/
def ropeWord (i : grid0.Coords) : BitVec 1 := if ((i 0).val + 2) % 3 = 2 then 0#1 else 1#1

theorem word0 : ∀ i : grid0.Coords, 1 ≤ (i 0).val → runD.sl.v84 i = ropeWord i := by decide +kernel
theorem word1 : ∀ i : grid0.Coords, 1 ≤ (i 0).val → runD.sl.v155 i = ropeWord i := by decide +kernel

set_option maxHeartbeats 64000000 in
/-- A point of a later phase, given what it reads of the weight scratch. -/
theorem tile_step (c : Dev nD) (i : grid0.Coords) (arg2 : Memref sig .tc .vmem S544x4096 .bf16) (harg2 : arg2.IsWhole) (arg3 : Memref sig .tc .vmem S64x4096 .f32) (harg3 : arg3.IsWhole) (arg4 : Memref sig .tc .vmem S544x128 .f32) (harg4 : arg4.IsWhole) (arg5 : Memref sig .tc .vmem S544x128 .f32) (harg5 : arg5.IsWhole) (arg6 : Memref sig .tc .smem S2x8 .f32) (harg6 : arg6.IsWhole) (arg7 : Memref sig .tc .vmem S8x2048 .f32) (harg7 : arg7.IsWhole) (arg8 : Memref sig .tc .vmem S8x2048 .f32) (harg8 : arg8.IsWhole) (arg9 : Memref sig .tc .vmem S8x4096 .f32) (harg9 : arg9.IsWhole) (arg10 : Memref sig .tc .vmem S8x4096 .f32) (harg10 : arg10.IsWhole) (arg11 : Memref sig .tc .vmem S1x8x2x16 .f32) (harg11 : arg11.IsWhole) (arg12 : Memref sig .tc .vmem S1x1x8x512x256 .f32) (harg12 : arg12.IsWhole) (arg13 : Memref sig .tc .vmem S1x1x8x256 .f32) (harg13 : arg13.IsWhole) (arg14 : Memref sig .tc .vmem S1x8x1 .f32) (harg14 : arg14.IsWhole) (arg15 : Memref sig .tc .vmem S544x1024 .f32) (harg15 : arg15.IsWhole) (arg16 : Memref sig .tc .vmem S1x4x4096 .f32) (harg16 : arg16.IsWhole) (arg17 : Memref sig .tc .vmem S1x8x512x256 .f32) (harg17 : arg17.IsWhole) (arg18 : Memref sig .tc .vmem S1x8x256 .f32) (harg18 : arg18.IsWhole) (arg19 : Memref sig .tc .vmem S1x8x128 .f32) (harg19 : arg19.IsWhole) (arg20 : Memref sig .tc .vmem S2x1024x4096 .bf16) (harg20 : arg20.IsWhole) (arg21 : Memref sig .tc .vmem S16x2048 .f32) (harg21 : arg21.IsWhole) (arg22 : Memref sig .tc .vmem S16x2048 .f32) (harg22 : arg22.IsWhole) (arg23 : Memref sig .tc .vmem S16x4096 .f32) (harg23 : arg23.IsWhole) (hp : 1 ≤ (i 0).val)
    (x2 : Vec F S544x4096 .bf16) (x3 : Vec F S64x4096 .f32) (x4 : Vec F S544x128 .f32) (x5 : Vec F S544x128 .f32) (x6 : Vec F S2x8 .f32) (x7 : Vec F S8x2048 .f32) (x8 : Vec F S8x2048 .f32) (x9 : Vec F S8x4096 .f32) (x10 : Vec F S8x4096 .f32) (x11 : Vec F S1x8x2x16 .f32) (x12 : Vec F S1x1x8x512x256 .f32) (x13 : Vec F S1x1x8x256 .f32) (x14 : Vec F S1x8x1 .f32) (x15 : Vec F S544x1024 .f32) (x16 : Vec F S1x4x4096 .f32) (x17 : Vec F S1x8x512x256 .f32) (x18 : Vec F S1x8x256 .f32) (x19 : Vec F S1x8x128 .f32) (x20 : Vec F S2x1024x4096 .bf16) (x21 : Vec F S16x2048 .f32) (x22 : Vec F S16x2048 .f32) (x23 : Vec F S16x4096 .f32) (W0 W1 : Vec F S1x512x4096 .bf16)
    (g0 : ∀ (off : Fin 3 → ℕ) (inb : ∀ a, off a + S1x512x4096.size a ≤ S2x1024x4096.size a) (_ : off = ![((i 0).val + 1) % 2, 0, 0])
      (w : Vec F S1x64x4096 .bf16), View.readAt (Elt F) arg20.view (Rect.unit (s := S2x1024x4096) off S1x512x4096.size inb).toLoadRect
        (arg20.view.writes (Elt F) (harg20.unread x20)
          [⟨Rect.unit (s := S2x1024x4096) (k0_off1 i) S1x64x4096.size (off1_inb i), w⟩]) = W0)
    (g1 : ∀ (off : Fin 3 → ℕ) (inb : ∀ a, off a + S1x512x4096.size a ≤ S2x1024x4096.size a) (_ : off = ![((i 0).val + 1) % 2, 512, 0])
      (w : Vec F S1x64x4096 .bf16), View.readAt (Elt F) arg20.view (Rect.unit (s := S2x1024x4096) off S1x512x4096.size inb).toLoadRect
        (arg20.view.writes (Elt F) (harg20.unread x20)
          [⟨Rect.unit (s := S2x1024x4096) (k0_off1 i) S1x64x4096.size (off1_inb i), w⟩]) = W1)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (View.canon (tilePieces (half x2 W0) (half x2 W1) (ropeWord i) (ropeWord i) x4 x5)) ∗ (∃ y, owns (c : Thread nD τ) arg16 fullShare y) ∗ (∃ y, owns (c : Thread nD τ) arg17 fullShare y) ∗ (∃ y, owns (c : Thread nD τ) arg18 fullShare y) ∗ (∃ y, owns (c : Thread nD τ) arg19 fullShare y) ∗ owns (c : Thread nD τ) arg20 fullShare (arg20.view.read (Elt F) (arg20.view.writes (Elt F) (harg20.unread x20) [⟨Rect.unit (s := S2x1024x4096) (k0_off1 i) S1x64x4096.size (off1_inb i), k0_pay290 x3⟩])) ∗ (∃ y, owns (c : Thread nD τ) arg21 fullShare y) ∗ (∃ y, owns (c : Thread nD τ) arg22 fullShare y) ∗ (∃ y, owns (c : Thread nD τ) arg23 fullShare y)) -∗ K ⟨⟩))
      ⊢ wp frame (wpE (defs₀ (F := F)) Variants.none c none) E (cc0_proj_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  have hlt : (i 0).val < 10 := (i 0).isLt
  have hc1 : ¬ cond1 i := fun h => by have := ((cond1_iff i).mp h).1; omega
  by_cases h3 : k0_cond3 i = 1#1
  · have h2 : ¬ (k0_cond2 i = 1#1) := fun h => by
      have a := (cond2_iff i).mp h
      have b := (cond3_iff i).mp h3
      omega
    iintro ⟨H2, H3, H4, H5, H6, H7, H8, H9, H10, H11, H12, H13, H14, H15, H16, H17, H18, H19, H20, H21, H22, H23, Hk⟩
    iapply ((runD c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro ⟨H2, H3, H4, H5, H6, H7, H8, H9, H10, H11, H12, H13, H14, H15, H16, H17, H18, H19, H20, H21, H22, H23⟩
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · unfold owns; iexists _; isplitr; swap; · iexact H15
      ipureintro
      rw [runD_tile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23, runD_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23, View.read_writes_eq_canon _ _ _ (tile_cover _ _ _ _ _ _)]
      rw [g0 _ (off4_inb i) (off4_eq i), g1 _ (off5_inb i) (off5_eq i), word0 i hp, word1 i hp]
      rw [show View.readAt (Elt F) arg2.view (Rect.unit (s := S544x4096) ![0, 0] S544x4096.size inb_S544x4096_S544x4096_0_0).toLoadRect (harg2.unread x2) = x2 from (View.readAt_full _ _ _).trans (harg2.read_unread x2),
        show View.readAt (Elt F) arg4.view (Rect.unit (s := S544x128) ![0, 0] S544x128.size inb_S544x128_S544x128_0_0).toLoadRect (harg4.unread x4) = x4 from (View.readAt_full _ _ _).trans (harg4.read_unread x4),
        show View.readAt (Elt F) arg5.view (Rect.unit (s := S544x128) ![0, 0] S544x128.size inb_S544x128_S544x128_0_0).toLoadRect (harg5.unread x5) = x5 from (View.readAt_full _ _ _).trans (harg5.read_unread x5)]
    isplitl [H16]
    · iexists _; iexact H16
    isplitl [H17]
    · iexists _; iexact H17
    isplitl [H18]
    · iexists _; iexact H18
    isplitl [H19]
    · iexists _; iexact H19
    isplitl [H20]
    · unfold owns; iexists _; isplitr; swap; · iexact H20
      ipureintro; exact congrArg (fun L => arg20.view.read (Elt F) (arg20.view.writes (Elt F) (harg20.unread x20) L)) ((runD_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).trans (by rw [View.readAt_full, harg3.read_unread]))
    isplitl [H21]
    · iexists _; iexact H21
    isplitl [H22]
    · iexists _; iexact H22
    iexists _; iexact H23
  · have h2 : k0_cond2 i = 1#1 := (cond2_iff i).mpr ⟨hp, by
      have b : ¬ (i 0).val = 9 := fun h => h3 ((cond3_iff i).mpr h)
      omega⟩
    iintro ⟨H2, H3, H4, H5, H6, H7, H8, H9, H10, H11, H12, H13, H14, H15, H16, H17, H18, H19, H20, H21, H22, H23, Hk⟩
    iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).2.2.2.2.2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iintro ⟨H2, H3, H4, H5, H6, H7, H8, H9, H10, H11, H12, H13, H14, H15, H16, H17, H18, H19, H20, H21, H22, H23⟩
    iapply Hk
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    isplitl [H14]
    · iexact H14
    isplitl [H15]
    · unfold owns; iexists _; isplitr; swap; · iexact H15
      ipureintro
      rw [runC_tile c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23, runC_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23, View.read_writes_eq_canon _ _ _ (tile_cover _ _ _ _ _ _)]
      rw [g0 _ (off2_inb i) (off2_eq i), g1 _ (off3_inb i) (off3_eq i), word0 i hp, word1 i hp]
      rw [show View.readAt (Elt F) arg2.view (Rect.unit (s := S544x4096) ![0, 0] S544x4096.size inb_S544x4096_S544x4096_0_0).toLoadRect (harg2.unread x2) = x2 from (View.readAt_full _ _ _).trans (harg2.read_unread x2),
        show View.readAt (Elt F) arg4.view (Rect.unit (s := S544x128) ![0, 0] S544x128.size inb_S544x128_S544x128_0_0).toLoadRect (harg4.unread x4) = x4 from (View.readAt_full _ _ _).trans (harg4.read_unread x4),
        show View.readAt (Elt F) arg5.view (Rect.unit (s := S544x128) ![0, 0] S544x128.size inb_S544x128_S544x128_0_0).toLoadRect (harg5.unread x5) = x5 from (View.readAt_full _ _ _).trans (harg5.read_unread x5)]
    isplitl [H16]
    · iexists _; unfold owns; iexists _; isplitr; swap; · iexact H16
      ipureintro; rfl
    isplitl [H17]
    · iexists _; unfold owns; iexists _; isplitr; swap; · iexact H17
      ipureintro; rfl
    isplitl [H18]
    · iexists _; unfold owns; iexists _; isplitr; swap; · iexact H18
      ipureintro; rfl
    isplitl [H19]
    · iexists _; unfold owns; iexists _; isplitr; swap; · iexact H19
      ipureintro; rfl
    isplitl [H20]
    · unfold owns; iexists _; isplitr; swap; · iexact H20
      ipureintro; exact congrArg (fun L => arg20.view.read (Elt F) (arg20.view.writes (Elt F) (harg20.unread x20) L)) ((runC_block c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc1 h2 h3 x2 x3 x4 x5 x6 x7 x8 x9 x10 x11 x12 x13 x14 x15 x16 x17 x18 x19 x20 x21 x22 x23).trans (by rw [View.readAt_full, harg3.read_unread]))
    isplitl [H21]
    · iexists _; unfold owns; iexists _; isplitr; swap; · iexact H21
      ipureintro; rfl
    isplitl [H22]
    · iexists _; unfold owns; iexists _; isplitr; swap; · iexact H22
      ipureintro; rfl
    iexists _; unfold owns; iexists _; isplitr; swap; · iexact H23
    ipureintro; rfl

end Cert.Attn

end
-- ==== Proof.Attn.Body.lean ====
/-
  The body of the call: at every grid point the body keeps the weight scratch as the next points need it, and from the second
  phase on leaves the projection's tile. The four outputs of the recurrence beside it are taken at whatever they hold.
-/
module

public import proofs.«01_k».proof.Proof.Attn.Step
public import proofs.«01_k».proof.Proof.Gen.KernelIdeal.Frame
public import Idealize.ShloMosaic.Lib.Pipeline.Frame
public import Idealize.ShloMosaic.Lib.Pipeline.FrameBody
public import Idealize.ShloMosaic.Lib.Pipeline.Cells
public import Idealize.ShloMosaic.Lib.Tactic

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The four scratch buffers. -/
abbrev sc0 : Memref sig .tc .vmem S2x1024x4096 .bf16 := Memref.whole cc0_scratch0
abbrev sc1 : Memref sig .tc .vmem S16x2048 .f32 := Memref.whole cc0_scratch1
abbrev sc2 : Memref sig .tc .vmem S16x2048 .f32 := Memref.whole cc0_scratch2
abbrev sc3 : Memref sig .tc .vmem S16x4096 .f32 := Memref.whole cc0_scratch3

theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- Before point `n`: the weight scratch as that point and the later ones need it, the other scratches at anything. -/
def PhiS (c : Dev nD) (n : ℕ) (_ : n ≤ cfg0.N) : sProp 𝕄 :=
  iprop((∃ b, ⌜Holds m c n b⌝ ∗ owns (c : Thread nD τ) sc0 fullShare b) ∗ (∃ d, owns (c : Thread nD τ) sc1 fullShare d)
    ∗ (∃ d, owns (c : Thread nD τ) sc2 fullShare d) ∗ (∃ d, owns (c : Thread nD τ) sc3 fullShare d) ∗ (∃ r, prngReg c r))

/-- The tile of the projection a point leaves. -/
def tileAt (c : Dev nD) (t : Fin cfg0.N) : Vec F S544x1024 .f32 :=
  View.canon (tilePieces (half (iblk m c 0 t : Vec F S544x4096 .bf16) (halfW m c (t.val / 16) 0))
    (half (iblk m c 0 t : Vec F S544x4096 .bf16) (halfW m c (t.val / 16) 1))
    (ropeWord (grid0.coords t)) (ropeWord (grid0.coords t)) (iblk m c 2 t : Vec F S544x128 .f32) (iblk m c 3 t : Vec F S544x128 .f32))

/-- The outputs whose contents are left open: those of the recurrence. -/
def fgt : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => true

/-- The proof data of the call. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileAt m c t
    | w => Dat.unnamed w t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats] <;> rfl
theorem after_1 (c : Dev nD) (t : Fin cfg0.N) : (dats m 0 c).after 1 t = iblk m c 1 t := by dsimp only [dats] <;> rfl
theorem after_2 (c : Dev nD) (t : Fin cfg0.N) : (dats m 0 c).after 2 t = iblk m c 2 t := by dsimp only [dats] <;> rfl
theorem after_3 (c : Dev nD) (t : Fin cfg0.N) : (dats m 0 c).after 3 t = iblk m c 3 t := by dsimp only [dats] <;> rfl
theorem after_4 (c : Dev nD) (t : Fin cfg0.N) : (dats m 0 c).after 4 t = iblk m c 4 t := by dsimp only [dats] <;> rfl
theorem after_5 (c : Dev nD) (t : Fin cfg0.N) : (dats m 0 c).after 5 t = iblk m c 5 t := by dsimp only [dats] <;> rfl
theorem after_6 (c : Dev nD) (t : Fin cfg0.N) : (dats m 0 c).after 6 t = iblk m c 6 t := by dsimp only [dats] <;> rfl
theorem after_7 (c : Dev nD) (t : Fin cfg0.N) : (dats m 0 c).after 7 t = iblk m c 7 t := by dsimp only [dats] <;> rfl
theorem after_8 (c : Dev nD) (t : Fin cfg0.N) : (dats m 0 c).after 8 t = iblk m c 8 t := by dsimp only [dats] <;> rfl
theorem after_9 (c : Dev nD) (t : Fin cfg0.N) : (dats m 0 c).after 9 t = iblk m c 9 t := by dsimp only [dats] <;> rfl
theorem after_10 (c : Dev nD) (t : Fin cfg0.N) : (dats m 0 c).after 10 t = iblk m c 10 t := by dsimp only [dats] <;> rfl
theorem after_11 (c : Dev nD) (t : Fin cfg0.N) : (dats m 0 c).after 11 t = iblk m c 11 t := by dsimp only [dats] <;> rfl
theorem after_12 (c : Dev nD) (t : Fin cfg0.N) : (dats m 0 c).after 12 t = iblk m c 12 t := by dsimp only [dats] <;> rfl
theorem after_13 (c : Dev nD) (t : Fin cfg0.N) : (dats m 0 c).after 13 t = tileAt m c t := by dsimp only [dats] <;> rfl
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- In the first phase nothing is written back to the projection's array. -/
theorem flush_first : ∀ t : Fin grid0.N, t.val < 16 → (cfg0.win 13).flush t = false := by decide +kernel

theorem idle_first : ∀ t : Fin grid0.N, t.val < 16 → idle0 13 (grid0.coords t) = true := by decide +kernel
theorem idle_later : ∀ t : Fin grid0.N, 16 ≤ t.val → idle0 13 (grid0.coords t) = false := by decide +kernel

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d))
    ∗ (∃ d, owns (c : Thread nD τ) ((cfg0.win 3).stage (cfg0.slots t 3)) fullShare ((dats m 0 c).before 3 t d))
    ∗ (∃ d, owns (c : Thread nD τ) ((cfg0.win 4).stage (cfg0.slots t 4)) fullShare ((dats m 0 c).before 4 t d))
    ∗ (∃ d, owns (c : Thread nD τ) ((cfg0.win 5).stage (cfg0.slots t 5)) fullShare ((dats m 0 c).before 5 t d))
    ∗ (∃ d, owns (c : Thread nD τ) ((cfg0.win 6).stage (cfg0.slots t 6)) fullShare ((dats m 0 c).before 6 t d))
    ∗ (∃ d, owns (c : Thread nD τ) ((cfg0.win 7).stage (cfg0.slots t 7)) fullShare ((dats m 0 c).before 7 t d))
    ∗ (∃ d, owns (c : Thread nD τ) ((cfg0.win 8).stage (cfg0.slots t 8)) fullShare ((dats m 0 c).before 8 t d))
    ∗ (∃ d, owns (c : Thread nD τ) ((cfg0.win 9).stage (cfg0.slots t 9)) fullShare ((dats m 0 c).before 9 t d))
    ∗ (∃ d, owns (c : Thread nD τ) ((cfg0.win 10).stage (cfg0.slots t 10)) fullShare ((dats m 0 c).before 10 t d))
    ∗ (∃ d, owns (c : Thread nD τ) ((cfg0.win 11).stage (cfg0.slots t 11)) fullShare ((dats m 0 c).before 11 t d))
    ∗ (∃ d, owns (c : Thread nD τ) ((cfg0.win 12).stage (cfg0.slots t 12)) fullShare ((dats m 0 c).before 12 t d))
    ∗ (∃ d, owns (c : Thread nD τ) ((cfg0.win 13).stage (cfg0.slots t 13)) fullShare ((dats m 0 c).before 13 t d))
    ∗ (∃ X, owns (c : Thread nD τ) ((cfg0.win 14).stage (cfg0.slots t 14)) fullShare X)
    ∗ (∃ X, owns (c : Thread nD τ) ((cfg0.win 15).stage (cfg0.slots t 15)) fullShare X)
    ∗ (∃ X, owns (c : Thread nD τ) ((cfg0.win 16).stage (cfg0.slots t 16)) fullShare X)
    ∗ (∃ X, owns (c : Thread nD τ) ((cfg0.win 17).stage (cfg0.slots t 17)) fullShare X))

/-- and what it returns. -/
def bodyPost (c : Dev nD) (t : Fin cfg0.N) : sProp 𝕄 :=
  iprop((dats m 0 c).Φ t.succ ∗ (dats m 0 c).owesAt () t.succ
    ∗ owns (c : Thread nD τ) ((cfg0.win 0).stage (cfg0.slots t 0)) fullShare ((dats m 0 c).after 0 t)
    ∗ owns (c : Thread nD τ) ((cfg0.win 1).stage (cfg0.slots t 1)) fullShare ((dats m 0 c).after 1 t)
    ∗ owns (c : Thread nD τ) ((cfg0.win 2).stage (cfg0.slots t 2)) fullShare ((dats m 0 c).after 2 t)
    ∗ owns (c : Thread nD τ) ((cfg0.win 3).stage (cfg0.slots t 3)) fullShare ((dats m 0 c).after 3 t)
    ∗ owns (c : Thread nD τ) ((cfg0.win 4).stage (cfg0.slots t 4)) fullShare ((dats m 0 c).after 4 t)
    ∗ owns (c : Thread nD τ) ((cfg0.win 5).stage (cfg0.slots t 5)) fullShare ((dats m 0 c).after 5 t)
    ∗ owns (c : Thread nD τ) ((cfg0.win 6).stage (cfg0.slots t 6)) fullShare ((dats m 0 c).after 6 t)
    ∗ owns (c : Thread nD τ) ((cfg0.win 7).stage (cfg0.slots t 7)) fullShare ((dats m 0 c).after 7 t)
    ∗ owns (c : Thread nD τ) ((cfg0.win 8).stage (cfg0.slots t 8)) fullShare ((dats m 0 c).after 8 t)
    ∗ owns (c : Thread nD τ) ((cfg0.win 9).stage (cfg0.slots t 9)) fullShare ((dats m 0 c).after 9 t)
    ∗ owns (c : Thread nD τ) ((cfg0.win 10).stage (cfg0.slots t 10)) fullShare ((dats m 0 c).after 10 t)
    ∗ owns (c : Thread nD τ) ((cfg0.win 11).stage (cfg0.slots t 11)) fullShare ((dats m 0 c).after 11 t)
    ∗ owns (c : Thread nD τ) ((cfg0.win 12).stage (cfg0.slots t 12)) fullShare ((dats m 0 c).after 12 t)
    ∗ (dats m 0 c).leaves 13 t
    ∗ (∃ X, owns (c : Thread nD τ) ((cfg0.win 14).stage (cfg0.slots t 14)) fullShare X)
    ∗ (∃ X, owns (c : Thread nD τ) ((cfg0.win 15).stage (cfg0.slots t 15)) fullShare X)
    ∗ (∃ X, owns (c : Thread nD τ) ((cfg0.win 16).stage (cfg0.slots t 16)) fullShare X)
    ∗ (∃ X, owns (c : Thread nD τ) ((cfg0.win 17).stage (cfg0.slots t 17)) fullShare X))

/-- A tile left in full is what the array's window asks for; -/
theorem leaves_tile (c : Dev nD) (t : Fin cfg0.N) (ht : 16 ≤ t.val) :
    owns (c : Thread nD τ) ((cfg0.win 13).stage (cfg0.slots t 13)) fullShare (tileAt m c t) ⊢ ((dats m 0 c).leaves 13 t : sProp 𝕄) := by
  refine BIBase.Entails.trans ?_ ((dats m 0 c).leaves_intro 13 t)
  unfold Dat.leavesExact
  rw [after_13]
  rw [show cfg0.idle 13 (cfg0.grid.coords t) = false from idle_later t ht]
/-- in the first phase it may be left as it was. -/
theorem leaves_idle (c : Dev nD) (t : Fin cfg0.N) (ht : t.val < 16) (d) :
    owns (c : Thread nD τ) ((cfg0.win 13).stage (cfg0.slots t 13)) fullShare ((dats m 0 c).before 13 t d) ⊢ ((dats m 0 c).leaves 13 t : sProp 𝕄) := by
  have hi : cfg0.idle 13 (cfg0.grid.coords t) = true := idle_first t ht
  unfold Dat.leaves
  rw [hi, flush_first t ht]
  iintro H; iexists d; iexact H

set_option maxHeartbeats 64000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = PhiS m c (t.val + 1) t.isLt from rfl, Phi_start m c t]
  unfold PhiS
  obtain ⟨e0, e1⟩ := coords_eq t
  by_cases ht : t.val < 16
  · have h2 : ¬ (k0_cond2 (grid0.coords t) = 1#1) := fun h => by
      have a := ((cond2_iff (grid0.coords t)).mp h).1
      rw [e0] at a; omega
    have h3 : ¬ (k0_cond3 (grid0.coords t) = 1#1) := fun h => by
      have a := (cond3_iff (grid0.coords t)).mp h
      rw [e0] at a; omega
    iintro ⟨⟨⟨%b, %hb, S0⟩, ⟨%s1, S1⟩, ⟨%s2, S2⟩, ⟨%s3, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (idle_step c (grid0.coords t) _ _ _ _ _ _ _ _ _ _ _ _ _ _ _ _ _ _ _ _ _ _ _ _ _ _ _ _ _ _ _ _ _ _ _ _ _ _ _ _ _ _ _ _ h2 h3
        _ _ _ _ _ _ _ _ _ _ _ _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    isplitl [S3]; · iexact S3
    iintro ⟨H0, H1, H2, H3, H4, H5, H6, H7, H8, H9, H10, H11, H12, H13, H14, H15, H16, H17, S0, ⟨%r1, S1⟩, ⟨%r2, S2⟩, ⟨%r3, S3⟩⟩
    isplitl [S0 S1 S2 S3 Hg]
    · isplitl [S0]
      · iexists _; isplitr; swap; · iexact S0
        ipureintro; exact holds_succ m c t sc0 (Memref.isWhole_whole _) b hb
      isplitl [S1]; · iexists _; iexact S1
      isplitl [S2]; · iexists _; iexact S2
      isplitl [S3]; · iexists _; iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (leaves_idle m c t ht d13); iexact H13
    isplitl [H14]; · iexists _; iexact H14
    isplitl [H15]; · iexists _; iexact H15
    isplitl [H16]; · iexists _; iexact H16
    iexists _; iexact H17
  · have ht' : 16 ≤ t.val := by omega
    have hp : 1 ≤ ((grid0.coords t) 0).val := by rw [e0]; omega
    iintro ⟨⟨⟨%b, %hb, S0⟩, ⟨%s1, S1⟩, ⟨%s2, S2⟩, ⟨%s3, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (tile_step c (grid0.coords t) _ _ _ _ _ _ _ _ _ _ _ _ _ _ _ _ _ _ _ _ _ _ _ _ _ _ _ _ _ _ _ _ _ _ _ _ _ _ _ _ _ _ _ _ hp
        _ _ _ _ _ _ _ _ _ _ _ _ _ _ _ _ _ _ _ _ _ _ (halfW m c (t.val / 16) 0) (halfW m c (t.val / 16) 1)
        (fun off inb hoff w => read_half m c t sc0 (Memref.isWhole_whole _) b hb ht' 0 (by omega) off inb hoff w)
        (fun off inb hoff w => read_half m c t sc0 (Memref.isWhole_whole _) b hb ht' 1 (by omega) off inb hoff w)
        Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [S0]; · iexact S0
    isplitl [S1]; · iexact S1
    isplitl [S2]; · iexact S2
    isplitl [S3]; · iexact S3
    iintro ⟨H0, H1, H2, H3, H4, H5, H6, H7, H8, H9, H10, H11, H12, H13, ⟨%r14, H14⟩, ⟨%r15, H15⟩, ⟨%r16, H16⟩, ⟨%r17, H17⟩, S0, ⟨%r1, S1⟩, ⟨%r2, S2⟩, ⟨%r3, S3⟩⟩
    isplitl [S0 S1 S2 S3 Hg]
    · isplitl [S0]
      · iexists _; isplitr; swap; · iexact S0
        ipureintro; exact holds_succ m c t sc0 (Memref.isWhole_whole _) b hb
      isplitl [S1]; · iexists _; iexact S1
      isplitl [S2]; · iexists _; iexact S2
      isplitl [S3]; · iexists _; iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (leaves_tile m c t ht'); iexact H13
    isplitl [H14]; · iexists _; iexact H14
    isplitl [H15]; · iexists _; iexact H15
    isplitl [H16]; · iexists _; iexact H16
    iexists _; iexact H17

theorem defs₀_row (t : Fin cfg0.N) :
    defs₀ (F := F) .tc cfg0.body (cfg0.bodyArgs t (cfg0.slots t)) = bodyAt0 t := by
  unfold defs₀; rw [Defs.onTc_tc]

set_option maxHeartbeats 64000000 in
theorem body_obligation (c : Dev nD) :
    Pipeline.BodyObligationLoose (dats (F := F) m 0 c) (defs₀ (F := F)) Variants.none () Set.univ fgt := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%b, S0⟩, S1, S2, S3⟩, Hg⟩
  isplitl [S0]
  · iexists b; isplitr; swap; · iexact S0
    ipureintro; exact holds_zero m c b
  isplitl [S1]; · iexact S1
  isplitl [S2]; · iexact S2
  isplitl [S3]; · iexact S3
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%b, %hb, S0⟩, S1, S2, S3, Hg⟩
  isplitl [S0 S1 S2 S3]
  · isplitl [S0]; · iexists b; iexact S0
    isplitl [S1]; · iexact S1
    isplitl [S2]; · iexact S2
    iexact S3
  iexact Hg

end Cert.Attn

end
-- ==== Proof.Attn.Tail.lean ====
/-
  The run of the call followed by the lines of @main after it. The lines only move words of the projection's array, so what
  they leave is told by what they do to the arrays the call leaves: some contents the proof data allow.
-/
module

public import proofs.«01_k».proof.Proof.Attn.Body
public import Idealize.ShloMosaic.Lib.Pipeline.FrameSuffix

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

variable (m : (ℓ : Loc nD τ sig) → Buf (Elt F) ℓ) (ρ : Dev nD → PrngReg)

/-- The proof data of the run, with the four outputs of the recurrence at whatever they hold. -/
abbrev rd (c : Dev nD) : RDat τ (Elt F) Unit ℕ (UR sig nD τ) ℕ cfg0 c := (dats m 0 c).toRForget fgt

/-- Contents of every window's array. -/
abbrev Arrs (c : Dev nD) : Type :=
  (w : Fin cfg0.W) → Buf (Elt F) ((cfg0.win w).arr.view.loc (c.tc : Thread nD τ))

/-- The arrays may end at the contents `A`. -/
def Ends (c : Dev nD) (A : Arrs (F := F) c) : Prop := ∀ w, (rd m c).ArrAt w cfg0.N (A w)

/-- What the lines after the call leave in a buffer, of a call that leaves the arrays at `A`. -/
def left (c : Dev nD) (A : Arrs (F := F) c) (b : Ref sig .tc) : Buf (Elt F) ((c.tc : Thread nD τ).loc b) :=
  StableHlo.after (List.flatten [hostOps1]) (withArrays spec0 c (V0 m c) A) (Proc.devRef .tc b)

local notation "𝕄" => MT nD τ sig Unit (Elt F) ℕ (UR sig nD τ) ℕ

theorem rd_q (c : Dev nD) (w : Fin cfg0.W) (h : (cfg0.spec w).isOut = false) : (rd m c).q w = shareOf cfg0.spec w := rfl

/-- The arrays at the end of the call are at some contents the data allow. -/
theorem open_arrays (c : Dev nD) : ((rd m c).arraysAt cfg0.N : sProp 𝕄)
    ⊢ iprop(∃ A, ⌜Ends m c A⌝ ∗ (rd m c).arrays A) := by
  unfold RDat.arraysAt
  iintro H
  ihave H1 := (BI.bigSep_exists_pi Finset.univ (fun w f => iprop(⌜(rd m c).ArrAt w cfg0.N f⌝
      ∗ (cfg0.win w).arr.view.loc (c.tc : Thread nD τ) ↦[(cfg0.win w).arr.view.set]{(rd m c).share w} f))) $$ H
  icases H1 with ⟨%A, H1⟩
  ihave H2 := (BI.bigSep_pure_sep Finset.univ (fun w => (rd m c).ArrAt w cfg0.N (A w))
      (fun w => (cfg0.win w).arr.view.loc (c.tc : Thread nD τ) ↦[(cfg0.win w).arr.view.set]{(rd m c).share w} A w)) $$ H1
  icases H2 with ⟨%hall, H2⟩
  iexists A
  isplitr
  · ipureintro; exact fun w => hall w (Finset.mem_univ w)
  unfold RDat.arrays; iexact H2

theorem close_arrays (c : Dev nD) (A : Arrs (F := F) c) (h : Ends m c A) :
    ((rd m c).arrays A : sProp 𝕄) ⊢ (rd m c).arraysAt cfg0.N := by
  unfold RDat.arraysAt RDat.arrays
  refine BI.bigSep_mono fun w _ => ?_
  show ((cfg0.win w).arr.view.loc (c.tc : Thread nD τ) ↦[(cfg0.win w).arr.view.set]{(rd m c).share w} A w : sProp 𝕄)
    ⊢ iprop(∃ f, ⌜(rd m c).ArrAt w cfg0.N f⌝ ∗ (cfg0.win w).arr.view.loc (c.tc : Thread nD τ) ↦[(cfg0.win w).arr.view.set]{(rd m c).share w} f)
  iintro H
  iexists (A w)
  isplitr
  · ipureintro; exact h w
  iexact H

/-- The windows' arrays, buffer by buffer. -/
theorem arrays_bufs (c : Dev nD) (A : Arrs (F := F) c) (h : Ends m c A) :
    ((rd m c).arrays A : sProp 𝕄) = arrBufs spec0 c (fun b => withArrays spec0 c (V0 m c) A (Proc.devRef .tc b)) :=
  ((rd m c).arrBufs_eq_arrays (launch₀0.toP (Val := Elt F)).sharedIn (launch₀0.toP (Val := Elt F)).arr_whole (rd_q m c) _ A fun w =>
    (withArrays_arr_shared spec0 c (V0 m c) A
      ((rd m c).ArrAt_sharedIn (launch₀0.toP (Val := Elt F)).sharedIn (V0 m c) (A_eq m c) cfg0.N A h) w).symm).symm

/-- The buffers no window reads or writes. -/
abbrev others : Finset (Ref sig .tc) := restRefsP sig Prefetch.none spec0

/-- The state after the run: the arrays at contents the data allow, and every other buffer at what the lines leave of a call
    that ends at such contents. -/
def Post (r : PUnit × MemSt nD τ sig (Elt F)) : Prop :=
  ∀ c : Dev nD, Ends m c (fun w => r.2.mem ((cfg0.win w).arr.view.loc (c.tc : Thread nD τ)))
    ∧ ∃ A, Ends m c A ∧ ∀ b ∈ others, r.2.mem ((c.tc : Thread nD τ).loc b) = left m c A b

set_option backward.isDefEq.respectTransparency.types false in
set_option maxHeartbeats 4000000 in
/-- The run: it ends, in such a state, with every counter at zero. -/
theorem run_main : θ_run defs (onTc (τ := τ) (main (F := F))) (s₀ m ρ)
    (fun r => Post m r ∧ r.2.sem = fun _ => 0) := by
  classical
  let pcs := fun q => (cfgs q).toPCfg (Val := Elt F)
  let a := fun q => (cfgs q).toPCfg_adm (Val := Elt F)
  have kit := launch₀0.toP (Val := Elt F)
  exact RDat.θ_run_region_pf_tail_quiescent pcs a (RDat.familyOf pcs a (0 : Fin 1) (rd m)) () (kit.cellOf_inj a) (0 : Fin 1)
    kit.win (OwnSemFacts.none spec0) kit.pre emb₁ defs₀ Variants.none m ρ main
    (fun _ => chain ([hostOps1].map StableHlo.seq))
    (fun c => by rw [RDat.familyOf_self]; exact (body_obligation m c).toRForget)
    kit.block_pos kit.arr_whole kit.stage_whole (fun c t => by rw [RDat.familyOf_self]; rfl)
    (G := fun _ => iprop(emp)) (u₀ := initOf (cells (pin pcs a) (kit.cellOf_inj a)) (launchToks (pin pcs a) (kit.cellOf_inj a)))
    (hu₀ := by
      iintro Hu; imodintro
      isplitl [Hu]
      · iapply (show (ownU _ : sProp 𝕄) ⊢ BI.own (emb₁ (initOf (cells (pin pcs a) (kit.cellOf_inj a)) (launchToks (pin pcs a) (kit.cellOf_inj a)))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => by
      rw [RDat.familyOf_self]
      exact (rd m c).arrays_split_shared kit.sharedIn kit.arr_whole (rd_q m c) (V m c) _ (A_eq m c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => iprop(∃ A, ⌜Ends m c A⌝
      ∗ unscopedRestP (Ix := Unit) (Name := ℕ) (U := UR sig nD τ) (Lvl := ℕ) Prefetch.none spec0 c (left m c A)))
    (hX := fun c => by
      iintro ⟨HU, -, -, Hp, -⟩; imodintro
      isplitl [Hp]
      · iexists _; iexact Hp
      iexact HU)
    (hin := fun c => by
      rw [RDat.familyOf_self]
      refine BIBase.Entails.trans ?_ (hin m c)
      unfold ΦA
      iintro ⟨Hp, -, Hr⟩
      isplitl [Hr] <;> iassumption)
    (hout := fun c => by
      rw [RDat.familyOf_self]
      refine (hout m c).trans ?_
      rw [ownSems0_none]; unfold ΦA
      iintro ⟨Hr, Hp⟩
      isplitl [Hp]
      · iexact Hp
      isplitr
      · iempintro
      iexact Hr)
    (htail := fun c Q => by
      rw [RDat.familyOf_self]
      iintro ⟨Hk, Hb, Ha, Hz⟩
      ihave Ha' := (open_arrays m c) $$ Ha
      icases Ha' with ⟨%A, %hA, Ha⟩
      iapply (tail_seqs_bufs_b pcs defs₀ Variants.none Prefetch.none spec0 c (V0 m c) A [hostOps1] sfx_sub sfx_fresh sfx_keeps Q)
      isplitl [Hk]
      · iintro ⟨Hb', Ha', Hu⟩
        iapply Hk
        isplitl [Hb']
        · iexact Hb'
        isplitl [Ha']
        · iapply (close_arrays m c A hA)
          iapply (Entails.of_eq (arrays_bufs m c A hA).symm)
          iexact Ha'
        iexists A
        isplitr
        · ipureintro; exact hA
        iexact Hu
      isplitl [Hb]
      · iexact Hb
      isplitl [Ha]
      · iapply (Entails.of_eq (arrays_bufs m c A hA)); iexact Ha
      iexact Hz)
    (QY := fun c s => ∃ A, Ends m c A ∧ ∀ b ∈ others, s.mem ((c.tc : Thread nD τ).loc b) = left m c A b)
    (hY := fun c s => by
      iintro ⟨-, Hz, Hs⟩
      icases Hz with ⟨%A, %hA, Hz⟩
      unfold unscopedRestP
      ihave Hr := (pointsTo_read_all others (fun b => (c.tc : Thread nD τ).loc b) (left m c A) s) $$ [Hz Hs]
      · isplitl [Hz] <;> iassumption
      icases Hr with ⟨%hr, Hs⟩
      imodintro
      isplitr
      · ipureintro; exact ⟨A, hA, hr⟩
      iexact Hs)
    (hQ := fun s h hz => ⟨fun c => ⟨fun w => by simpa only [RDat.familyOf_self] using (h c).1 w, (h c).2.2⟩, hz⟩)

end Cert.Attn

end
-- ==== Proof.Attn.Tables.lean ====
module

public import proofs.«01_k».proof.Proof.Attn.Body
public import Idealize.ShloMosaic.Lib.Pointwise
public import Idealize.ShloMosaic.Lib.ValueIdx
public import Idealize.ShloMosaic.Lib.StableHlo.Run
public import Idealize.ShloMosaic.Lib.StableHlo.ReadAt

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The two arguments, as arrays of extended reals. -/
abbrev hArg (c : Dev nD) : S8704x4096.Idx → Ideal .bf16 := m ((c : Thread nD τ).loc main_arg0)
abbrev wArg (c : Dev nD) : S4096x34320.Idx → Ideal .f32 := m ((c : Thread nD τ).loc main_arg1)

/-- The host transposes the weight before the call. -/
theorem V_weight (c : Dev nD) (a : Fin 34320) (b : Fin 4096) :
    (V m c main_v0 : S34320x4096.Idx → Ideal .f32) (ix2 a b) = wArg m c (ix2 b a) := by
  unfold V
  after_reads_at

/-- The position of row `r`: the place in its prompt, or past the cached prefix for the sample rows. -/
def place (r : ℕ) : BitVec 32 :=
  if r < 8192 then BitVec.ofNat 32 (r % 4096) else 2048#32 + BitVec.ofNat 32 ((r - 8192) % 4)

/-- The angle of frequency `e` at position `p`. -/
def angle (p : BitVec 32) (e : ℕ) : Ideal .f32 :=
  FloatOps.sitofp (F := Ideal) FTy.f32 p * Ideal.pow (Ideal.ofBits FTy.f32 1176256512#32)
    (Ideal.div (-(Ideal.ofBits FTy.f32 1073741824#32 * FloatOps.sitofp (F := Ideal) FTy.f32 (BitVec.ofNat 32 e)))
      (Ideal.ofBits FTy.f32 1124073472#32))

theorem iota_prompt (r : Fin 8192) :
    (shapeCast S8192 (broadcastInDim S2x4096 ![0, 1] bcast_S1x4096_S2x4096_0_1
      (shapeCast S1x4096 (iotaInDim S4096 32 0) shapeCasts_S4096_S1x4096)) shapeCasts_S2x4096_S8192 : S8192.Idx → BitVec 32) (ix1 r)
      = BitVec.ofNat 32 (r.val % 4096) := by
  pointwise

theorem iota_sample (r : Fin 512) :
    (shapeCast S512 (broadcastInDim S128x4 ![0, 1] bcast_S1x4_S128x4_0_1
      (shapeCast S1x4 (addi (broadcastInDim S4 ![] bcast_S_S4 (constantI S_ 32 2048#32)) (iotaInDim S4 32 0)) shapeCasts_S4_S1x4))
      shapeCasts_S128x4_S512 : S512.Idx → BitVec 32) (ix1 r)
      = 2048#32 + BitVec.ofNat 32 (r.val % 4) := by
  pointwise
  rfl

set_option maxHeartbeats 4000000 in
theorem place_prompt (c : Dev nD) (r : Fin 8192) :
    (StableHlo.upto ([hostOps0, hostOps0_1, hostOps0_2].flatten : List (HloOp τ sig (Elt Ideal))) (fun b => m (c, b)) 22 (Proc.tc.devRef main_v12)) (ix1 r)
      = BitVec.ofNat 32 (r.val % 4096) := by
  after_reads_simp
  exact iota_prompt r

set_option maxHeartbeats 4000000 in
theorem place_sample (c : Dev nD) (r : Fin 512) :
    (StableHlo.upto ([hostOps0, hostOps0_1, hostOps0_2].flatten : List (HloOp τ sig (Elt Ideal))) (fun b => m (c, b)) 22 (Proc.tc.devRef main_v18)) (ix1 r)
      = 2048#32 + BitVec.ofNat 32 (r.val % 4) := by
  after_reads_simp
  exact iota_sample r

set_option maxHeartbeats 4000000 in
theorem cos_apply (c : Dev nD) (r : Fin 8704) (e : Fin 128) :
    (V m c main_v38 : S8704x128.Idx → Ideal .f32) (ix2 r e) = Ideal.cos (angle (place r.val) (e.val % 64)) := by
  unfold V
  after_reads_at
  have := e.isLt
  unfold angle place
  by_cases h : e.val < 64
  · rw [dif_pos h, Nat.mod_eq_of_lt h]
    by_cases hr : r.val < 8192
    · rw [dif_pos hr, if_pos hr]
      exact congrArg (fun p => Ideal.cos (FloatOps.sitofp (F := Ideal) FTy.f32 p * _)) (place_prompt m c ⟨r.val, hr⟩)
    · rw [dif_neg hr, if_neg hr]
      exact congrArg (fun p => Ideal.cos (FloatOps.sitofp (F := Ideal) FTy.f32 p * _)) (place_sample m c ⟨r.val - 8192, by have := r.isLt; omega⟩)
  · rw [dif_neg h, show e.val % 64 = e.val - 64 by omega]
    by_cases hr : r.val < 8192
    · rw [dif_pos hr, if_pos hr]
      exact congrArg (fun p => Ideal.cos (FloatOps.sitofp (F := Ideal) FTy.f32 p * _)) (place_prompt m c ⟨r.val, hr⟩)
    · rw [dif_neg hr, if_neg hr]
      exact congrArg (fun p => Ideal.cos (FloatOps.sitofp (F := Ideal) FTy.f32 p * _)) (place_sample m c ⟨r.val - 8192, by have := r.isLt; omega⟩)

set_option maxHeartbeats 4000000 in
theorem sin_apply (c : Dev nD) (r : Fin 8704) (e : Fin 128) :
    (V m c main_v40 : S8704x128.Idx → Ideal .f32) (ix2 r e)
      = if e.val < 64 then -Ideal.sin (angle (place r.val) e.val) else Ideal.sin (angle (place r.val) (e.val - 64)) := by
  unfold V
  after_reads_at
  unfold angle place
  by_cases h : e.val < 64
  · rw [dif_pos h, if_pos h]
    by_cases hr : r.val < 8192
    · rw [dif_pos hr, if_pos hr]
      exact congrArg (fun p => -Ideal.sin (FloatOps.sitofp (F := Ideal) FTy.f32 p * _)) (place_prompt m c ⟨r.val, hr⟩)
    · rw [dif_neg hr, if_neg hr]
      exact congrArg (fun p => -Ideal.sin (FloatOps.sitofp (F := Ideal) FTy.f32 p * _)) (place_sample m c ⟨r.val - 8192, by have := r.isLt; omega⟩)
  · rw [dif_neg h, if_neg h]
    by_cases hr : r.val < 8192
    · rw [dif_pos hr, if_pos hr]
      exact congrArg (fun p => Ideal.sin (FloatOps.sitofp (F := Ideal) FTy.f32 p * _)) (place_prompt m c ⟨r.val, hr⟩)
    · rw [dif_neg hr, if_neg hr]
      exact congrArg (fun p => Ideal.sin (FloatOps.sitofp (F := Ideal) FTy.f32 p * _)) (place_sample m c ⟨r.val - 8192, by have := r.isLt; omega⟩)

end Cert.Attn

end
-- ==== Proof.Attn.Strip.lean ====
/-
  The tile of the projection read at an index: an entry of the product, turned by the angle of its row and lane.
-/
module

public import proofs.«01_k».proof.Proof.Attn.Tables
public import Idealize.ShloMosaic.Lib.Pipeline.ValueKit.Tiles

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

/-- Entry `j` of a row `A`, turned in its pair where `w` says so. -/
def turned (A : ℕ → EReal) (w : BitVec 1) (cos sin : Fin 128 → EReal) (j : ℕ) : EReal :=
  if w = 1#1 then A j * cos ⟨j % 128, Nat.mod_lt _ (by omega)⟩
      + A (if j % 128 < 64 then j + 64 else j - 64) * sin ⟨j % 128, Nat.mod_lt _ (by omega)⟩
  else A j

theorem strip_apply (acc : FVec Ideal S544x512 .f32) (w : BitVec 1) (cos sin : Vec Ideal S544x128 .f32) (A : ℕ → EReal) (B o : ℕ)
    (hB : B % 128 = 0) (ho : o % 128 = 0) (ho' : o + 128 ≤ 512) (r : Fin 544)
    (hA : ∀ l : Fin 512, acc (ix2 r l) = A (B + l.val)) (h : S544x512.Slices ![0, o] S544x128) (d : Fin 128) :
    strip acc w cos sin ![0, o] h (ix2 r d)
      = turned A w (fun e => cos (ix2 r e)) (fun e => sin (ix2 r e)) (B + o + d.val) := by
  have e1 : (B + o + d.val) % 128 = d.val := by have := d.isLt; omega
  unfold turned strip Scalar.select
  simp only [e1]
  by_cases hw : w = 1#1
  · rw [if_pos hw, if_pos (show w = 1 from hw)]
    pointwise
    have := d.isLt
    rw [hA, hA]
    refine congrArg₂ (· + ·) (congrArg (· * _) (congrArg A ?_)) (congrArg (· * _) (congrArg A ?_))
    · show B + (o + d.val) = _; omega
    · show B + (o + (d.val + 128 - 64) % 128) = _
      split_ifs <;> omega
  · rw [if_neg hw, if_neg (show ¬ w = 1 from hw)]
    pointwise
    rw [hA]
    refine congrArg A ?_
    show B + (o + d.val) = _; omega

theorem piece_apply (acc : FVec Ideal S544x512 .f32) (w : BitVec 1) (cos sin : Vec Ideal S544x128 .f32) (A : ℕ → EReal) (B o : ℕ)
    (hB : B % 128 = 0) (ho : o % 128 = 0) (ho' : o + 128 ≤ 512) (r : Fin 544) (j : Fin 1024)
    (hA : ∀ l : Fin 512, acc (ix2 r l) = A (B + l.val)) (h : S544x512.Slices ![0, o] S544x128)
    (i1 : ∀ a, (![0, B] : Fin 2 → ℕ) a + S544x512.size a ≤ S544x1024.size a)
    (i2 : ∀ a, (![0, o] : Fin 2 → ℕ) a + S544x128.size a ≤ S544x512.size a) (x : S544x128.Idx)
    (hx : ((Rect.unit (s := S544x1024) ![0, B] S544x512.size i1).within
      (Rect.unit (s := S544x512) ![0, o] S544x128.size i2) (fun _ => rfl)).emb x = ix2 r j) :
    strip acc w cos sin ![0, o] h x = turned A w (fun e => cos (ix2 r e)) (fun e => sin (ix2 r e)) j.val := by
  rw [Rect.emb_within] at hx
  have h0 : 0 + 1 * (0 + 1 * (x 0).val) = r.val := congrArg Fin.val (congrFun hx 0)
  have h1 : B + 1 * (o + 1 * (x 1).val) = j.val := congrArg Fin.val (congrFun hx 1)
  have e : x = ix2 r (⟨(x 1).val, (x 1).isLt⟩ : Fin 128) := by
    funext a; apply Fin.ext
    match a with
    | ⟨0, _⟩ => show (x 0).val = r.val; omega
    | ⟨1, _⟩ => rfl
  rw [e, strip_apply acc w cos sin A B o hB ho ho' r hA h]
  refine congrArg _ ?_
  show B + o + (x 1).val = j.val; omega

/-- An entry of the tile: entry `j` of the row `A` of the product's tile, turned. -/
theorem tile_apply (a0 a1 : FVec Ideal S544x512 .f32) (w : BitVec 1) (cos sin : Vec Ideal S544x128 .f32) (A : ℕ → EReal)
    (r : Fin 544) (j : Fin 1024) (h0 : ∀ l : Fin 512, a0 (ix2 r l) = A (0 + l.val)) (h1 : ∀ l : Fin 512, a1 (ix2 r l) = A (512 + l.val)) :
    View.canon (tilePieces a0 a1 w w cos sin) (ix2 r j)
      = turned A w (fun e => cos (ix2 r e)) (fun e => sin (ix2 r e)) j.val := by
  refine View.canon_eq_of_allAt _ _ _ (tile_cover a0 a1 w w cos sin _) ?_
  intro p hp
  unfold tilePieces at hp
  simp only [List.mem_cons, List.not_mem_nil, or_false] at hp
  rcases hp with rfl | rfl | rfl | rfl | rfl | rfl | rfl | rfl
  · exact piece_apply a1 w cos sin A 512 384 rfl rfl (by omega) r j h1 _ _ _
  · exact piece_apply a1 w cos sin A 512 256 rfl rfl (by omega) r j h1 _ _ _
  · exact piece_apply a1 w cos sin A 512 128 rfl rfl (by omega) r j h1 _ _ _
  · exact piece_apply a1 w cos sin A 512 0 rfl rfl (by omega) r j h1 _ _ _
  · exact piece_apply a0 w cos sin A 0 384 rfl rfl (by omega) r j h0 _ _ _
  · exact piece_apply a0 w cos sin A 0 256 rfl rfl (by omega) r j h0 _ _ _
  · exact piece_apply a0 w cos sin A 0 128 rfl rfl (by omega) r j h0 _ _ _
  · exact piece_apply a0 w cos sin A 0 0 rfl rfl (by omega) r j h0 _ _ _

theorem half_apply (x : Vec Ideal S544x4096 .bf16) (w : Vec Ideal S1x512x4096 .bf16) (r : Fin 544) (l : Fin 512) :
    half x w (ix2 r l) = ∑ k : Fin 4096, (x (ix2 r k) : EReal) * w (ix3 (0 : Fin 1) l k) := by
  pointwise [half]

theorem pay290_apply (x : Vec Ideal S64x4096 .f32) (r : Fin 64) (k : Fin 4096) :
    k0_pay290 (F := Ideal) x (ix3 (0 : Fin 1) r k) = x (ix2 r k) := by
  pointwise [k0_pay290]

variable (m : (ℓ : Loc nD τ sig) → Buf (Elt Ideal) ℓ)

/-- A row of the input tile of a later phase is a row of `h`. -/
theorem input_apply (c : Dev nD) (t : Fin cfg0.N) (ht : 16 ≤ t.val) (r : Fin 544) (k : Fin 4096) :
    (iblk m c 0 t : S544x4096.Idx → Ideal .bf16) (ix2 r k) = hArg m c (ix2 ⟨544 * (t.val % 16) + r.val, by omega⟩ k) := by
  have e : win0_0.index t 0 = t.val % 16 ∧ win0_0.index t 1 = 0 :=
    (by decide +kernel : ∀ t : Fin grid0.N, 16 ≤ t.val → win0_0.index t 0 = t.val % 16 ∧ win0_0.index t 1 = 0) t ht
  unfold iblk
  rw [View.read_apply]
  show V m c main_arg0 _ = _
  rw [V_main_arg0]
  refine congrArg (hArg m c) (funext fun a => Fin.ext ?_)
  match a with
  | ⟨0, _⟩ => show win0_0.index t 0 * 544 + 1 * r.val = 544 * (t.val % 16) + r.val; rw [e.1]; omega
  | ⟨1, _⟩ => show win0_0.index t 1 * 4096 + 1 * k.val = k.val; rw [e.2]; omega

/-- The tables' tiles are the tables' rows. -/
theorem cos_tile (c : Dev nD) (t : Fin cfg0.N) (ht : 16 ≤ t.val) (r : Fin 544) (e : Fin 128) :
    (iblk m c 2 t : S544x128.Idx → Ideal .f32) (ix2 r e)
      = (V m c main_v38 : S8704x128.Idx → Ideal .f32) (ix2 (⟨544 * (t.val % 16) + r.val, by omega⟩ : Fin 8704) e) := by
  have e' : win0_2.index t 0 = t.val % 16 ∧ win0_2.index t 1 = 0 :=
    (by decide +kernel : ∀ t : Fin grid0.N, 16 ≤ t.val → win0_2.index t 0 = t.val % 16 ∧ win0_2.index t 1 = 0) t ht
  unfold iblk
  rw [View.read_apply]
  show V m c main_v38 _ = _
  refine congrArg (V m c main_v38) (funext fun a => Fin.ext ?_)
  match a with
  | ⟨0, _⟩ => show win0_2.index t 0 * 544 + 1 * r.val = 544 * (t.val % 16) + r.val; rw [e'.1]; omega
  | ⟨1, _⟩ => show win0_2.index t 1 * 128 + 1 * e.val = e.val; rw [e'.2]; omega

theorem sin_tile (c : Dev nD) (t : Fin cfg0.N) (ht : 16 ≤ t.val) (r : Fin 544) (e : Fin 128) :
    (iblk m c 3 t : S544x128.Idx → Ideal .f32) (ix2 r e)
      = (V m c main_v40 : S8704x128.Idx → Ideal .f32) (ix2 (⟨544 * (t.val % 16) + r.val, by omega⟩ : Fin 8704) e) := by
  have e' : win0_3.index t 0 = t.val % 16 ∧ win0_3.index t 1 = 0 :=
    (by decide +kernel : ∀ t : Fin grid0.N, 16 ≤ t.val → win0_3.index t 0 = t.val % 16 ∧ win0_3.index t 1 = 0) t ht
  unfold iblk
  rw [View.read_apply]
  show V m c main_v40 _ = _
  refine congrArg (V m c main_v40) (funext fun a => Fin.ext ?_)
  match a with
  | ⟨0, _⟩ => show win0_3.index t 0 * 544 + 1 * r.val = 544 * (t.val % 16) + r.val; rw [e'.1]; omega
  | ⟨1, _⟩ => show win0_3.index t 1 * 128 + 1 * e.val = e.val; rw [e'.2]; omega

/-- A row of the weight block of a point is a column of the weight. -/
theorem weight_apply (c : Dev nD) (t : Fin cfg0.N) (ht : t.val < 144) (r : Fin 64) (k : Fin 4096) :
    (iblk m c 1 t : S64x4096.Idx → Ideal .f32) (ix2 r k) = wArg m c (ix2 k ⟨12304 + 64 * t.val + r.val, by omega⟩) := by
  have e : win0_1.index t 0 = 12304 + 64 * t.val ∧ win0_1.index t 1 = 0 :=
    (by decide +kernel : ∀ t : Fin grid0.N, t.val < 144 → win0_1.index t 0 = 12304 + 64 * t.val ∧ win0_1.index t 1 = 0) t ht
  unfold iblk
  rw [View.read_apply]
  show V m c main_v0 _ = _
  rw [← V_weight]
  refine congrArg (V m c main_v0) (funext fun a => Fin.ext ?_)
  match a with
  | ⟨0, _⟩ => show win0_1.index t 0 + 1 * r.val = 12304 + 64 * t.val + r.val; rw [e.1]; omega
  | ⟨1, _⟩ => show win0_1.index t 1 + 1 * k.val = k.val; rw [e.2]; omega

/-- A row of half a weight tile is a column of the weight. -/
theorem halfW_apply (c : Dev nD) (p f : ℕ) (hp : 1 ≤ p) (hp' : p ≤ 9) (hf : f < 2) (l : Fin 512) (k : Fin 4096) :
    halfW m c p f (ix3 (0 : Fin 1) l k)
      = wArg m c (ix2 k ⟨12304 + (1024 * (p - 1) + 512 * f + l.val), by omega⟩) := by
  have hl := l.isLt
  show blockW m c (pt (16 * (p - 1) + (512 * f + l.val) / 64)) (ix3 (0 : Fin 1) (⟨l.val % 64, _⟩ : Fin 64) (⟨k.val, _⟩ : Fin 4096)) = _
  have e : (pt (16 * (p - 1) + (512 * f + l.val) / 64)).val = 16 * (p - 1) + (512 * f + l.val) / 64 := by
    show (16 * (p - 1) + (512 * f + l.val) / 64) % 160 = _; omega
  unfold blockW
  rw [pay290_apply, weight_apply m c _ (by rw [e]; omega)]
  refine congrArg (wArg m c) (funext fun a => Fin.ext ?_)
  match a with
  | ⟨0, _⟩ => rfl
  | ⟨1, _⟩ => show 12304 + 64 * (pt (16 * (p - 1) + (512 * f + l.val) / 64)).val + l.val % 64 = 12304 + (1024 * (p - 1) + 512 * f + l.val)
              rw [e]; omega

end Cert.Attn

end
-- ==== Proof.Attn.Value.lean ====
/-
  The projection array after the run: every entry is an entry of the product `h · w`, turned by the angle of its row and lane
  in the query and key groups.
-/
module

public import proofs.«01_k».proof.Proof.Attn.Strip

@[expose] public section

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

theorem turned_shift (A : ℕ → EReal) (w : BitVec 1) (cos sin : Fin 128 → EReal) (B j : ℕ) (hB : B % 128 = 0) :
    turned (fun l => A (B + l)) w cos sin j = turned A w cos sin (B + j) := by
  have e : (B + j) % 128 = j % 128 := by omega
  unfold turned
  simp only [e]
  by_cases h : j % 128 < 64
  · rw [if_pos h, if_pos h]; rfl
  · rw [if_neg h, if_neg h, show B + (j - 64) = B + j - 64 by omega]

variable (m : (ℓ : Loc nD τ sig) → Buf (Elt Ideal) ℓ)

/-- Column `j` of the projection before the rotary turn, in row `r`. -/
def col (c : Dev nD) (r : Fin 8704) (j : ℕ) : EReal :=
  if h : j < 9216 then ∑ k : Fin 4096, hArg m c (ix2 r k) * wArg m c (ix2 k ⟨12304 + j, by omega⟩) else 0

/-- Whether a column is turned: those of the queries and keys are. -/
def word (j : ℕ) : BitVec 1 := if j / 1024 % 3 = 2 then 0#1 else 1#1

/-- The cosines and the signed sines of a row. -/
def cosRow (r : Fin 8704) (e : Fin 128) : EReal := Ideal.cos (angle (place r.val) (e.val % 64))
def sinRow (r : Fin 8704) (e : Fin 128) : EReal :=
  if e.val < 64 then -Ideal.sin (angle (place r.val) e.val) else Ideal.sin (angle (place r.val) (e.val - 64))

/-- An entry of the projection. -/
def entry (c : Dev nD) (r : Fin 8704) (j : ℕ) : EReal := turned (col m c r) (word j) (cosRow r) (sinRow r) j

theorem half_col (c : Dev nD) (t : Fin cfg0.N) (ht : 16 ≤ t.val) (f : ℕ) (hf : f < 2) (r : Fin 544) (l : Fin 512) :
    half (iblk m c 0 t : Vec Ideal S544x4096 .bf16) (halfW m c (t.val / 16) f) (ix2 r l)
      = col m c ⟨544 * (t.val % 16) + r.val, by omega⟩ (1024 * (t.val / 16 - 1) + (512 * f + l.val)) := by
  have hN : cfg0.N = 160 := N_0
  have := t.isLt
  have := l.isLt
  unfold col
  rw [half_apply, dif_pos (by omega)]
  refine Finset.sum_congr rfl fun k _ => congrArg₂ (· * ·) (input_apply m c t ht r k) ?_
  rw [halfW_apply m c _ f (by omega) (by omega) hf l k]
  refine congrArg (wArg m c) (funext fun a => Fin.ext ?_)
  match a with
  | ⟨0, _⟩ => rfl
  | ⟨1, _⟩ => show 12304 + (1024 * (t.val / 16 - 1) + 512 * f + l.val) = 12304 + (1024 * (t.val / 16 - 1) + (512 * f + l.val)); omega

/-- What a point leaves is its tile of the projection. -/
theorem tileAt_apply (c : Dev nD) (t : Fin cfg0.N) (ht : 16 ≤ t.val) (r : Fin 544) (j : Fin 1024) :
    tileAt m c t (ix2 r j) = entry m c ⟨544 * (t.val % 16) + r.val, by omega⟩ (1024 * (t.val / 16 - 1) + j.val) := by
  have hj := j.isLt
  unfold tileAt
  rw [tile_apply _ _ _ _ _ (fun l => col m c ⟨544 * (t.val % 16) + r.val, by omega⟩ (1024 * (t.val / 16 - 1) + l)) r j
    (fun l => half_col m c t ht 0 (by omega) r l) (fun l => half_col m c t ht 1 (by omega) r l)]
  rw [turned_shift _ _ _ _ _ _ (by omega)]
  unfold entry
  have hw : ropeWord (grid0.coords t) = word (1024 * (t.val / 16 - 1) + j.val) := by
    unfold ropeWord word
    rw [(coords_eq t).1]
    by_cases h : (t.val / 16 + 2) % 3 = 2
    · rw [if_pos h, if_pos (by omega)]
    · rw [if_neg h, if_neg (by omega)]
  rw [hw]
  refine congrArg₂ (fun a b => turned _ _ a b _) (funext fun e => ?_) (funext fun e => ?_)
  · exact (cos_tile m c t ht r e).trans (cos_apply m c _ e)
  · exact (sin_tile m c t ht r e).trans (sin_apply m c _ e)

/-- The projection. -/
def zOut (c : Dev nD) : Buf (Elt Ideal) ((c : Thread nD τ).loc main_v41_0) :=
  fun i => entry m c ⟨(i 0).val, (i 0).isLt⟩ (i 1).val

theorem index_z : ∀ t : Fin grid0.N, 16 ≤ t.val → win0_13.index t 0 = t.val % 16 ∧ win0_13.index t 1 = t.val / 16 - 1 := by
  decide +kernel
theorem flush_later : ∀ t : Fin grid0.N, 16 ≤ t.val → win0_13.flush t = true := by decide +kernel

theorem flushed_z (c : Dev nD) (t : Fin cfg0.N) (hf : (cfg0.win 13).flush t = true) :
    (dats m 0 c).flushed 13 t = ((cfg0.win 13).blk t).view.read (Elt Ideal) (zOut m c) := by
  have ht : 16 ≤ t.val := by
    by_contra h
    rw [flush_first t (by omega)] at hf
    exact Bool.false_ne_true hf
  have e := index_z t ht
  funext y
  have hy0 : (y 0).val < 544 := (y 0).isLt
  have hy1 : (y 1).val < 1024 := (y 1).isLt
  rw [View.read_apply]
  show (dats m 0 c).after 13 t ((cfg0.win 13).xinj (grid0.coords t) y) = zOut m c (((cfg0.win 13).blk t).view.emb y)
  rw [after_13]
  have hx : (cfg0.win 13).xinj (grid0.coords t) y = ix2 (⟨(y 0).val, hy0⟩ : Fin 544) (⟨(y 1).val, hy1⟩ : Fin 1024) := by
    funext a; apply Fin.ext
    match a with
    | ⟨0, _⟩ => rfl
    | ⟨1, _⟩ => rfl
  rw [hx, tileAt_apply m c t ht]
  unfold zOut
  refine congrArg₂ (entry m c) (Fin.ext ?_) ?_
  · show 544 * (t.val % 16) + (y 0).val = win0_13.index t 0 * 544 + 1 * (y 0).val
    rw [e.1]; omega
  · show 1024 * (t.val / 16 - 1) + (y 1).val = win0_13.index t 1 * 1024 + 1 * (y 1).val
    rw [e.2]; omega

theorem covered_z (i : S8704x9216.Idx) : ∃ t : Fin cfg0.N, (cfg0.win 13).flush t = true ∧ i ∈ ((cfg0.win 13).blk t).view.set := by
  have hN : cfg0.N = 160 := N_0
  have h0 : (i 0).val < 8704 := (i 0).isLt
  have h1 : (i 1).val < 9216 := (i 1).isLt
  obtain ⟨t, ht⟩ : ∃ t : Fin cfg0.N, t.val = 16 * ((i 1).val / 1024 + 1) + (i 0).val / 544 :=
    ⟨⟨16 * ((i 1).val / 1024 + 1) + (i 0).val / 544, by rw [hN]; omega⟩, rfl⟩
  have e := index_z t (by omega)
  refine ⟨t, flush_later t (by omega), ?_⟩
  show i ∈ ((View.whole main_v41_0).slice (win0_13.rect t)).set
  rw [View.set_slice_whole, Rect.mem_set_unit]
  intro a
  match a with
  | ⟨0, _⟩ => show win0_13.index t 0 * 544 ≤ (i 0).val ∧ (i 0).val < win0_13.index t 0 * 544 + 544
              rw [e.1]; omega
  | ⟨1, _⟩ => show win0_13.index t 1 * 1024 ≤ (i 1).val ∧ (i 1).val < win0_13.index t 1 * 1024 + 1024
              rw [e.2]; omega

theorem final_z (c : Dev nD) : (dats m 0 c).arrAt 13 cfg0.N = zOut m c :=
  (dats m 0 c).arrAt_eq_of_cover 13 _ (fun t hf => flushed_z m c t hf) covered_z

end Cert.Attn

end
-- ==== Proof.Attn.Rows.lean ====
/-
  The window rows: the last rows of each prompt sequence and all rows of each sample, of the columns of one part of one
  group, split into heads. Each is a choice of words of the projection's array.
-/
module

public import proofs.«01_k».proof.KernelIdeal
public import Idealize.ShloMosaic.Lib.Pointwise
public import Idealize.ShloMosaic.Lib.ValueIdx

@[expose] public section

set_option maxRecDepth 20000

noncomputable section

namespace Cert.Attn

open Cert.KernelIdeal
open Idealize.ShloMosaic Idealize.ShloMosaic.Tactic

/-- The column where a part of a group begins: the parts of the groups lie side by side. -/
abbrev partStart (p : Fin 9) : ℕ := p.val * 1024

/-- The last 128 rows of each prompt sequence, of part `p`. -/
def last128 (p : Fin 9) (z : S8704x9216.Idx → Ideal .f32) : S2x128x8x128.Idx → Ideal .f32 := fun i =>
  z (ix2 ⟨(i 0).val * 4096 + (3968 + (i 1).val), by
    have h0 : (i 0).val < 2 := (i 0).isLt
    have h1 : (i 1).val < 128 := (i 1).isLt
    omega⟩ ⟨partStart p + ((i 2).val * 128 + (i 3).val), by
    have h2 : (i 2).val < 8 := (i 2).isLt
    have h3 : (i 3).val < 128 := (i 3).isLt
    have hp : p.val < 9 := p.isLt
    show p.val * 1024 + _ < _
    omega⟩)

/-- The last 512 rows of each prompt sequence, of part `p`. -/
def last512 (p : Fin 9) (z : S8704x9216.Idx → Ideal .f32) : S2x512x8x128.Idx → Ideal .f32 := fun i =>
  z (ix2 ⟨(i 0).val * 4096 + (3584 + (i 1).val), by
    have h0 : (i 0).val < 2 := (i 0).isLt
    have h1 : (i 1).val < 512 := (i 1).isLt
    omega⟩ ⟨partStart p + ((i 2).val * 128 + (i 3).val), by
    have h2 : (i 2).val < 8 := (i 2).isLt
    have h3 : (i 3).val < 128 := (i 3).isLt
    have hp : p.val < 9 := p.isLt
    show p.val * 1024 + _ < _
    omega⟩)

/-- The last 2048 rows of each prompt sequence, of part `p`. -/
def last2048 (p : Fin 9) (z : S8704x9216.Idx → Ideal .f32) : S2x2048x8x128.Idx → Ideal .f32 := fun i =>
  z (ix2 ⟨(i 0).val * 4096 + (2048 + (i 1).val), by
    have h0 : (i 0).val < 2 := (i 0).isLt
    have h1 : (i 1).val < 2048 := (i 1).isLt
    omega⟩ ⟨partStart p + ((i 2).val * 128 + (i 3).val), by
    have h2 : (i 2).val < 8 := (i 2).isLt
    have h3 : (i 3).val < 128 := (i 3).isLt
    have hp : p.val < 9 := p.isLt
    show p.val * 1024 + _ < _
    omega⟩)

/-- Two places of the array with the same row and the same column are one. -/
theorem index_eq (i j : S8704x9216.Idx) (h0 : (i 0).val = (j 0).val) (h1 : (i 1).val = (j 1).val) : i = j := by
  funext a
  match a with
  | 0 => exact Fin.ext h0
  | 1 => exact Fin.ext h1

/-- All rows of each sample, of part `p`. -/
def sampleRows (p : Fin 9) (z : S8704x9216.Idx → Ideal .f32) : S128x4x8x128.Idx → Ideal .f32 := fun i =>
  z (ix2 ⟨8192 + ((i 0).val * 4 + (i 1).val), by
    have h0 : (i 0).val < 128 := (i 0).isLt
    have h1 : (i 1).val < 4 := (i 1).isLt
    omega⟩ ⟨partStart p + ((i 2).val * 128 + (i 3).val), by
    have h2 : (i 2).val < 8 := (i 2).isLt
    have h3 : (i 3).val < 128 := (i 3).isLt
    have hp : p.val < 9 := p.isLt
    show p.val * 1024 + _ < _
    omega⟩)

end Cert.Attn

end
-- ==== Proof.Attn.RowsKernel.lean ====
/-
  What the lines after the call leave in the results that hold the window rows, from any state: words of the projection's array.
-/
module

public import proofs.«01_k».proof.Proof.Attn.Rows
public import proofs.«01_k».proof.Proof.Gen.KernelIdeal.Frame
public import Idealize.ShloMosaic.Lib.StableHlo.ReadAt

@[expose] public section

set_option maxRecDepth 20000

noncomputable section

namespace Cert.Attn

open Cert.KernelIdeal Cert.KernelIdeal.Gen
open Idealize.ShloMosaic Idealize.ShloMosaic.TcCoe Idealize.ShloMosaic.Tactic

variable (U : Valuation τ sig (Elt Ideal))

set_option maxHeartbeats 4000000 in
theorem left_v51 : StableHlo.after (List.flatten [hostOps1]) U (Proc.devRef .tc main_v51)
    = last128 1 (U (Proc.devRef .tc main_v41_0)) := by
  funext i
  obtain ⟨b, t, h, d, rfl⟩ : ∃ (b : Fin 2) (t : Fin 128) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 3968 + t.val = b.val * 4096 + (3968 + t.val); omega
    · show 1024 + (h.val * 128 + d.val) = 1024 + (h.val * 128 + d.val); rfl
  · rw [dif_neg h0]
    after_reads_at
    refine congrArg (U (Proc.devRef .tc main_v41_0)) (index_eq _ _ ?_ ?_)
    · show 8064 + t.val = b.val * 4096 + (3968 + t.val); omega
    · show 1024 + (h.val * 128 + d.val) = 1024 + (h.val * 128 + d.val); rfl

set_option maxHeartbeats 4000000 in
theorem left_v54 : StableHlo.after (List.flatten [hostOps1]) U (Proc.devRef .tc main_v54)
    = sampleRows 1 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 1024 + (t.val * 8 + h.val) % 8 * 128 + d.val = 1024 + (h.val * 128 + d.val); omega

set_option maxHeartbeats 4000000 in
theorem left_v60 : StableHlo.after (List.flatten [hostOps1]) U (Proc.devRef .tc main_v60)
    = last128 2 (U (Proc.devRef .tc main_v41_0)) := by
  funext i
  obtain ⟨b, t, h, d, rfl⟩ : ∃ (b : Fin 2) (t : Fin 128) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 3968 + t.val = b.val * 4096 + (3968 + t.val); omega
    · show 2048 + (h.val * 128 + d.val) = 2048 + (h.val * 128 + d.val); rfl
  · rw [dif_neg h0]
    after_reads_at
    refine congrArg (U (Proc.devRef .tc main_v41_0)) (index_eq _ _ ?_ ?_)
    · show 8064 + t.val = b.val * 4096 + (3968 + t.val); omega
    · show 2048 + (h.val * 128 + d.val) = 2048 + (h.val * 128 + d.val); rfl

set_option maxHeartbeats 4000000 in
theorem left_v63 : StableHlo.after (List.flatten [hostOps1]) U (Proc.devRef .tc main_v63)
    = sampleRows 2 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 2048 + (t.val * 8 + h.val) % 8 * 128 + d.val = 2048 + (h.val * 128 + d.val); omega

set_option maxHeartbeats 4000000 in
theorem left_v69 : StableHlo.after (List.flatten [hostOps1]) U (Proc.devRef .tc main_v69)
    = last512 4 (U (Proc.devRef .tc main_v41_0)) := by
  funext i
  obtain ⟨b, t, h, d, rfl⟩ : ∃ (b : Fin 2) (t : Fin 512) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 3584 + t.val = b.val * 4096 + (3584 + t.val); omega
    · show 4096 + (h.val * 128 + d.val) = 4096 + (h.val * 128 + d.val); rfl
  · rw [dif_neg h0]
    after_reads_at
    refine congrArg (U (Proc.devRef .tc main_v41_0)) (index_eq _ _ ?_ ?_)
    · show 7680 + t.val = b.val * 4096 + (3584 + t.val); omega
    · show 4096 + (h.val * 128 + d.val) = 4096 + (h.val * 128 + d.val); rfl

set_option maxHeartbeats 4000000 in
theorem left_v72 : StableHlo.after (List.flatten [hostOps1]) U (Proc.devRef .tc main_v72)
    = sampleRows 4 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 4096 + (t.val * 8 + h.val) % 8 * 128 + d.val = 4096 + (h.val * 128 + d.val); omega

set_option maxHeartbeats 4000000 in
theorem left_v78 : StableHlo.after (List.flatten [hostOps1]) U (Proc.devRef .tc main_v78)
    = last512 5 (U (Proc.devRef .tc main_v41_0)) := by
  funext i
  obtain ⟨b, t, h, d, rfl⟩ : ∃ (b : Fin 2) (t : Fin 512) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 3584 + t.val = b.val * 4096 + (3584 + t.val); omega
    · show 5120 + (h.val * 128 + d.val) = 5120 + (h.val * 128 + d.val); rfl
  · rw [dif_neg h0]
    after_reads_at
    refine congrArg (U (Proc.devRef .tc main_v41_0)) (index_eq _ _ ?_ ?_)
    · show 7680 + t.val = b.val * 4096 + (3584 + t.val); omega
    · show 5120 + (h.val * 128 + d.val) = 5120 + (h.val * 128 + d.val); rfl

set_option maxHeartbeats 4000000 in
theorem left_v81 : StableHlo.after (List.flatten [hostOps1]) U (Proc.devRef .tc main_v81)
    = sampleRows 5 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 5120 + (t.val * 8 + h.val) % 8 * 128 + d.val = 5120 + (h.val * 128 + d.val); omega

set_option maxHeartbeats 4000000 in
theorem left_v87 : StableHlo.after (List.flatten [hostOps1]) U (Proc.devRef .tc main_v87)
    = last2048 7 (U (Proc.devRef .tc main_v41_0)) := by
  funext i
  obtain ⟨b, t, h, d, rfl⟩ : ∃ (b : Fin 2) (t : Fin 2048) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 2048 + t.val = b.val * 4096 + (2048 + t.val); omega
    · show 7168 + (h.val * 128 + d.val) = 7168 + (h.val * 128 + d.val); rfl
  · rw [dif_neg h0]
    after_reads_at
    refine congrArg (U (Proc.devRef .tc main_v41_0)) (index_eq _ _ ?_ ?_)
    · show 6144 + t.val = b.val * 4096 + (2048 + t.val); omega
    · show 7168 + (h.val * 128 + d.val) = 7168 + (h.val * 128 + d.val); rfl

set_option maxHeartbeats 4000000 in
theorem left_v90 : StableHlo.after (List.flatten [hostOps1]) U (Proc.devRef .tc main_v90)
    = sampleRows 7 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 7168 + (t.val * 8 + h.val) % 8 * 128 + d.val = 7168 + (h.val * 128 + d.val); omega

set_option maxHeartbeats 4000000 in
theorem left_v96 : StableHlo.after (List.flatten [hostOps1]) U (Proc.devRef .tc main_v96)
    = last2048 8 (U (Proc.devRef .tc main_v41_0)) := by
  funext i
  obtain ⟨b, t, h, d, rfl⟩ : ∃ (b : Fin 2) (t : Fin 2048) (h : Fin 8) (d : Fin 128), i = ix4 b t h d :=
    ⟨i 0, i 1, i 2, i 3, ValueIdx.eq_ix4 i⟩
  after_reads_at
  have hb := b.isLt
  by_cases h0 : b.val < 1
  · rw [dif_pos h0]
    after_reads_at
    refine congrArg (U (Proc.devRef .tc main_v41_0)) (index_eq _ _ ?_ ?_)
    · show 2048 + t.val = b.val * 4096 + (2048 + t.val); omega
    · show 8192 + (h.val * 128 + d.val) = 8192 + (h.val * 128 + d.val); rfl
  · rw [dif_neg h0]
    after_reads_at
    refine congrArg (U (Proc.devRef .tc main_v41_0)) (index_eq _ _ ?_ ?_)
    · show 6144 + t.val = b.val * 4096 + (2048 + t.val); omega
    · show 8192 + (h.val * 128 + d.val) = 8192 + (h.val * 128 + d.val); rfl

set_option maxHeartbeats 4000000 in
theorem left_v99 : StableHlo.after (List.flatten [hostOps1]) U (Proc.devRef .tc main_v99)
    = sampleRows 8 (U (Proc.devRef .tc main_v41_0)) := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  after_reads_at
  have hh := h.isLt
  refine congrArg (U (Proc.devRef .tc main_v41_0)) (index_eq _ _ ?_ ?_)
  · show 8192 + (b.val * 4 + (t.val * 8 + h.val) / 8) = 8192 + (b.val * 4 + t.val); omega
  · show 8192 + (t.val * 8 + h.val) % 8 * 128 + d.val = 8192 + (h.val * 128 + d.val); omega

end Cert.Attn

end
-- ==== Proof.Attn.Run.lean ====
/-
  What the run leaves: the arguments as they began, the projection's array, and the window rows cut from it.
-/
module

public import proofs.«01_k».proof.Proof.Attn.Tail
public import proofs.«01_k».proof.Proof.Attn.Value
public import proofs.«01_k».proof.Proof.Attn.RowsKernel

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.Sem
open Idealize.ShloMosaic.Pipeline (Dat)

section Kept

variable {F : FTy → Type} [FloatOps F]

variable (m : (ℓ : Loc nD τ sig) → Buf (Elt F) ℓ) (ρ : Dev nD → PrngReg)

/-- An array the window's block is only read from ends as the region found it. -/
theorem input_kept (c : Dev nD) (w : Fin cfg0.W) (hf : fgt w = false) (hw : (cfg0.spec w).isOut = false)
    (f : Buf (Elt F) ((cfg0.win w).arr.view.loc (c.tc : Thread nD τ)))
    (h : (rd m c).ArrAt w cfg0.N f) : f = V m c (Pipeline.arrRef spec0 w) :=
  ((Dat.toRForget_arrAt_iff (dats m 0 c) hf cfg0.N f).mp h).trans (((dats m 0 c).arrAt_in w hw _).trans (A_eq m c w))

set_option maxHeartbeats 2000000 in
/-- No line after the call writes argument 1, and the call has no window on it. -/
theorem left_arg1 (c : Dev nD) (A : Arrs (F := F) c) : left m c A main_arg1 = m ((c.tc : Thread nD τ).loc main_arg1) := by
  unfold left
  rw [StableHlo.after_of_forall_not_mem (b := Proc.devRef .tc main_arg1) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes,
        StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 2000000 in
/-- No line after the call writes argument 3, and the call has no window on it. -/
theorem left_arg3 (c : Dev nD) (A : Arrs (F := F) c) : left m c A main_arg3 = m ((c.tc : Thread nD τ).loc main_arg3) := by
  unfold left
  rw [StableHlo.after_of_forall_not_mem (b := Proc.devRef .tc main_arg3) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes,
        StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 2000000 in
/-- No line after the call writes argument 4, and the call has no window on it. -/
theorem left_arg4 (c : Dev nD) (A : Arrs (F := F) c) : left m c A main_arg4 = m ((c.tc : Thread nD τ).loc main_arg4) := by
  unfold left
  rw [StableHlo.after_of_forall_not_mem (b := Proc.devRef .tc main_arg4) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes,
        StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 2000000 in
/-- No line after the call writes argument 5, and the call has no window on it. -/
theorem left_arg5 (c : Dev nD) (A : Arrs (F := F) c) : left m c A main_arg5 = m ((c.tc : Thread nD τ).loc main_arg5) := by
  unfold left
  rw [StableHlo.after_of_forall_not_mem (b := Proc.devRef .tc main_arg5) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes,
        StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 2000000 in
/-- No line after the call writes argument 8, and the call has no window on it. -/
theorem left_arg8 (c : Dev nD) (A : Arrs (F := F) c) : left m c A main_arg8 = m ((c.tc : Thread nD τ).loc main_arg8) := by
  unfold left
  rw [StableHlo.after_of_forall_not_mem (b := Proc.devRef .tc main_arg8) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.reshape_writes,
        StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem mem_others (b : Ref sig .tc) (hs : b.isScoped = false) (hb : ∀ w, Pipeline.arrRef spec0 w ≠ b) : b ∈ others :=
  Finset.mem_sdiff.mpr ⟨Pipeline.mem_restRefs_of b hs hb, fun h => by
    obtain ⟨k, -, -⟩ := Finset.mem_image.mp h
    exact k.elim0⟩

set_option maxHeartbeats 1080000 in
/-- The run with the argument arrays named: each ends as it began. -/
theorem run_kept : θ_run defs (onTc (τ := τ) (main (F := F))) ⟨m, fun _ => 0, ρ⟩ (fun r =>
    Post m r ∧ (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨h.1, fun c => ⟨(input_kept m c 0 rfl rfl _ ((h.1 c).1 0)).trans (V_main_arg0 m c),
    ((h.1 c).2.elim fun A hA => (hA.2 main_arg1 (mem_others main_arg1 (by decide) (by decide))).trans (left_arg1 m c A)),
    (input_kept m c 8 rfl rfl _ ((h.1 c).1 8)).trans (V_main_arg2 m c),
    ((h.1 c).2.elim fun A hA => (hA.2 main_arg3 (mem_others main_arg3 (by decide) (by decide))).trans (left_arg3 m c A)),
    ((h.1 c).2.elim fun A hA => (hA.2 main_arg4 (mem_others main_arg4 (by decide) (by decide))).trans (left_arg4 m c A)),
    ((h.1 c).2.elim fun A hA => (hA.2 main_arg5 (mem_others main_arg5 (by decide) (by decide))).trans (left_arg5 m c A)),
    (input_kept m c 10 rfl rfl _ ((h.1 c).1 10)).trans (V_main_arg6 m c),
    (input_kept m c 11 rfl rfl _ ((h.1 c).1 11)).trans (V_main_arg7 m c),
    ((h.1 c).2.elim fun A hA => (hA.2 main_arg8 (mem_others main_arg8 (by decide) (by decide))).trans (left_arg8 m c A))⟩, h.2⟩) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => h.2) (run_kept m ρ)

end Kept

variable (m : (ℓ : Loc nD τ sig) → Buf (Elt Ideal) ℓ) (ρ : Dev nD → PrngReg)

/-- Of the arrays the call may leave, the projection's is the projection. -/
theorem ends_z (c : Dev nD) (A : Arrs (F := Ideal) c) (h : Ends m c A) : A 13 = zOut m c :=
  ((Dat.toRForget_arrAt_iff (dats m 0 c) (w := 13) rfl cfg0.N _).mp (h 13)).trans (final_z m c)

/-- The lines after the call find it in its buffer. -/
theorem found_z (c : Dev nD) (A : Arrs (F := Ideal) c) (h : Ends m c A) :
    Pipeline.withArrays spec0 c (V0 m c) A (Proc.devRef .tc main_v41_0) = zOut m c :=
  (Pipeline.withArrays_arr_shared spec0 c (V0 m c) A
    ((rd m c).ArrAt_sharedIn (launch₀0.toP (Val := Elt Ideal)).sharedIn (V0 m c) (A_eq m c) cfg0.N A h) 13).trans (ends_z m c A h)

set_option maxHeartbeats 2000000 in
/-- The array of the projection ends as the projection, the window rows are cut from it, and the arguments are as they began. -/
theorem run_z : θ_run defs (onTc (τ := τ) (main (F := Ideal))) ⟨m, fun _ => 0, ρ⟩
    fun r => ∀ c : Dev nD, r.2.mem ((c.tc : Thread nD τ).loc main_v41_0) = zOut m c ∧
      r.2.mem ((c.tc : Thread nD τ).loc main_v51) = last128 1 (zOut m c) ∧
      r.2.mem ((c.tc : Thread nD τ).loc main_v60) = last128 2 (zOut m c) ∧
      r.2.mem ((c.tc : Thread nD τ).loc main_v69) = last512 4 (zOut m c) ∧
      r.2.mem ((c.tc : Thread nD τ).loc main_v78) = last512 5 (zOut m c) ∧
      r.2.mem ((c.tc : Thread nD τ).loc main_v87) = last2048 7 (zOut m c) ∧
      r.2.mem ((c.tc : Thread nD τ).loc main_v96) = last2048 8 (zOut m c) ∧
      r.2.mem ((c.tc : Thread nD τ).loc main_v54) = sampleRows 1 (zOut m c) ∧
      r.2.mem ((c.tc : Thread nD τ).loc main_v63) = sampleRows 2 (zOut m c) ∧
      r.2.mem ((c.tc : Thread nD τ).loc main_v72) = sampleRows 4 (zOut m c) ∧
      r.2.mem ((c.tc : Thread nD τ).loc main_v81) = sampleRows 5 (zOut m c) ∧
      r.2.mem ((c.tc : Thread nD τ).loc main_v90) = sampleRows 7 (zOut m c) ∧
      r.2.mem ((c.tc : Thread nD τ).loc main_v99) = sampleRows 8 (zOut m c) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨ends_z m c _ (h.1 c).1,
    ((h.1 c).2.elim fun A hA => (hA.2 main_v51 (mem_others main_v51 (by decide) (by decide))).trans
      ((left_v51 _).trans (congrArg (last128 1) (found_z m c A hA.1)))),
    ((h.1 c).2.elim fun A hA => (hA.2 main_v60 (mem_others main_v60 (by decide) (by decide))).trans
      ((left_v60 _).trans (congrArg (last128 2) (found_z m c A hA.1)))),
    ((h.1 c).2.elim fun A hA => (hA.2 main_v69 (mem_others main_v69 (by decide) (by decide))).trans
      ((left_v69 _).trans (congrArg (last512 4) (found_z m c A hA.1)))),
    ((h.1 c).2.elim fun A hA => (hA.2 main_v78 (mem_others main_v78 (by decide) (by decide))).trans
      ((left_v78 _).trans (congrArg (last512 5) (found_z m c A hA.1)))),
    ((h.1 c).2.elim fun A hA => (hA.2 main_v87 (mem_others main_v87 (by decide) (by decide))).trans
      ((left_v87 _).trans (congrArg (last2048 7) (found_z m c A hA.1)))),
    ((h.1 c).2.elim fun A hA => (hA.2 main_v96 (mem_others main_v96 (by decide) (by decide))).trans
      ((left_v96 _).trans (congrArg (last2048 8) (found_z m c A hA.1)))),
    ((h.1 c).2.elim fun A hA => (hA.2 main_v54 (mem_others main_v54 (by decide) (by decide))).trans
      ((left_v54 _).trans (congrArg (sampleRows 1) (found_z m c A hA.1)))),
    ((h.1 c).2.elim fun A hA => (hA.2 main_v63 (mem_others main_v63 (by decide) (by decide))).trans
      ((left_v63 _).trans (congrArg (sampleRows 2) (found_z m c A hA.1)))),
    ((h.1 c).2.elim fun A hA => (hA.2 main_v72 (mem_others main_v72 (by decide) (by decide))).trans
      ((left_v72 _).trans (congrArg (sampleRows 4) (found_z m c A hA.1)))),
    ((h.1 c).2.elim fun A hA => (hA.2 main_v81 (mem_others main_v81 (by decide) (by decide))).trans
      ((left_v81 _).trans (congrArg (sampleRows 5) (found_z m c A hA.1)))),
    ((h.1 c).2.elim fun A hA => (hA.2 main_v90 (mem_others main_v90 (by decide) (by decide))).trans
      ((left_v90 _).trans (congrArg (sampleRows 7) (found_z m c A hA.1)))),
    ((h.1 c).2.elim fun A hA => (hA.2 main_v99 (mem_others main_v99 (by decide) (by decide))).trans
      ((left_v99 _).trans (congrArg (sampleRows 8) (found_z m c A hA.1)))), h.2.1 c⟩) (run_kept m ρ)

end Cert.Attn

end
-- ==== Proof.Attn.Frames.lean ====
/-
  The frames of the two printed programs of the attention projection.
-/
module

public import proofs.«01_k».proof.Defs
public import proofs.«01_k».proof.Proof.Attn.Run
public import proofs.«01_k».proof.Proof.Gen.Kernel.Launch
public import Idealize.ShloMosaic.Lib.Quiescent

@[expose] public section

set_option maxRecDepth 16384

noncomputable section

namespace Cert.Attn

open Idealize.ShloMosaic Idealize.ShloMosaic.TcCoe Idealize.SL.Sem

set_option maxHeartbeats 8000000 in
/-- The two printed programs have the same bodies at the machine's own floats. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

set_option maxHeartbeats 8000000 in
theorem defs_eq : @Cert.Kernel.defs Bits _ _ = @Cert.KernelIdeal.defs Bits _ _ :=
  congrArg (Pipeline.defs (Cert.KernelIdeal.pcfgs (F := Bits))) bodies_eq

set_option maxHeartbeats 8000000 in
theorem lines_before_eq : Cert.Kernel.Gen.hostOps0 (F := Bits) = Cert.KernelIdeal.Gen.hostOps0 (F := Bits) := rfl

set_option maxHeartbeats 8000000 in
theorem lines_mid_eq : Cert.Kernel.Gen.hostOps0_1 (F := Bits) = Cert.KernelIdeal.Gen.hostOps0_1 (F := Bits) := rfl

set_option maxHeartbeats 8000000 in
theorem lines_last_eq : Cert.Kernel.Gen.hostOps0_2 (F := Bits) = Cert.KernelIdeal.Gen.hostOps0_2 (F := Bits) := rfl

set_option maxHeartbeats 8000000 in
theorem lines_after_eq : Cert.Kernel.Gen.hostOps1 (F := Bits) = Cert.KernelIdeal.Gen.hostOps1 (F := Bits) := rfl

set_option maxHeartbeats 8000000 in
/-- The two @main are the same lines around the same call. -/
theorem main_eq : Cert.Kernel.main (F := Bits) = Cert.KernelIdeal.main (F := Bits) := by
  funext c
  refine (Cert.Kernel.Gen.main_chain (F := Bits) c).trans (Eq.trans ?_ (Cert.KernelIdeal.Gen.main_chain (F := Bits) c).symm)
  exact congrArg Pipeline.chain (congr (congrArg List.cons (congrArg StableHlo.seq lines_before_eq))
    (congr (congrArg List.cons (congrArg StableHlo.seq lines_mid_eq))
      (congr (congrArg List.cons (congrArg StableHlo.seq lines_last_eq))
        (congrArg (List.cons (Prog.lift (.customCall (Pipeline.entry 0) ())))
          (congrArg (fun l => [StableHlo.seq l]) lines_after_eq)))))

set_option maxHeartbeats 8000000 in
/-- One run serves both frames: here it is read at the machine's own floats. -/
theorem frame_kernel : Cert.quiescent_Kernel := by
  intro m ρ _
  rw [defs_eq, main_eq]
  exact frame (F := Bits) m ρ

theorem frame_kernel_ideal : Cert.quiescent_KernelIdeal := fun m ρ _ => frame (F := Ideal) m ρ

end Cert.Attn

end
-- ==== Proof.Attn.Ref.lean ====
/-
  The reference at the extended reals: the same entries of the same product, turned by the same angles.
-/
module

public import proofs.«01_k».proof.Proof.Attn.Value
public import proofs.«01_k».proof.Proof.Gen.ReferenceIdeal.Run
public import Idealize.ShloMosaic.Lib.Pointwise
public import Idealize.ShloMosaic.Lib.ValueIdx

@[expose] public section

set_option maxRecDepth 16384

noncomputable section

namespace Cert.Attn.Ref

open Cert.ReferenceIdeal Cert.ReferenceIdeal.Gen Idealize.ShloMosaic Idealize.ShloMosaic.TcCoe Idealize.SL.Sem

/-! ## The prompt rows -/

/-- The turn of the query and key heads, lane by lane. -/
def turnprompt (q : S2x4096x48x128.Idx → Ideal .f32) (C S : S4096x64.Idx → Ideal .f32) : S2x4096x48x128.Idx → Ideal .f32 :=
  concatenate S2x4096x48x128 3
    [⟨S2x4096x48x64, (subf (F := Ideal) (φ := .f32) (mulf (F := Ideal) (φ := .f32) (extractStridedSlice S2x4096x48x64 ![0, 0, 0, 0] q slices_S2x4096x48x128_S2x4096x48x64_0_0_0_0)
        (broadcastInDim S2x4096x48x64 ![0, 1, 2, 3] bcast_S1x4096x1x64_S2x4096x48x64_0_1_2_3
          (broadcastInDim S1x4096x1x64 ![1, 2, 3] bcast_S4096x1x64_S1x4096x1x64_1_2_3 (broadcastInDim S4096x1x64 ![0, 2] bcast_S4096x64_S4096x1x64_0_2 C))))
      (mulf (F := Ideal) (φ := .f32) (extractStridedSlice S2x4096x48x64 ![0, 0, 0, 64] q slices_S2x4096x48x128_S2x4096x48x64_0_0_0_64)
        (broadcastInDim S2x4096x48x64 ![0, 1, 2, 3] bcast_S1x4096x1x64_S2x4096x48x64_0_1_2_3
          (broadcastInDim S1x4096x1x64 ![1, 2, 3] bcast_S4096x1x64_S1x4096x1x64_1_2_3 (broadcastInDim S4096x1x64 ![0, 2] bcast_S4096x64_S4096x1x64_0_2 S)))))⟩,
     ⟨S2x4096x48x64, (addf (F := Ideal) (φ := .f32) (mulf (F := Ideal) (φ := .f32) (extractStridedSlice S2x4096x48x64 ![0, 0, 0, 0] q slices_S2x4096x48x128_S2x4096x48x64_0_0_0_0)
        (broadcastInDim S2x4096x48x64 ![0, 1, 2, 3] bcast_S1x4096x1x64_S2x4096x48x64_0_1_2_3
          (broadcastInDim S1x4096x1x64 ![1, 2, 3] bcast_S4096x1x64_S1x4096x1x64_1_2_3 (broadcastInDim S4096x1x64 ![0, 2] bcast_S4096x64_S4096x1x64_0_2 S))))
      (mulf (F := Ideal) (φ := .f32) (extractStridedSlice S2x4096x48x64 ![0, 0, 0, 64] q slices_S2x4096x48x128_S2x4096x48x64_0_0_0_64)
        (broadcastInDim S2x4096x48x64 ![0, 1, 2, 3] bcast_S1x4096x1x64_S2x4096x48x64_0_1_2_3
          (broadcastInDim S1x4096x1x64 ![1, 2, 3] bcast_S4096x1x64_S1x4096x1x64_1_2_3 (broadcastInDim S4096x1x64 ![0, 2] bcast_S4096x64_S4096x1x64_0_2 C)))))⟩]
    concatenates_S2x4096x48x64_S2x4096x48x64_S2x4096x48x128_d3

theorem turnprompt_low (q : S2x4096x48x128.Idx → Ideal .f32) (C S : S4096x64.Idx → Ideal .f32) (b : Fin 2) (t : Fin 4096) (h : Fin 48)
    (d : Fin 128) (hd : d.val < 64) :
    turnprompt q C S (ix4 b t h d) = q (ix4 b t h d) * C (ix2 t ⟨d.val, hd⟩) - q (ix4 b t h ⟨d.val + 64, by omega⟩) * S (ix2 t ⟨d.val, hd⟩) := by
  pointwise [turnprompt]
  rw [dif_pos hd]
  refine congrArg₂ (· - ·) rfl (congrArg (· * _) (congrArg q ?_))
  rw [show (⟨64 + d.val, by omega⟩ : Fin 128) = ⟨d.val + 64, by omega⟩ from Fin.ext (Nat.add_comm _ _)]

theorem turnprompt_high (q : S2x4096x48x128.Idx → Ideal .f32) (C S : S4096x64.Idx → Ideal .f32) (b : Fin 2) (t : Fin 4096) (h : Fin 48)
    (d : Fin 128) (hd : ¬ d.val < 64) :
    turnprompt q C S (ix4 b t h d) = q (ix4 b t h ⟨d.val - 64, by omega⟩) * S (ix2 t ⟨d.val - 64, by omega⟩)
      + q (ix4 b t h d) * C (ix2 t ⟨d.val - 64, by omega⟩) := by
  pointwise [turnprompt]
  rw [dif_neg hd]
  refine congrArg₂ (· + ·) rfl (congrArg (· * _) (congrArg q ?_))
  rw [show (⟨64 + (d.val - 64), by omega⟩ : Fin 128) = d from Fin.ext (by show 64 + (d.val - 64) = d.val; omega)]

/-- The heads of these rows, turned where they are queries or keys. -/
def headsprompt (x : S8192x9216.Idx → Ideal .f32) (C S : S4096x64.Idx → Ideal .f32) : S8192x9216.Idx → Ideal .f32 :=
  shapeCast S8192x9216 (concatenate S2x4096x3x3x8x128 3
    [⟨S2x4096x3x2x8x128, (shapeCast S2x4096x3x2x8x128
        (turnprompt (shapeCast S2x4096x48x128 (extractStridedSlice S2x4096x3x2x8x128 ![0, 0, 0, 0, 0, 0]
          (shapeCast S2x4096x3x3x8x128 x shapeCasts_S8192x9216_S2x4096x3x3x8x128)
          slices_S2x4096x3x3x8x128_S2x4096x3x2x8x128_0_0_0_0_0_0) shapeCasts_S2x4096x3x2x8x128_S2x4096x48x128) C S)
        shapeCasts_S2x4096x48x128_S2x4096x3x2x8x128)⟩,
     ⟨S2x4096x3x1x8x128, (extractStridedSlice S2x4096x3x1x8x128 ![0, 0, 0, 2, 0, 0]
          (shapeCast S2x4096x3x3x8x128 x shapeCasts_S8192x9216_S2x4096x3x3x8x128)
          slices_S2x4096x3x3x8x128_S2x4096x3x1x8x128_0_0_0_2_0_0)⟩]
    concatenates_S2x4096x3x2x8x128_S2x4096x3x1x8x128_S2x4096x3x3x8x128_d3) shapeCasts_S2x4096x3x3x8x128_S8192x9216

/-- A query or key head before the turn. -/
theorem beforeprompt_apply (x : S8192x9216.Idx → Ideal .f32) (b : Fin 2) (t : Fin 4096) (h : Fin 48) (d : Fin 128) :
    shapeCast S2x4096x48x128 (extractStridedSlice S2x4096x3x2x8x128 ![0, 0, 0, 0, 0, 0]
          (shapeCast S2x4096x3x3x8x128 x shapeCasts_S8192x9216_S2x4096x3x3x8x128)
          slices_S2x4096x3x3x8x128_S2x4096x3x2x8x128_0_0_0_0_0_0) shapeCasts_S2x4096x3x2x8x128_S2x4096x48x128 (ix4 b t h d)
      = x (ix2 ⟨b.val * 4096 + t.val, by omega⟩ ⟨h.val / 16 * 3072 + h.val % 16 * 128 + d.val, by omega⟩) := by
  pointwise
  have := b.isLt
  have := t.isLt
  have := h.isLt
  have := d.isLt
  refine congrArg x (funext fun a => Fin.ext ?_)
  match a with
  | ⟨0, _⟩ => dsimp; try omega
  | ⟨1, _⟩ => dsimp; try omega

set_option maxHeartbeats 4000000 in
theorem headsprompt_apply (x : S8192x9216.Idx → Ideal .f32) (C S : S4096x64.Idx → Ideal .f32) (r : Fin 8192) (j : Fin 9216)
    (A cosE sinE : ℕ → EReal) (hA : ∀ j : Fin 9216, x (ix2 r j) = A j.val)
    (hC : ∀ e : Fin 64, C (ix2 (⟨r.val % 4096, Nat.mod_lt _ (by omega)⟩ : Fin 4096) e) = cosE e.val)
    (hS : ∀ e : Fin 64, S (ix2 (⟨r.val % 4096, Nat.mod_lt _ (by omega)⟩ : Fin 4096) e) = sinE e.val) :
    headsprompt x C S (ix2 r j) = turned A (word j.val) (fun e => cosE (e.val % 64))
      (fun e => if e.val < 64 then -sinE e.val else sinE (e.val - 64)) j.val := by
  have hr := r.isLt
  have hj := j.isLt
  pointwise [headsprompt]
  unfold turned word
  by_cases h : j.val / 1024 % 3 < 2
  · rw [dif_pos h, if_neg (show ¬ j.val / 1024 % 3 = 2 by omega), if_pos rfl]
    by_cases hd : j.val % 128 < 64
    · rw [turnprompt_low _ _ _ _ _ _ _ hd, beforeprompt_apply, beforeprompt_apply, hC, hS]
      dsimp only
      rw [if_pos hd, if_pos hd, Nat.mod_eq_of_lt hd, mul_neg, ← sub_eq_add_neg]
      refine Eq.trans ?_ (congrArg₂ (· - ·) (congrArg (· * _) (hA j)) (congrArg (· * _) (hA ⟨j.val + 64, by omega⟩)))
      refine congrArg₂ (· - ·) (congrArg (· * _) (congrArg x (funext fun a => Fin.ext ?_)))
        (congrArg (· * _) (congrArg x (funext fun a => Fin.ext ?_)))
      · match a with
        | ⟨0, _⟩ => show r.val / 4096 * 4096 + r.val % 4096 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + j.val % 128 = j.val; omega
      · match a with
        | ⟨0, _⟩ => show r.val / 4096 * 4096 + r.val % 4096 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + (j.val % 128 + 64) = j.val + 64
                    omega
    · rw [turnprompt_high _ _ _ _ _ _ _ hd, beforeprompt_apply, beforeprompt_apply, hC, hS]
      dsimp only
      rw [if_neg hd, if_neg hd, show j.val % 128 % 64 = j.val % 128 - 64 by omega, add_comm]
      refine Eq.trans ?_ (congrArg₂ (· + ·) (congrArg (· * _) (hA j)) (congrArg (· * _) (hA ⟨j.val - 64, by omega⟩)))
      refine congrArg₂ (· + ·) (congrArg (· * _) (congrArg x (funext fun a => Fin.ext ?_)))
        (congrArg (· * _) (congrArg x (funext fun a => Fin.ext ?_)))
      · match a with
        | ⟨0, _⟩ => show r.val / 4096 * 4096 + r.val % 4096 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + j.val % 128 = j.val; omega
      · match a with
        | ⟨0, _⟩ => show r.val / 4096 * 4096 + r.val % 4096 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + (j.val % 128 - 64) = j.val - 64
                    omega
  · rw [dif_neg h, if_pos (show j.val / 1024 % 3 = 2 by omega)]
    refine Eq.trans (congrArg x (funext fun a => Fin.ext ?_)) ((hA j).trans (if_neg (show ¬ (0#1 : BitVec 1) = 1#1 by decide)).symm)
    match a with
    | ⟨0, _⟩ => rfl
    | ⟨1, _⟩ => show j.val / 3072 * 3072 + (2 + (j.val / 1024 % 3 - 2)) * 1024 + j.val / 128 % 8 * 128 + j.val % 128 = j.val; omega

/-! ## The sample rows -/

/-- The turn of the query and key heads, lane by lane. -/
def turnsample (q : S128x4x48x128.Idx → Ideal .f32) (C S : S4x64.Idx → Ideal .f32) : S128x4x48x128.Idx → Ideal .f32 :=
  concatenate S128x4x48x128 3
    [⟨S128x4x48x64, (subf (F := Ideal) (φ := .f32) (mulf (F := Ideal) (φ := .f32) (extractStridedSlice S128x4x48x64 ![0, 0, 0, 0] q slices_S128x4x48x128_S128x4x48x64_0_0_0_0)
        (broadcastInDim S128x4x48x64 ![0, 1, 2, 3] bcast_S1x4x1x64_S128x4x48x64_0_1_2_3
          (broadcastInDim S1x4x1x64 ![1, 2, 3] bcast_S4x1x64_S1x4x1x64_1_2_3 (broadcastInDim S4x1x64 ![0, 2] bcast_S4x64_S4x1x64_0_2 C))))
      (mulf (F := Ideal) (φ := .f32) (extractStridedSlice S128x4x48x64 ![0, 0, 0, 64] q slices_S128x4x48x128_S128x4x48x64_0_0_0_64)
        (broadcastInDim S128x4x48x64 ![0, 1, 2, 3] bcast_S1x4x1x64_S128x4x48x64_0_1_2_3
          (broadcastInDim S1x4x1x64 ![1, 2, 3] bcast_S4x1x64_S1x4x1x64_1_2_3 (broadcastInDim S4x1x64 ![0, 2] bcast_S4x64_S4x1x64_0_2 S)))))⟩,
     ⟨S128x4x48x64, (addf (F := Ideal) (φ := .f32) (mulf (F := Ideal) (φ := .f32) (extractStridedSlice S128x4x48x64 ![0, 0, 0, 0] q slices_S128x4x48x128_S128x4x48x64_0_0_0_0)
        (broadcastInDim S128x4x48x64 ![0, 1, 2, 3] bcast_S1x4x1x64_S128x4x48x64_0_1_2_3
          (broadcastInDim S1x4x1x64 ![1, 2, 3] bcast_S4x1x64_S1x4x1x64_1_2_3 (broadcastInDim S4x1x64 ![0, 2] bcast_S4x64_S4x1x64_0_2 S))))
      (mulf (F := Ideal) (φ := .f32) (extractStridedSlice S128x4x48x64 ![0, 0, 0, 64] q slices_S128x4x48x128_S128x4x48x64_0_0_0_64)
        (broadcastInDim S128x4x48x64 ![0, 1, 2, 3] bcast_S1x4x1x64_S128x4x48x64_0_1_2_3
          (broadcastInDim S1x4x1x64 ![1, 2, 3] bcast_S4x1x64_S1x4x1x64_1_2_3 (broadcastInDim S4x1x64 ![0, 2] bcast_S4x64_S4x1x64_0_2 C)))))⟩]
    concatenates_S128x4x48x64_S128x4x48x64_S128x4x48x128_d3

theorem turnsample_low (q : S128x4x48x128.Idx → Ideal .f32) (C S : S4x64.Idx → Ideal .f32) (b : Fin 128) (t : Fin 4) (h : Fin 48)
    (d : Fin 128) (hd : d.val < 64) :
    turnsample q C S (ix4 b t h d) = q (ix4 b t h d) * C (ix2 t ⟨d.val, hd⟩) - q (ix4 b t h ⟨d.val + 64, by omega⟩) * S (ix2 t ⟨d.val, hd⟩) := by
  pointwise [turnsample]
  rw [dif_pos hd]
  refine congrArg₂ (· - ·) rfl (congrArg (· * _) (congrArg q ?_))
  rw [show (⟨64 + d.val, by omega⟩ : Fin 128) = ⟨d.val + 64, by omega⟩ from Fin.ext (Nat.add_comm _ _)]

theorem turnsample_high (q : S128x4x48x128.Idx → Ideal .f32) (C S : S4x64.Idx → Ideal .f32) (b : Fin 128) (t : Fin 4) (h : Fin 48)
    (d : Fin 128) (hd : ¬ d.val < 64) :
    turnsample q C S (ix4 b t h d) = q (ix4 b t h ⟨d.val - 64, by omega⟩) * S (ix2 t ⟨d.val - 64, by omega⟩)
      + q (ix4 b t h d) * C (ix2 t ⟨d.val - 64, by omega⟩) := by
  pointwise [turnsample]
  rw [dif_neg hd]
  refine congrArg₂ (· + ·) rfl (congrArg (· * _) (congrArg q ?_))
  rw [show (⟨64 + (d.val - 64), by omega⟩ : Fin 128) = d from Fin.ext (by show 64 + (d.val - 64) = d.val; omega)]

/-- The heads of these rows, turned where they are queries or keys. -/
def headssample (x : S512x9216.Idx → Ideal .f32) (C S : S4x64.Idx → Ideal .f32) : S512x9216.Idx → Ideal .f32 :=
  shapeCast S512x9216 (concatenate S128x4x3x3x8x128 3
    [⟨S128x4x3x2x8x128, (shapeCast S128x4x3x2x8x128
        (turnsample (shapeCast S128x4x48x128 (extractStridedSlice S128x4x3x2x8x128 ![0, 0, 0, 0, 0, 0]
          (shapeCast S128x4x3x3x8x128 x shapeCasts_S512x9216_S128x4x3x3x8x128)
          slices_S128x4x3x3x8x128_S128x4x3x2x8x128_0_0_0_0_0_0) shapeCasts_S128x4x3x2x8x128_S128x4x48x128) C S)
        shapeCasts_S128x4x48x128_S128x4x3x2x8x128)⟩,
     ⟨S128x4x3x1x8x128, (extractStridedSlice S128x4x3x1x8x128 ![0, 0, 0, 2, 0, 0]
          (shapeCast S128x4x3x3x8x128 x shapeCasts_S512x9216_S128x4x3x3x8x128)
          slices_S128x4x3x3x8x128_S128x4x3x1x8x128_0_0_0_2_0_0)⟩]
    concatenates_S128x4x3x2x8x128_S128x4x3x1x8x128_S128x4x3x3x8x128_d3) shapeCasts_S128x4x3x3x8x128_S512x9216

/-- A query or key head before the turn. -/
theorem beforesample_apply (x : S512x9216.Idx → Ideal .f32) (b : Fin 128) (t : Fin 4) (h : Fin 48) (d : Fin 128) :
    shapeCast S128x4x48x128 (extractStridedSlice S128x4x3x2x8x128 ![0, 0, 0, 0, 0, 0]
          (shapeCast S128x4x3x3x8x128 x shapeCasts_S512x9216_S128x4x3x3x8x128)
          slices_S128x4x3x3x8x128_S128x4x3x2x8x128_0_0_0_0_0_0) shapeCasts_S128x4x3x2x8x128_S128x4x48x128 (ix4 b t h d)
      = x (ix2 ⟨b.val * 4 + t.val, by omega⟩ ⟨h.val / 16 * 3072 + h.val % 16 * 128 + d.val, by omega⟩) := by
  pointwise
  have := b.isLt
  have := t.isLt
  have := h.isLt
  have := d.isLt
  refine congrArg x (funext fun a => Fin.ext ?_)
  match a with
  | ⟨0, _⟩ => dsimp; try omega
  | ⟨1, _⟩ => dsimp; try omega

set_option maxHeartbeats 4000000 in
theorem headssample_apply (x : S512x9216.Idx → Ideal .f32) (C S : S4x64.Idx → Ideal .f32) (r : Fin 512) (j : Fin 9216)
    (A cosE sinE : ℕ → EReal) (hA : ∀ j : Fin 9216, x (ix2 r j) = A j.val)
    (hC : ∀ e : Fin 64, C (ix2 (⟨r.val % 4, Nat.mod_lt _ (by omega)⟩ : Fin 4) e) = cosE e.val)
    (hS : ∀ e : Fin 64, S (ix2 (⟨r.val % 4, Nat.mod_lt _ (by omega)⟩ : Fin 4) e) = sinE e.val) :
    headssample x C S (ix2 r j) = turned A (word j.val) (fun e => cosE (e.val % 64))
      (fun e => if e.val < 64 then -sinE e.val else sinE (e.val - 64)) j.val := by
  have hr := r.isLt
  have hj := j.isLt
  pointwise [headssample]
  unfold turned word
  by_cases h : j.val / 1024 % 3 < 2
  · rw [dif_pos h, if_neg (show ¬ j.val / 1024 % 3 = 2 by omega), if_pos rfl]
    by_cases hd : j.val % 128 < 64
    · rw [turnsample_low _ _ _ _ _ _ _ hd, beforesample_apply, beforesample_apply, hC, hS]
      dsimp only
      rw [if_pos hd, if_pos hd, Nat.mod_eq_of_lt hd, mul_neg, ← sub_eq_add_neg]
      refine Eq.trans ?_ (congrArg₂ (· - ·) (congrArg (· * _) (hA j)) (congrArg (· * _) (hA ⟨j.val + 64, by omega⟩)))
      refine congrArg₂ (· - ·) (congrArg (· * _) (congrArg x (funext fun a => Fin.ext ?_)))
        (congrArg (· * _) (congrArg x (funext fun a => Fin.ext ?_)))
      · match a with
        | ⟨0, _⟩ => show r.val / 4 * 4 + r.val % 4 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + j.val % 128 = j.val; omega
      · match a with
        | ⟨0, _⟩ => show r.val / 4 * 4 + r.val % 4 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + (j.val % 128 + 64) = j.val + 64
                    omega
    · rw [turnsample_high _ _ _ _ _ _ _ hd, beforesample_apply, beforesample_apply, hC, hS]
      dsimp only
      rw [if_neg hd, if_neg hd, show j.val % 128 % 64 = j.val % 128 - 64 by omega, add_comm]
      refine Eq.trans ?_ (congrArg₂ (· + ·) (congrArg (· * _) (hA j)) (congrArg (· * _) (hA ⟨j.val - 64, by omega⟩)))
      refine congrArg₂ (· + ·) (congrArg (· * _) (congrArg x (funext fun a => Fin.ext ?_)))
        (congrArg (· * _) (congrArg x (funext fun a => Fin.ext ?_)))
      · match a with
        | ⟨0, _⟩ => show r.val / 4 * 4 + r.val % 4 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + j.val % 128 = j.val; omega
      · match a with
        | ⟨0, _⟩ => show r.val / 4 * 4 + r.val % 4 = r.val; omega
        | ⟨1, _⟩ => show (j.val / 3072 * 16 + j.val / 1024 % 3 * 8 + j.val / 128 % 8) / 16 * 3072
                      + (j.val / 3072 * 16 + j.val / 1024 % 3 * 8 + j.val / 128 % 8) % 16 * 128 + (j.val % 128 - 64) = j.val - 64
                    omega
  · rw [dif_neg h, if_pos (show j.val / 1024 % 3 = 2 by omega)]
    refine Eq.trans (congrArg x (funext fun a => Fin.ext ?_)) ((hA j).trans (if_neg (show ¬ (0#1 : BitVec 1) = 1#1 by decide)).symm)
    match a with
    | ⟨0, _⟩ => rfl
    | ⟨1, _⟩ => show j.val / 3072 * 3072 + (2 + (j.val / 1024 % 3 - 2)) * 1024 + j.val / 128 % 8 * 128 + j.val % 128 = j.val; omega

/-! ## The two groups of rows together -/

/-- The angles of the prompt's and of the sample's positions. -/
def anglesPrompt : S4096x64.Idx → Ideal .f32 :=
  (mulf (F := Ideal) (φ := .f32) (broadcastInDim S4096x64 ![0, 1] bcast_S4096x1_S4096x64_0_1 (broadcastInDim S4096x1 ![0] bcast_S4096_S4096x1_0 (sitofp (F := Ideal) .f32 (iotaInDim S4096 32 0))))
    (broadcastInDim S4096x64 ![0, 1] bcast_S1x64_S4096x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
          (mulf (broadcastInDim S64 ![] bcast_S_S64 (constant S_ .f32 0x40000000#32)) (sitofp .f32 (iotaInDim S64 32 0)))))
          (broadcastInDim S64 ![] bcast_S_S64 (constant S_ .f32 0x43000000#32)))))))

def anglesSample : S4x64.Idx → Ideal .f32 :=
  (mulf (F := Ideal) (φ := .f32) (broadcastInDim S4x64 ![0, 1] bcast_S4x1_S4x64_0_1 (broadcastInDim S4x1 ![0] bcast_S4_S4x1_0 (sitofp (F := Ideal) .f32 (addi (broadcastInDim S4 ![] bcast_S_S4 (constantI S_ 32 2048#32)) (iotaInDim S4 32 0)))))
    (broadcastInDim S4x64 ![0, 1] bcast_S1x64_S4x64_0_1 (broadcastInDim S1x64 ![1] bcast_S64_S1x64_1
      (Host.powf (broadcastInDim S64 ![] bcast_S_S64 (constant S_ .f32 0x461C4000#32))
        (Host.divf (Host.negf (addf (broadcastInDim S64 ![] bcast_S_S64 (constant S_ .f32 0x00000000#32))
          (mulf (broadcastInDim S64 ![] bcast_S_S64 (constant S_ .f32 0x40000000#32)) (sitofp .f32 (iotaInDim S64 32 0)))))
          (broadcastInDim S64 ![] bcast_S_S64 (constant S_ .f32 0x43000000#32)))))))

theorem anglesPrompt_apply (t : Fin 4096) (e : Fin 64) : anglesPrompt (ix2 t e) = angle (BitVec.ofNat 32 t.val) e.val := by
  unfold angle
  pointwise [anglesPrompt]

theorem anglesSample_apply (t : Fin 4) (e : Fin 64) : anglesSample (ix2 t e) = angle (2048#32 + BitVec.ofNat 32 t.val) e.val := by
  unfold angle
  pointwise [anglesSample]
  rfl

/-- The columns of the product the projection takes. -/
def cols (x : S8704x4096.Idx → Ideal .bf16) (w : S4096x34320.Idx → Ideal .f32) : S8704x9216.Idx → Ideal .f32 :=
  extractStridedSlice S8704x9216 ![0, 12304] (Host.dotGeneral (F := Ideal) (φ₁ := .f32) (φ₂ := .f32)
    dot_S8704x4096_S4096x34320_S8704x34320_1_0_0_1_n_n none (extf .f32 x bitsLt_bf16_f32) w) slices_S8704x34320_S8704x9216_0_12304

theorem cols_apply (x : S8704x4096.Idx → Ideal .bf16) (w : S4096x34320.Idx → Ideal .f32) (r : Fin 8704) (j : Fin 9216) :
    cols x w (ix2 r j) = ∑ k : Fin 4096, x (ix2 r k) * w (ix2 k ⟨12304 + j.val, by omega⟩) := by
  pointwise [cols]

/-- The reference's result in those terms. -/
def whole (x : S8704x4096.Idx → Ideal .bf16) (w : S4096x34320.Idx → Ideal .f32) : S8704x9216.Idx → Ideal .f32 :=
  concatenate S8704x9216 0
    [⟨S8192x9216, headsprompt (extractStridedSlice S8192x9216 ![0, 0] (cols x w) slices_S8704x9216_S8192x9216_0_0)
        (Host.cos (F := Ideal) (φ := .f32) anglesPrompt) (Host.sin (F := Ideal) (φ := .f32) anglesPrompt)⟩,
     ⟨S512x9216, headssample (extractStridedSlice S512x9216 ![8192, 0] (cols x w) slices_S8704x9216_S512x9216_8192_0)
        (Host.cos (F := Ideal) (φ := .f32) anglesSample) (Host.sin (F := Ideal) (φ := .f32) anglesSample)⟩]
    concatenates_S8192x9216_S512x9216_S8704x9216_d0

set_option maxHeartbeats 4000000 in
theorem result_eq (m' : (ℓ : Loc nD τ sig) → Buf (Elt Ideal) ℓ) (c : Dev nD) :
    Value.res_out0 m' c = whole (m' ((c.tc : Thread nD τ).loc main_arg0)) (m' ((c.tc : Thread nD τ).loc main_arg1)) := rfl

set_option maxRecDepth 20000 in
set_option maxHeartbeats 4000000 in
theorem whole_apply (x : S8704x4096.Idx → Ideal .bf16) (w : S4096x34320.Idx → Ideal .f32) (r : Fin 8704) (j : Fin 9216) :
    whole x w (ix2 r j) = turned
      (fun j => if h : j < 9216 then ∑ k : Fin 4096, x (ix2 r k) * w (ix2 k ⟨12304 + j, by omega⟩) else 0)
      (word j.val) (cosRow r) (sinRow r) j.val := by
  pointwise [whole]
  unfold cosRow sinRow place
  by_cases h : r.val < 8192
  · rw [dif_pos h, if_pos h]
    refine headsprompt_apply _ _ _ _ _ _ (fun e => Ideal.cos (angle (BitVec.ofNat 32 (r.val % 4096)) e))
      (fun e => Ideal.sin (angle (BitVec.ofNat 32 (r.val % 4096)) e)) (fun j => ?_) (fun e => ?_) (fun e => ?_)
    · rw [dif_pos j.isLt, ← cols_apply]
      pointwise
    · pointwise
      rw [anglesPrompt_apply]
    · pointwise
      rw [anglesPrompt_apply]
  · rw [dif_neg h, if_neg h]
    refine headssample_apply _ _ _ _ _ _ (fun e => Ideal.cos (angle (2048#32 + BitVec.ofNat 32 ((r.val - 8192) % 4)) e))
      (fun e => Ideal.sin (angle (2048#32 + BitVec.ofNat 32 ((r.val - 8192) % 4)) e)) (fun j => ?_) (fun e => ?_) (fun e => ?_)
    · rw [dif_pos j.isLt, ← cols_apply]
      pointwise
      have hr : ∀ p : 8192 + (r.val - 8192) < 8704, (⟨8192 + (r.val - 8192), p⟩ : Fin 8704) = r :=
        fun p => Fin.ext (Nat.add_sub_of_le (Nat.not_lt.mp h))
      exact congrArg (fun p => cols x w (ix2 p j)) (hr _)
    · pointwise
      rw [anglesSample_apply]
    · pointwise
      rw [anglesSample_apply]

end Cert.Attn.Ref

end
-- ==== Proof.Attn.RowsRef.lean ====
/-
  The reference's window rows, in terms of its projection.
-/
module

public import proofs.«01_k».proof.Proof.Attn.Rows
public import proofs.«01_k».proof.Proof.Attn.Ref

@[expose] public section

set_option maxRecDepth 20000

noncomputable section

namespace Cert.Attn.Ref

open Cert.ReferenceIdeal Cert.ReferenceIdeal.Gen
open Idealize.ShloMosaic Idealize.ShloMosaic.TcCoe Idealize.ShloMosaic.Tactic

variable (z : S8704x9216.Idx → Ideal .f32)

/-- The prompt rows, and the sample rows, split into groups, parts and heads. -/
def splitPrompt : S2x4096x3x3x8x128.Idx → Ideal .f32 :=
  shapeCast S2x4096x3x3x8x128 (extractStridedSlice S8192x9216 ![0, 0] z slices_S8704x9216_S8192x9216_0_0) shapeCasts_S8192x9216_S2x4096x3x3x8x128

def splitSample : S128x4x3x3x8x128.Idx → Ideal .f32 :=
  shapeCast S128x4x3x3x8x128 (extractStridedSlice S512x9216 ![8192, 0] z slices_S8704x9216_S512x9216_8192_0) shapeCasts_S512x9216_S128x4x3x3x8x128

variable (m' : (ℓ : Loc nD τ sig) → Buf (Elt Ideal) ℓ) (c : Dev nD)

/-- The reference's projection of its own arguments. -/
abbrev proj : S8704x9216.Idx → Ideal .f32 :=
  whole (m' ((c.tc : Thread nD τ).loc main_arg0)) (m' ((c.tc : Thread nD τ).loc main_arg1))

theorem choice1 : shapeCast S2x128x8x128 (extractStridedSlice S2x128x1x1x8x128 ![0, 3968, 0, 1, 0, 0]
      (splitPrompt z) slices_S2x4096x3x3x8x128_S2x128x1x1x8x128_0_3968_0_1_0_0)
      shapeCasts_S2x128x1x1x8x128_S2x128x8x128 = last128 1 z := by
  funext i
  obtain ⟨b, t, h, d, rfl⟩ : ∃ (b : Fin 2) (t : Fin 128) (h : Fin 8) (d : Fin 128), i = ix4 b t h d :=
    ⟨i 0, i 1, i 2, i 3, ValueIdx.eq_ix4 i⟩
  pointwise [splitPrompt]
  refine congrArg z (index_eq _ _ ?_ ?_)
  · rfl
  · show 1024 + h.val * 128 + d.val = 1024 + (h.val * 128 + d.val); omega

theorem choice7 : shapeCast S128x4x8x128 (extractStridedSlice S128x4x1x1x8x128 ![0, 0, 0, 1, 0, 0]
      (splitSample z) slices_S128x4x3x3x8x128_S128x4x1x1x8x128_0_0_0_1_0_0)
      shapeCasts_S128x4x1x1x8x128_S128x4x8x128 = sampleRows 1 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 1024 + h.val * 128 + d.val = 1024 + (h.val * 128 + d.val); omega

set_option maxHeartbeats 4000000 in
theorem out1_eq : Value.res_out1 m' c = shapeCast S2x128x8x128 (extractStridedSlice S2x128x1x1x8x128 ![0, 3968, 0, 1, 0, 0]
      (splitPrompt (proj m' c)) slices_S2x4096x3x3x8x128_S2x128x1x1x8x128_0_3968_0_1_0_0)
      shapeCasts_S2x128x1x1x8x128_S2x128x8x128 := rfl

theorem rows1_eq : Value.res_out1 m' c = last128 1 (proj m' c) :=
  Eq.trans (out1_eq m' c) (choice1 (proj m' c))

set_option maxHeartbeats 4000000 in
theorem out7_eq : Value.res_out7 m' c = shapeCast S128x4x8x128 (extractStridedSlice S128x4x1x1x8x128 ![0, 0, 0, 1, 0, 0]
      (splitSample (proj m' c)) slices_S128x4x3x3x8x128_S128x4x1x1x8x128_0_0_0_1_0_0)
      shapeCasts_S128x4x1x1x8x128_S128x4x8x128 := rfl

theorem rows7_eq : Value.res_out7 m' c = sampleRows 1 (proj m' c) :=
  Eq.trans (out7_eq m' c) (choice7 (proj m' c))

theorem choice2 : shapeCast S2x128x8x128 (extractStridedSlice S2x128x1x1x8x128 ![0, 3968, 0, 2, 0, 0]
      (splitPrompt z) slices_S2x4096x3x3x8x128_S2x128x1x1x8x128_0_3968_0_2_0_0)
      shapeCasts_S2x128x1x1x8x128_S2x128x8x128 = last128 2 z := by
  funext i
  obtain ⟨b, t, h, d, rfl⟩ : ∃ (b : Fin 2) (t : Fin 128) (h : Fin 8) (d : Fin 128), i = ix4 b t h d :=
    ⟨i 0, i 1, i 2, i 3, ValueIdx.eq_ix4 i⟩
  pointwise [splitPrompt]
  refine congrArg z (index_eq _ _ ?_ ?_)
  · rfl
  · show 2048 + h.val * 128 + d.val = 2048 + (h.val * 128 + d.val); omega

theorem choice8 : shapeCast S128x4x8x128 (extractStridedSlice S128x4x1x1x8x128 ![0, 0, 0, 2, 0, 0]
      (splitSample z) slices_S128x4x3x3x8x128_S128x4x1x1x8x128_0_0_0_2_0_0)
      shapeCasts_S128x4x1x1x8x128_S128x4x8x128 = sampleRows 2 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 2048 + h.val * 128 + d.val = 2048 + (h.val * 128 + d.val); omega

set_option maxHeartbeats 4000000 in
theorem out2_eq : Value.res_out2 m' c = shapeCast S2x128x8x128 (extractStridedSlice S2x128x1x1x8x128 ![0, 3968, 0, 2, 0, 0]
      (splitPrompt (proj m' c)) slices_S2x4096x3x3x8x128_S2x128x1x1x8x128_0_3968_0_2_0_0)
      shapeCasts_S2x128x1x1x8x128_S2x128x8x128 := rfl

theorem rows2_eq : Value.res_out2 m' c = last128 2 (proj m' c) :=
  Eq.trans (out2_eq m' c) (choice2 (proj m' c))

set_option maxHeartbeats 4000000 in
theorem out8_eq : Value.res_out8 m' c = shapeCast S128x4x8x128 (extractStridedSlice S128x4x1x1x8x128 ![0, 0, 0, 2, 0, 0]
      (splitSample (proj m' c)) slices_S128x4x3x3x8x128_S128x4x1x1x8x128_0_0_0_2_0_0)
      shapeCasts_S128x4x1x1x8x128_S128x4x8x128 := rfl

theorem rows8_eq : Value.res_out8 m' c = sampleRows 2 (proj m' c) :=
  Eq.trans (out8_eq m' c) (choice8 (proj m' c))

theorem choice3 : shapeCast S2x512x8x128 (extractStridedSlice S2x512x1x1x8x128 ![0, 3584, 1, 1, 0, 0]
      (splitPrompt z) slices_S2x4096x3x3x8x128_S2x512x1x1x8x128_0_3584_1_1_0_0)
      shapeCasts_S2x512x1x1x8x128_S2x512x8x128 = last512 4 z := by
  funext i
  obtain ⟨b, t, h, d, rfl⟩ : ∃ (b : Fin 2) (t : Fin 512) (h : Fin 8) (d : Fin 128), i = ix4 b t h d :=
    ⟨i 0, i 1, i 2, i 3, ValueIdx.eq_ix4 i⟩
  pointwise [splitPrompt]
  refine congrArg z (index_eq _ _ ?_ ?_)
  · rfl
  · show 4096 + h.val * 128 + d.val = 4096 + (h.val * 128 + d.val); omega

theorem choice9 : shapeCast S128x4x8x128 (extractStridedSlice S128x4x1x1x8x128 ![0, 0, 1, 1, 0, 0]
      (splitSample z) slices_S128x4x3x3x8x128_S128x4x1x1x8x128_0_0_1_1_0_0)
      shapeCasts_S128x4x1x1x8x128_S128x4x8x128 = sampleRows 4 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 4096 + h.val * 128 + d.val = 4096 + (h.val * 128 + d.val); omega

set_option maxHeartbeats 4000000 in
theorem out3_eq : Value.res_out3 m' c = shapeCast S2x512x8x128 (extractStridedSlice S2x512x1x1x8x128 ![0, 3584, 1, 1, 0, 0]
      (splitPrompt (proj m' c)) slices_S2x4096x3x3x8x128_S2x512x1x1x8x128_0_3584_1_1_0_0)
      shapeCasts_S2x512x1x1x8x128_S2x512x8x128 := rfl

theorem rows3_eq : Value.res_out3 m' c = last512 4 (proj m' c) :=
  Eq.trans (out3_eq m' c) (choice3 (proj m' c))

set_option maxHeartbeats 4000000 in
theorem out9_eq : Value.res_out9 m' c = shapeCast S128x4x8x128 (extractStridedSlice S128x4x1x1x8x128 ![0, 0, 1, 1, 0, 0]
      (splitSample (proj m' c)) slices_S128x4x3x3x8x128_S128x4x1x1x8x128_0_0_1_1_0_0)
      shapeCasts_S128x4x1x1x8x128_S128x4x8x128 := rfl

theorem rows9_eq : Value.res_out9 m' c = sampleRows 4 (proj m' c) :=
  Eq.trans (out9_eq m' c) (choice9 (proj m' c))

theorem choice4 : shapeCast S2x512x8x128 (extractStridedSlice S2x512x1x1x8x128 ![0, 3584, 1, 2, 0, 0]
      (splitPrompt z) slices_S2x4096x3x3x8x128_S2x512x1x1x8x128_0_3584_1_2_0_0)
      shapeCasts_S2x512x1x1x8x128_S2x512x8x128 = last512 5 z := by
  funext i
  obtain ⟨b, t, h, d, rfl⟩ : ∃ (b : Fin 2) (t : Fin 512) (h : Fin 8) (d : Fin 128), i = ix4 b t h d :=
    ⟨i 0, i 1, i 2, i 3, ValueIdx.eq_ix4 i⟩
  pointwise [splitPrompt]
  refine congrArg z (index_eq _ _ ?_ ?_)
  · rfl
  · show 5120 + h.val * 128 + d.val = 5120 + (h.val * 128 + d.val); omega

theorem choice10 : shapeCast S128x4x8x128 (extractStridedSlice S128x4x1x1x8x128 ![0, 0, 1, 2, 0, 0]
      (splitSample z) slices_S128x4x3x3x8x128_S128x4x1x1x8x128_0_0_1_2_0_0)
      shapeCasts_S128x4x1x1x8x128_S128x4x8x128 = sampleRows 5 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 5120 + h.val * 128 + d.val = 5120 + (h.val * 128 + d.val); omega

set_option maxHeartbeats 4000000 in
theorem out4_eq : Value.res_out4 m' c = shapeCast S2x512x8x128 (extractStridedSlice S2x512x1x1x8x128 ![0, 3584, 1, 2, 0, 0]
      (splitPrompt (proj m' c)) slices_S2x4096x3x3x8x128_S2x512x1x1x8x128_0_3584_1_2_0_0)
      shapeCasts_S2x512x1x1x8x128_S2x512x8x128 := rfl

theorem rows4_eq : Value.res_out4 m' c = last512 5 (proj m' c) :=
  Eq.trans (out4_eq m' c) (choice4 (proj m' c))

set_option maxHeartbeats 4000000 in
theorem out10_eq : Value.res_out10 m' c = shapeCast S128x4x8x128 (extractStridedSlice S128x4x1x1x8x128 ![0, 0, 1, 2, 0, 0]
      (splitSample (proj m' c)) slices_S128x4x3x3x8x128_S128x4x1x1x8x128_0_0_1_2_0_0)
      shapeCasts_S128x4x1x1x8x128_S128x4x8x128 := rfl

theorem rows10_eq : Value.res_out10 m' c = sampleRows 5 (proj m' c) :=
  Eq.trans (out10_eq m' c) (choice10 (proj m' c))

theorem choice5 : shapeCast S2x2048x8x128 (extractStridedSlice S2x2048x1x1x8x128 ![0, 2048, 2, 1, 0, 0]
      (splitPrompt z) slices_S2x4096x3x3x8x128_S2x2048x1x1x8x128_0_2048_2_1_0_0)
      shapeCasts_S2x2048x1x1x8x128_S2x2048x8x128 = last2048 7 z := by
  funext i
  obtain ⟨b, t, h, d, rfl⟩ : ∃ (b : Fin 2) (t : Fin 2048) (h : Fin 8) (d : Fin 128), i = ix4 b t h d :=
    ⟨i 0, i 1, i 2, i 3, ValueIdx.eq_ix4 i⟩
  pointwise [splitPrompt]
  refine congrArg z (index_eq _ _ ?_ ?_)
  · rfl
  · show 7168 + h.val * 128 + d.val = 7168 + (h.val * 128 + d.val); omega

theorem choice11 : shapeCast S128x4x8x128 (extractStridedSlice S128x4x1x1x8x128 ![0, 0, 2, 1, 0, 0]
      (splitSample z) slices_S128x4x3x3x8x128_S128x4x1x1x8x128_0_0_2_1_0_0)
      shapeCasts_S128x4x1x1x8x128_S128x4x8x128 = sampleRows 7 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 7168 + h.val * 128 + d.val = 7168 + (h.val * 128 + d.val); omega

set_option maxHeartbeats 4000000 in
theorem out5_eq : Value.res_out5 m' c = shapeCast S2x2048x8x128 (extractStridedSlice S2x2048x1x1x8x128 ![0, 2048, 2, 1, 0, 0]
      (splitPrompt (proj m' c)) slices_S2x4096x3x3x8x128_S2x2048x1x1x8x128_0_2048_2_1_0_0)
      shapeCasts_S2x2048x1x1x8x128_S2x2048x8x128 := rfl

theorem rows5_eq : Value.res_out5 m' c = last2048 7 (proj m' c) :=
  Eq.trans (out5_eq m' c) (choice5 (proj m' c))

set_option maxHeartbeats 4000000 in
theorem out11_eq : Value.res_out11 m' c = shapeCast S128x4x8x128 (extractStridedSlice S128x4x1x1x8x128 ![0, 0, 2, 1, 0, 0]
      (splitSample (proj m' c)) slices_S128x4x3x3x8x128_S128x4x1x1x8x128_0_0_2_1_0_0)
      shapeCasts_S128x4x1x1x8x128_S128x4x8x128 := rfl

theorem rows11_eq : Value.res_out11 m' c = sampleRows 7 (proj m' c) :=
  Eq.trans (out11_eq m' c) (choice11 (proj m' c))

theorem choice6 : shapeCast S2x2048x8x128 (extractStridedSlice S2x2048x1x1x8x128 ![0, 2048, 2, 2, 0, 0]
      (splitPrompt z) slices_S2x4096x3x3x8x128_S2x2048x1x1x8x128_0_2048_2_2_0_0)
      shapeCasts_S2x2048x1x1x8x128_S2x2048x8x128 = last2048 8 z := by
  funext i
  obtain ⟨b, t, h, d, rfl⟩ : ∃ (b : Fin 2) (t : Fin 2048) (h : Fin 8) (d : Fin 128), i = ix4 b t h d :=
    ⟨i 0, i 1, i 2, i 3, ValueIdx.eq_ix4 i⟩
  pointwise [splitPrompt]
  refine congrArg z (index_eq _ _ ?_ ?_)
  · rfl
  · show 8192 + h.val * 128 + d.val = 8192 + (h.val * 128 + d.val); omega

theorem choice12 : shapeCast S128x4x8x128 (extractStridedSlice S128x4x1x1x8x128 ![0, 0, 2, 2, 0, 0]
      (splitSample z) slices_S128x4x3x3x8x128_S128x4x1x1x8x128_0_0_2_2_0_0)
      shapeCasts_S128x4x1x1x8x128_S128x4x8x128 = sampleRows 8 z := by
  funext i
  obtain ⟨b, t, h, d, rfl⟩ : ∃ (b : Fin 128) (t : Fin 4) (h : Fin 8) (d : Fin 128), i = ix4 b t h d :=
    ⟨i 0, i 1, i 2, i 3, ValueIdx.eq_ix4 i⟩
  pointwise [splitSample]
  refine congrArg z (index_eq _ _ ?_ ?_)
  · rfl
  · show 8192 + h.val * 128 + d.val = 8192 + (h.val * 128 + d.val); omega

set_option maxHeartbeats 4000000 in
theorem out6_eq : Value.res_out6 m' c = shapeCast S2x2048x8x128 (extractStridedSlice S2x2048x1x1x8x128 ![0, 2048, 2, 2, 0, 0]
      (splitPrompt (proj m' c)) slices_S2x4096x3x3x8x128_S2x2048x1x1x8x128_0_2048_2_2_0_0)
      shapeCasts_S2x2048x1x1x8x128_S2x2048x8x128 := rfl

theorem rows6_eq : Value.res_out6 m' c = last2048 8 (proj m' c) :=
  Eq.trans (out6_eq m' c) (choice6 (proj m' c))

set_option maxHeartbeats 4000000 in
theorem out12_eq : Value.res_out12 m' c = shapeCast S128x4x8x128 (extractStridedSlice S128x4x1x1x8x128 ![0, 0, 2, 2, 0, 0]
      (splitSample (proj m' c)) slices_S128x4x3x3x8x128_S128x4x1x1x8x128_0_0_2_2_0_0)
      shapeCasts_S128x4x1x1x8x128_S128x4x8x128 := rfl

theorem rows12_eq : Value.res_out12 m' c = sampleRows 8 (proj m' c) :=
  Eq.trans (out12_eq m' c) (choice12 (proj m' c))

end Cert.Attn.Ref

end
-- ==== Proof.Attn.Claims.lean ====
/-
  The claims about the attention projection: the frame of the reference, and that kernel and reference compute the same arrays.
-/
module

public import proofs.«01_k».proof.Defs
public import proofs.«01_k».proof.Proof.Attn.Run
public import proofs.«01_k».proof.Proof.Attn.RowsRef
public import proofs.«01_k».proof.Proof.Gen.KernelIdeal
public import Idealize.ShloMosaic.Lib.Quiescent

@[expose] public section

set_option maxRecDepth 16384

noncomputable section

namespace Cert.Attn

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2.2.2.2.2.2.2.2.2.2.2.2.2, sem_eq_zero_of_no_sems (by decide) r.2⟩)
    (Cert.ReferenceIdeal.Value.run (F := Ideal) m ρ)

/-- The reference's array is the kernel's, of the same two arrays. -/
theorem whole_eq (m : (ℓ : Loc Cert.KernelIdeal.nD Cert.KernelIdeal.τ Cert.KernelIdeal.sig) → Buf (Elt Ideal) ℓ)
    (c : Dev Cert.KernelIdeal.nD) : Ref.whole (hArg m c) (wArg m c) = zOut m c := by
  funext i
  obtain ⟨r, j, rfl⟩ : ∃ (r : Fin 8704) (j : Fin 9216), i = ix2 r j := ⟨i 0, i 1, ValueIdx.eq_ix2 i⟩
  exact Ref.whole_apply (hArg m c) (wArg m c) r j

theorem projection_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Ref.proj m' c = zOut m c := by
  unfold Ref.proj
  rw [h0, h1]
  exact whole_eq m c

set_option maxHeartbeats 4000000 in
theorem algebraic : Cert.algebraic_KernelIdeal_ReferenceIdeal := by
  intro m ρ m' ρ' _ hagree
  refine ⟨zOut m, fun c => last128 1 (zOut m c), fun c => last128 2 (zOut m c), fun c => last512 4 (zOut m c), fun c => last512 5 (zOut m c), fun c => last2048 7 (zOut m c), fun c => last2048 8 (zOut m c), fun c => sampleRows 1 (zOut m c), fun c => sampleRows 2 (zOut m c), fun c => sampleRows 4 (zOut m c), fun c => sampleRows 5 (zOut m c), fun c => sampleRows 7 (zOut m c), fun c => sampleRows 8 (zOut m c), run_z m ρ, ?_⟩
  refine (θ_run Cert.ReferenceIdeal.defs _ _).mono (fun _ h c => ?_) (Cert.ReferenceIdeal.Value.run (F := Ideal) m' ρ')
  have hz := projection_eq m m' c (hagree c).1 (hagree c).2.1
  obtain ⟨h0, h1, h2, h3, h4, h5, h6, h7, h8, h9, h10, h11, h12, hargs⟩ := h c
  exact ⟨h0.trans ((Ref.result_eq m' c).trans hz), h1.trans ((Ref.rows1_eq m' c).trans (congrArg (last128 1) hz)), h2.trans ((Ref.rows2_eq m' c).trans (congrArg (last128 2) hz)), h3.trans ((Ref.rows3_eq m' c).trans (congrArg (last512 4) hz)), h4.trans ((Ref.rows4_eq m' c).trans (congrArg (last512 5) hz)), h5.trans ((Ref.rows5_eq m' c).trans (congrArg (last2048 7) hz)), h6.trans ((Ref.rows6_eq m' c).trans (congrArg (last2048 8) hz)), h7.trans ((Ref.rows7_eq m' c).trans (congrArg (sampleRows 1) hz)), h8.trans ((Ref.rows8_eq m' c).trans (congrArg (sampleRows 2) hz)), h9.trans ((Ref.rows9_eq m' c).trans (congrArg (sampleRows 4) hz)), h10.trans ((Ref.rows10_eq m' c).trans (congrArg (sampleRows 5) hz)), h11.trans ((Ref.rows11_eq m' c).trans (congrArg (sampleRows 7) hz)), h12.trans ((Ref.rows12_eq m' c).trans (congrArg (sampleRows 8) hz)), hargs⟩

end Cert.Attn

end
-- ==== Proof.lean ====
/- The claims, assembled from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Narrow.Claims
public import proofs.«01_k».proof.Proof.Down.Claims
public import proofs.«01_k».proof.Proof.Up.Claims
public import proofs.«01_k».proof.Proof.Mem.Claims
public import proofs.«01_k».proof.Proof.Norm.Prompt
public import proofs.«01_k».proof.Proof.Norm.Sample
public import proofs.«01_k».proof.Proof.Norm.Memory
public import proofs.«01_k».proof.Proof.Norm.Mlp
public import proofs.«01_k».proof.Proof.Norm.Mixer
public import proofs.«01_k».proof.Proof.Attn.Frames
public import proofs.«01_k».proof.Proof.Attn.Claims
public import Idealize.ShloMosaic.Adequacy
public import Idealize.ShloMosaic.Init

@[expose] public section

noncomputable section

namespace Cert.Proof

open Idealize.ShloMosaic Idealize.SL.Sem Cert.Kernel2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Attn.frame_kernel, Cert.Attn.frame_kernel_ideal, Cert.Attn.frame_reference,
  Cert.Narrow.frame_kernel, Cert.Narrow.frame_kernel_ideal, Cert.Narrow.frame_reference,
  Cert.Down.frame_kernel, Cert.Down.frame_kernel_ideal, Cert.Down.frame_reference,
  Cert.Up.frame_kernel, Cert.Up.frame_kernel_ideal, Cert.Up.frame_reference,
  Cert.Mem.frame_kernel, Cert.Mem.frame_kernel_ideal, Cert.Mem.frame_reference,
  Cert.NormPrompt.frame_kernel, Cert.NormPrompt.frame_kernel_ideal, Cert.NormPrompt.frame_reference,
  Cert.NormSample.frame_kernel, Cert.NormSample.frame_kernel_ideal, Cert.NormSample.frame_reference,
  Cert.NormMemory.frame_kernel, Cert.NormMemory.frame_kernel_ideal, Cert.NormMemory.frame_reference,
  Cert.NormMlp.frame_kernel, Cert.NormMlp.frame_kernel_ideal, Cert.NormMlp.frame_reference,
  Cert.NormMixer.frame_kernel, Cert.NormMixer.frame_kernel_ideal, Cert.NormMixer.frame_reference,
  trivial, Cert.Attn.algebraic, trivial, Cert.Narrow.algebraic,
  trivial, Cert.Down.algebraic, trivial, Cert.Up.algebraic,
  trivial, Cert.Mem.algebraic, trivial, Cert.NormPrompt.algebraic, trivial, Cert.NormSample.algebraic,
  trivial, Cert.NormMemory.algebraic, trivial, Cert.NormMlp.algebraic,
  trivial, Cert.NormMixer.algebraic⟩

end Cert.Proof

end
